-- ==== Defs.lean ====
def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite [hPre_finite : Cert.Pre_finite.Facts] (m : (ℓ : Loc Cert.AttIdeal.nD Cert.AttIdeal.τ Cert.AttIdeal.sig) → Buf (Elt Ideal) ℓ) : Prop :=
  ∀ c : Dev Cert.AttIdeal.nD,
    (Cert.Pre_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1))) = (fun _ => 1#1)

def Pre_AttReferenceIdeal (m : (ℓ : Loc Cert.AttReferenceIdeal.nD Cert.AttReferenceIdeal.τ Cert.AttReferenceIdeal.sig) → Buf (Elt Ideal) ℓ) : Prop :=
  True

def Pre_AttReferenceIdeal_finite [hPre_finite : Cert.Pre_finite.Facts] (m : (ℓ : Loc Cert.AttReferenceIdeal.nD Cert.AttReferenceIdeal.τ Cert.AttReferenceIdeal.sig) → Buf (Elt Ideal) ℓ) : Prop :=
  ∀ c : Dev Cert.AttReferenceIdeal.nD,
    (Cert.Pre_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttIdeal_pre_finite [hAttIdeal : Cert.AttIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1))
      ∧ r.2.sem = fun _ => 0)

def quiescent_AttReferenceIdeal_pre_finite [hAttReferenceIdeal : Cert.AttReferenceIdeal.Facts] [hPre_finite : Cert.Pre_finite.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal_finite m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3))
      ∧ r.2.sem = fun _ => 0)

def preserves_Att_AttIdeal : Prop :=
  IdealRules.named_const.Statement Cert.AttIdeal.κ "mask" .f32 0xF149F2CA#32 ⊥
  ∧ IdealRules.named_const.Statement Cert.AttIdeal.κ "log2_e" .f32 0x3FB8AA3B#32 (((Real.log 2)⁻¹ : ℝ) : EReal)
  ∧ IdealRules.named_const.Statement Cert.AttIdeal.κ "scale_log2_e" .f32 0x3E0293EE#32 (((Real.sqrt 128)⁻¹ * (Real.log 2)⁻¹ : ℝ) : EReal)
  ∧ IdealRules.named_const.Statement Cert.AttIdeal.κ "minus_log2_e" .f32 0xBFB8AA3B#32 ((-((Real.log 2)⁻¹) : ℝ) : EReal)

def algebraic_AttIdeal_AttReferenceIdeal_pre_finite [hAttIdeal : Cert.AttIdeal.Facts] [hAttReferenceIdeal : Cert.AttReferenceIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttIdeal_finite m →
    (∀ c : Dev Cert.AttIdeal.nD,
      m' ((c.tc : Thread Cert.AttReferenceIdeal.nD Cert.AttReferenceIdeal.τ).loc Cert.AttReferenceIdeal.main_arg0) = m ((c.tc : Thread Cert.AttIdeal.nD Cert.AttIdeal.τ).loc Cert.AttIdeal.main_arg0)
      ∧ m' ((c.tc : Thread Cert.AttReferenceIdeal.nD Cert.AttReferenceIdeal.τ).loc Cert.AttReferenceIdeal.main_arg1) = m ((c.tc : Thread Cert.AttIdeal.nD Cert.AttIdeal.τ).loc Cert.AttIdeal.main_arg1)) →
    ∃ (v0 : (c : Dev Cert.AttIdeal.nD) → Buf (Elt Ideal) ((c.tc : Thread Cert.AttIdeal.nD Cert.AttIdeal.τ).loc Cert.AttIdeal.main_v26)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v26) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v151) = v0 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0)
          ∧ r.2.mem ((c.tc : Thread Cert.AttReferenceIdeal.nD Cert.AttReferenceIdeal.τ).loc Cert.AttReferenceIdeal.main_arg1) = m' ((c.tc : Thread Cert.AttReferenceIdeal.nD Cert.AttReferenceIdeal.τ).loc Cert.AttReferenceIdeal.main_arg1))

def preserves_InProj_InProjIdeal : Prop :=
  True

def algebraic_InProjIdeal_InReferenceIdeal [hInProjIdeal : Cert.InProjIdeal.Facts] [hInReferenceIdeal : Cert.InReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InProjIdeal m →
    (∀ c : Dev Cert.InProjIdeal.nD,
      m' ((c.tc : Thread Cert.InReferenceIdeal.nD Cert.InReferenceIdeal.τ).loc Cert.InReferenceIdeal.main_arg0) = m ((c.tc : Thread Cert.InProjIdeal.nD Cert.InProjIdeal.τ).loc Cert.InProjIdeal.main_arg0)
      ∧ m' ((c.tc : Thread Cert.InReferenceIdeal.nD Cert.InReferenceIdeal.τ).loc Cert.InReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v7) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_OutProj_OutProjIdeal : Prop :=
  True

def algebraic_OutProjIdeal_OutReferenceIdeal [hOutProjIdeal : Cert.OutProjIdeal.Facts] [hOutReferenceIdeal : Cert.OutReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutProjIdeal m →
    (∀ c : Dev Cert.OutProjIdeal.nD,
      m' ((c.tc : Thread Cert.OutReferenceIdeal.nD Cert.OutReferenceIdeal.τ).loc Cert.OutReferenceIdeal.main_arg0) = m ((c.tc : Thread Cert.OutProjIdeal.nD Cert.OutProjIdeal.τ).loc Cert.OutProjIdeal.main_arg0)
      ∧ m' ((c.tc : Thread Cert.OutReferenceIdeal.nD Cert.OutReferenceIdeal.τ).loc Cert.OutReferenceIdeal.main_arg1) = m ((c.tc : Thread Cert.OutProjIdeal.nD Cert.OutProjIdeal.τ).loc Cert.OutProjIdeal.main_arg1)
      ∧ m' ((c.tc : Thread Cert.OutReferenceIdeal.nD Cert.OutReferenceIdeal.τ).loc Cert.OutReferenceIdeal.main_arg2) = m ((c.tc : Thread Cert.OutProjIdeal.nD Cert.OutProjIdeal.τ).loc Cert.OutProjIdeal.main_arg2)
      ∧ m' ((c.tc : Thread Cert.OutReferenceIdeal.nD Cert.OutReferenceIdeal.τ).loc Cert.OutReferenceIdeal.main_arg3) = m ((c.tc : Thread Cert.OutProjIdeal.nD Cert.OutProjIdeal.τ).loc Cert.OutProjIdeal.main_arg3)
      ∧ m' ((c.tc : Thread Cert.OutReferenceIdeal.nD Cert.OutReferenceIdeal.τ).loc Cert.OutReferenceIdeal.main_arg4) = m ((c.tc : Thread Cert.OutProjIdeal.nD Cert.OutProjIdeal.τ).loc Cert.OutProjIdeal.main_arg4)
      ∧ m' ((c.tc : Thread Cert.OutReferenceIdeal.nD Cert.OutReferenceIdeal.τ).loc Cert.OutReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v23) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v13) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def preserves_Ada_AdaIdeal : Prop :=
  IdealRules.named_const.Statement Cert.AdaIdeal.κ "minus_log2_e" .f32 0xBFB8AA3B#32 ((-((Real.log 2)⁻¹) : ℝ) : EReal)

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v5) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v53) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Conv_ConvIdeal : Prop :=
  IdealRules.named_const.Statement Cert.ConvIdeal.κ "minus_log2_e" .f32 0xBFB8AA3B#32 ((-((Real.log 2)⁻¹) : ℝ) : EReal)

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v8)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v8) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v527) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)) →
    ∃ (v0 : (c : Dev Cert.FirstIdeal.nD) → Buf (Elt Ideal) ((c.tc : Thread Cert.FirstIdeal.nD Cert.FirstIdeal.τ).loc Cert.FirstIdeal.main_v2_0)) (v1 : (c : Dev Cert.FirstIdeal.nD) → Buf (Elt Ideal) ((c.tc : Thread Cert.FirstIdeal.nD Cert.FirstIdeal.τ).loc Cert.FirstIdeal.main_v2_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v2_0) = v0 c
          ∧ r.2.mem ((c.tc : Thread Cert.FirstIdeal.nD Cert.FirstIdeal.τ).loc Cert.FirstIdeal.main_v2_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v51) = v0 c
          ∧ r.2.mem ((c.tc : Thread Cert.FirstReferenceIdeal.nD Cert.FirstReferenceIdeal.τ).loc Cert.FirstReferenceIdeal.main_v52) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3))

def Claim : Prop :=
  ∃ (hAtt : Cert.Att.Facts) (hAttIdeal : Cert.AttIdeal.Facts) (hAttReferenceIdeal : Cert.AttReferenceIdeal.Facts) (hInProj : Cert.InProj.Facts) (hInProjIdeal : Cert.InProjIdeal.Facts) (hInReferenceIdeal : Cert.InReferenceIdeal.Facts) (hOutProj : Cert.OutProj.Facts) (hOutProjIdeal : Cert.OutProjIdeal.Facts) (hOutReferenceIdeal : Cert.OutReferenceIdeal.Facts) (hFinal : Cert.Final.Facts) (hFinalIdeal : Cert.FinalIdeal.Facts) (hFinalReferenceIdeal : Cert.FinalReferenceIdeal.Facts) (hAda : Cert.Ada.Facts) (hAdaIdeal : Cert.AdaIdeal.Facts) (hAdaReferenceIdeal : Cert.AdaReferenceIdeal.Facts) (hNorm : Cert.Norm.Facts) (hNormIdeal : Cert.NormIdeal.Facts) (hNormReferenceIdeal : Cert.NormReferenceIdeal.Facts) (hConv : Cert.Conv.Facts) (hConvIdeal : Cert.ConvIdeal.Facts) (hConvReferenceIdeal : Cert.ConvReferenceIdeal.Facts) (hFirst : Cert.First.Facts) (hFirstIdeal : Cert.FirstIdeal.Facts) (hFirstReferenceIdeal : Cert.FirstReferenceIdeal.Facts) (hPre_finite : Cert.Pre_finite.Facts),
    quiescent_Att (hAtt := hAtt)
    ∧ quiescent_AttIdeal (hAttIdeal := hAttIdeal)
    ∧ quiescent_AttIdeal_pre_finite (hAttIdeal := hAttIdeal) (hPre_finite := hPre_finite)
    ∧ quiescent_AttReferenceIdeal (hAttReferenceIdeal := hAttReferenceIdeal)
    ∧ quiescent_AttReferenceIdeal_pre_finite (hAttReferenceIdeal := hAttReferenceIdeal) (hPre_finite := hPre_finite)
    ∧ quiescent_InProj (hInProj := hInProj)
    ∧ quiescent_InProjIdeal (hInProjIdeal := hInProjIdeal)
    ∧ quiescent_InReferenceIdeal (hInReferenceIdeal := hInReferenceIdeal)
    ∧ quiescent_OutProj (hOutProj := hOutProj)
    ∧ quiescent_OutProjIdeal (hOutProjIdeal := hOutProjIdeal)
    ∧ quiescent_OutReferenceIdeal (hOutReferenceIdeal := hOutReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_First (hFirst := hFirst)
    ∧ quiescent_FirstIdeal (hFirstIdeal := hFirstIdeal)
    ∧ quiescent_FirstReferenceIdeal (hFirstReferenceIdeal := hFirstReferenceIdeal)
    ∧ preserves_Att_AttIdeal
    ∧ algebraic_AttIdeal_AttReferenceIdeal_pre_finite (hAttIdeal := hAttIdeal) (hAttReferenceIdeal := hAttReferenceIdeal) (hPre_finite := hPre_finite)
    ∧ preserves_InProj_InProjIdeal
    ∧ algebraic_InProjIdeal_InReferenceIdeal (hInProjIdeal := hInProjIdeal) (hInReferenceIdeal := hInReferenceIdeal)
    ∧ preserves_OutProj_OutProjIdeal
    ∧ algebraic_OutProjIdeal_OutReferenceIdeal (hOutProjIdeal := hOutProjIdeal) (hOutReferenceIdeal := hOutReferenceIdeal)
    ∧ preserves_Final_FinalIdeal
    ∧ algebraic_FinalIdeal_FinalReferenceIdeal (hFinalIdeal := hFinalIdeal) (hFinalReferenceIdeal := hFinalReferenceIdeal)
    ∧ preserves_Ada_AdaIdeal
    ∧ algebraic_AdaIdeal_AdaReferenceIdeal (hAdaIdeal := hAdaIdeal) (hAdaReferenceIdeal := hAdaReferenceIdeal)
    ∧ preserves_Norm_NormIdeal
    ∧ algebraic_NormIdeal_NormReferenceIdeal (hNormIdeal := hNormIdeal) (hNormReferenceIdeal := hNormReferenceIdeal)
    ∧ preserves_Conv_ConvIdeal
    ∧ algebraic_ConvIdeal_ConvReferenceIdeal (hConvIdeal := hConvIdeal) (hConvReferenceIdeal := hConvReferenceIdeal)
    ∧ preserves_First_FirstIdeal
    ∧ algebraic_FirstIdeal_FirstReferenceIdeal (hFirstIdeal := hFirstIdeal) (hFirstReferenceIdeal := hFirstReferenceIdeal)
-- ==== Pre_finite.lean ====
abbrev S16640x13312 : Shape := ⟨2, ![16640, 13312]⟩
abbrev S16x15x31 : Shape := ⟨3, ![16, 15, 31]⟩
abbrev S16640x4096 : Shape := ⟨2, ![16640, 4096]⟩
abbrev S_ : Shape := ⟨0, ![]⟩

class Facts : Prop where
  slices_S16640x13312_S16640x4096_0_0 : S16640x13312.Slices ![0, 0] S16640x4096
  bitsLt_bf16_f32 : FTy.bits .bf16 < FTy.bits .f32
  bcast_S_S16640x4096 : S_.BroadcastsInDim S16640x4096 (![] : Fin 0 → Fin S16640x4096.rank)
  reducesTo_S16640x4096_S_d0_1 : S16640x4096.ReducesTo [0, 1] S_
  h_S_ : 0 < S_.numel
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S16640x13312 .bf16) (main_arg1 : FVec F S16x15x31 .f32) : IVec S_ 1 :=
  let main_v0 : FVec F S16640x4096 .bf16 := (extractStridedSlice S16640x4096 ![0, 0] · slices_S16640x13312_S16640x4096_0_0) main_arg0
  let main_v1 : FVec F S16640x4096 .f32 := (extf .f32 · bitsLt_bf16_f32) main_v0
  let main_v2 : FVec F S16640x4096 .f32 := Host.absf main_v1
  let main_cst : FVec F S_ .f32 := constant S_ .f32 0x7F800000#32
  let main_v3 : FVec F S16640x4096 .f32 := broadcastInDim S16640x4096 ![] bcast_S_S16640x4096 main_cst
  let main_v4 : IVec S16640x4096 1 := cmpf .olt main_v2 main_v3
  let main_c : IVec S_ 1 := constantI S_ 1 1#1
  let main_v5 : IVec S_ 1 := (fun x v => Host.reduce IntOp.andi x v reducesTo_S16640x4096_S_d0_1 h_S_) main_v4 main_c
  let main_cst_0 : FVec F S_ .f32 := constant S_ .f32 0x7F800000#32
  let main_v6 : FVec F S16x15x31 .f32 := broadcastInDim S16x15x31 ![] bcast_S_S16x15x31 main_cst_0
  let main_v7 : IVec S16x15x31 1 := cmpf .olt main_arg1 main_v6
  let main_c_1 : IVec S_ 1 := constantI S_ 1 1#1
  let main_v8 : IVec S_ 1 := (fun x v => Host.reduce IntOp.andi x v reducesTo_S16x15x31_S_d0_1_2 h_S_) main_v7 main_c_1
  let main_v9 : IVec S_ 1 := andi main_v5 main_v8
  main_v9
-- ==== Att.lean ====
abbrev S16640x13312 : Shape := ⟨2, ![16640, 13312]⟩
abbrev S16x15x31 : Shape := ⟨3, ![16, 15, 31]⟩
abbrev S16640x8192 : Shape := ⟨2, ![16640, 8192]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S64x128 : Shape := ⟨2, ![64, 128]⟩
abbrev S16x15x16 : Shape := ⟨3, ![16, 15, 16]⟩
abbrev S16x15x97 : Shape := ⟨3, ![16, 15, 97]⟩
abbrev S16x15x15 : Shape := ⟨3, ![16, 15, 15]⟩
abbrev S16x15x128 : Shape := ⟨3, ![16, 15, 128]⟩
abbrev S16x16x128 : Shape := ⟨3, ![16, 16, 128]⟩
abbrev S4x16x256x768 : Shape := ⟨4, ![4, 16, 256, 768]⟩
abbrev S1x16x128 : Shape := ⟨3, ![1, 16, 128]⟩
abbrev S4x1x256x768 : Shape := ⟨4, ![4, 1, 256, 768]⟩
abbrev S1x1x128 : Shape := ⟨3, ![1, 1, 128]⟩
abbrev S1x128 : Shape := ⟨2, ![1, 128]⟩
abbrev S1x1x64x128 : Shape := ⟨4, ![1, 1, 64, 128]⟩
abbrev S16640x2048 : Shape := ⟨2, ![16640, 2048]⟩
abbrev S256x2048 : Shape := ⟨2, ![256, 2048]⟩
abbrev S1x16x256x768 : Shape := ⟨4, ![1, 16, 256, 768]⟩
abbrev S768x128 : Shape := ⟨2, ![768, 128]⟩
abbrev S256x128 : Shape := ⟨2, ![256, 128]⟩
abbrev S256x768 : Shape := ⟨2, ![256, 768]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩
abbrev S768x256 : Shape := ⟨2, ![768, 256]⟩

abbrev nBuf : Space → Nat
  | .hbm => 45
  | .vmem => 27
  | .smem => 0
  | _ => 0

abbrev bufTy : (tb : Table) → Fin (tcTables nBuf tb) → BufTy
  | .hbm, ⟨0, _⟩ => ⟨S16640x13312, .bf16⟩
  | .hbm, ⟨1, _⟩ => ⟨S16x15x31, .f32⟩
  | .hbm, ⟨2, _⟩ => ⟨S16640x8192, .bf16⟩
  | .hbm, ⟨3, _⟩ => ⟨S64, .i32⟩
  | .hbm, ⟨4, _⟩ => ⟨S64x1, .i32⟩
  | .hbm, ⟨5, _⟩ => ⟨S64, .i32⟩
  | .hbm, ⟨6, _⟩ => ⟨S1x64, .i32⟩
  | .hbm, ⟨7, _⟩ => ⟨S_, .i32⟩
  | .hbm, ⟨8, _⟩ => ⟨S64x1, .i32⟩
  | .hbm, ⟨9, _⟩ => ⟨S64x1, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64x1, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .i1⟩
  | .hbm, ⟨28, _⟩ => ⟨S_, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x128, .f32⟩
  | .hbm, ⟨35, _⟩ => ⟨S16x15x16, .f32⟩
  | .hbm, ⟨36, _⟩ => ⟨S_, .f32⟩
  | .hbm, ⟨37, _⟩ => ⟨S16x15x97, .f32⟩
  | .hbm, ⟨38, _⟩ => ⟨S16x15x15, .f32⟩
  | .hbm, ⟨39, _⟩ => ⟨S16x15x128, .f32⟩
  | .hbm, ⟨40, _⟩ => ⟨S_, .i32⟩
  | .hbm, ⟨41, _⟩ => ⟨S_, .f32⟩
  | .hbm, ⟨42, _⟩ => ⟨S16x16x128, .f32⟩
  | .hbm, ⟨43, _⟩ => ⟨S4x16x256x768, .f32⟩
  | .hbm, ⟨44, _⟩ => ⟨S16640x2048, .bf16⟩
  | .local _ .vmem, ⟨0, _⟩ => ⟨S1x16x128, .f32⟩
  | .local _ .vmem, ⟨1, _⟩ => ⟨S1x16x128, .f32⟩
  | .local _ .vmem, ⟨2, _⟩ => ⟨S64x128, .f32⟩
  | .local _ .vmem, ⟨3, _⟩ => ⟨S4x1x256x768, .f32⟩
  | .local _ .vmem, ⟨4, _⟩ => ⟨S4x1x256x768, .f32⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S1x16x256x768, .f32⟩
  | .local _ .vmem, ⟨24, _⟩ => ⟨S1x16x256x768, .f32⟩
  | .local _ .vmem, ⟨25, _⟩ => ⟨S256x2048, .bf16⟩
  | .local _ .vmem, ⟨26, _⟩ => ⟨S256x2048, .bf16⟩
  | _, _ => ⟨S16640x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc1_stg11_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem8_0 : DmaSem sig := 20
abbrev cc1_sem9_0 : DmaSem sig := 21
abbrev cc1_sem9_1 : DmaSem sig := 22
abbrev cc1_sem10_0 : DmaSem sig := 23
abbrev cc1_sem10_1 : DmaSem sig := 24
abbrev cc1_sem11_0 : DmaSem sig := 25
abbrev cc1_sem11_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 65], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c1_i32_0 : BitVec 32 := 1#32
  let c64_i32 : BitVec 32 := 64#32
  let v1 : BitVec 32 := Scalar.maxsi c1_i32_0 v0
  let v2 : BitVec 32 := Scalar.minsi c64_i32 v1
  let c1_i32_1 : BitVec 32 := 1#32
  let v3 : BitVec 32 := Scalar.addi c1_i32_1 arg0
  let c0_i32 : BitVec 32 := 0#32
  ![v2.toNat, v3.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let c64_i32 : BitVec 32 := 64#32
  let v0 : BitVec 32 := Scalar.maxsi c1_i32 arg1
  let v1 : BitVec 32 := Scalar.minsi c64_i32 v0
  let c1_i32_0 : BitVec 32 := 1#32
  let v2 : BitVec 32 := Scalar.addi c1_i32_0 arg0
  let c0_i32 : BitVec 32 := 0#32
  ![v1.toNat, v2.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let c64_i32 : BitVec 32 := 64#32
  let v1 : BitVec 32 := Scalar.maxsi c1_i32_0 v0
  let v2 : BitVec 32 := Scalar.minsi c64_i32 v1
  let c1_i32_1 : BitVec 32 := 1#32
  let v3 : BitVec 32 := Scalar.addi c1_i32_1 arg0
  let c0_i32 : BitVec 32 := 0#32
  ![v2.toNat, v3.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c1_i32_0 : BitVec 32 := 1#32
  let c64_i32 : BitVec 32 := 64#32
  let v1 : BitVec 32 := Scalar.maxsi c1_i32_0 v0
  let v2 : BitVec 32 := Scalar.minsi c64_i32 v1
  let c2_i32 : BitVec 32 := 2#32
  let v3 : BitVec 32 := Scalar.addi c2_i32 arg0
  let c0_i32 : BitVec 32 := 0#32
  ![v2.toNat, v3.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let c64_i32 : BitVec 32 := 64#32
  let v0 : BitVec 32 := Scalar.maxsi c1_i32 arg1
  let v1 : BitVec 32 := Scalar.minsi c64_i32 v0
  let c2_i32 : BitVec 32 := 2#32
  let v2 : BitVec 32 := Scalar.addi c2_i32 arg0
  let c0_i32 : BitVec 32 := 0#32
  ![v1.toNat, v2.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let c64_i32 : BitVec 32 := 64#32
  let v1 : BitVec 32 := Scalar.maxsi c1_i32_0 v0
  let v2 : BitVec 32 := Scalar.minsi c64_i32 v1
  let c2_i32 : BitVec 32 := 2#32
  let v3 : BitVec 32 := Scalar.addi c2_i32 arg0
  let c0_i32 : BitVec 32 := 0#32
  ![v2.toNat, v3.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc1_transform_9 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .eq arg1 c1_i32
  let c64_i32 : BitVec 32 := 64#32
  let v2 : BitVec 1 := Scalar.cmpi .eq arg1 c64_i32
  let c2_i32 : BitVec 32 := 2#32
  let c1_i32_0 : BitVec 32 := 1#32
  let v3 : BitVec 32 := Scalar.select v2 c2_i32 c1_i32_0
  let c0_i32_1 : BitVec 32 := 0#32
  let v4 : BitVec 32 := Scalar.select v1 c0_i32_1 v3
  let c3_i32 : BitVec 32 := 3#32
  let v5 : BitVec 32 := Scalar.select v0 c3_i32 v4
  let c0_i32_2 : BitVec 32 := 0#32
  let c0_i32_3 : BitVec 32 := 0#32
  let c0_i32_4 : BitVec 32 := 0#32
  ![v5.toNat, arg0.toNat, c0_i32_2.toNat, c0_i32_3.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S256x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, false]

abbrev stage1_8 : Fin 1 → Memref sig .tc .vmem S256x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, false]

abbrev stage1_9 : Fin 2 → Memref sig .tc .vmem S256x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x16x256x768 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]
-- ==== AttIdeal.lean ====
variable {F : FTy → Type} [FloatOps F] [Named F]
def κ : String → Option EReal := fun
  | "log2_e" => some (((Real.log 2)⁻¹ : ℝ) : EReal)
  | "mask" => some ⊥
  | "minus_log2_e" => some ((-((Real.log 2)⁻¹) : ℝ) : EReal)
  | "scale_log2_e" => some (((Real.sqrt 128)⁻¹ * (Real.log 2)⁻¹ : ℝ) : EReal)
  | _ => none
-- ==== AttReferenceIdeal.lean ====
abbrev S16640x13312 : Shape := ⟨2, ![16640, 13312]⟩
abbrev S16x15x31 : Shape := ⟨3, ![16, 15, 31]⟩
abbrev S16640x2048 : Shape := ⟨2, ![16640, 2048]⟩
abbrev S16640x16x128 : Shape := ⟨3, ![16640, 16, 128]⟩
abbrev S256x16x128 : Shape := ⟨3, ![256, 16, 128]⟩
abbrev S16x256x256 : Shape := ⟨3, ![16, 256, 256]⟩
abbrev S_ : Shape := ⟨0, ![]⟩
abbrev S16x256 : Shape := ⟨2, ![16, 256]⟩
abbrev S16x256x1 : Shape := ⟨3, ![16, 256, 1]⟩
abbrev S16x128x256 : Shape := ⟨3, ![16, 128, 256]⟩
abbrev S16384x16x128 : Shape := ⟨3, ![16384, 16, 128]⟩
abbrev S256x64x16x128 : Shape := ⟨4, ![256, 64, 16, 128]⟩
abbrev S256 : Shape := ⟨1, ![256]⟩
abbrev S64 : Shape := ⟨1, ![64]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S256x1x8x1 : Shape := ⟨4, ![256, 1, 8, 1]⟩
abbrev S1x64x1x16 : Shape := ⟨4, ![1, 64, 1, 16]⟩
abbrev S256x64x8x16 : Shape := ⟨4, ![256, 64, 8, 16]⟩
abbrev S256x64x8x16x1 : Shape := ⟨5, ![256, 64, 8, 16, 1]⟩
abbrev S256x64x8x16x2 : Shape := ⟨5, ![256, 64, 8, 16, 2]⟩
abbrev S256x64x8x16x16x128 : Shape := ⟨6, ![256, 64, 8, 16, 16, 128]⟩
abbrev S16x256x64x8x16 : Shape := ⟨5, ![16, 256, 64, 8, 16]⟩
abbrev S16x256x64x256 : Shape := ⟨4, ![16, 256, 64, 256]⟩
abbrev S16x256x64x128 : Shape := ⟨4, ![16, 256, 64, 128]⟩
abbrev S16x256x64x384 : Shape := ⟨4, ![16, 256, 64, 384]⟩
abbrev S16x256x64 : Shape := ⟨3, ![16, 256, 64]⟩
abbrev S16x256x64x1 : Shape := ⟨4, ![16, 256, 64, 1]⟩
abbrev S16x128x256x64 : Shape := ⟨4, ![16, 128, 256, 64]⟩

abbrev nBuf : Space → Nat
  | .hbm => 200
  | .vmem => 0
  | .smem => 0
  | _ => 0

abbrev hbmTy0_0 (i : Nat) : BufTy := match i % 128 with
  | 0 => ⟨S16640x13312, .bf16⟩
  | 1 => ⟨S16x15x31, .f32⟩
  | 2 => ⟨S16640x13312, .f32⟩
  | 3 => ⟨S16640x2048, .f32⟩
  | 4 => ⟨S16640x16x128, .f32⟩
  | 5 => ⟨S16640x2048, .f32⟩
  | 6 => ⟨S16640x16x128, .f32⟩
  | 7 => ⟨S16640x2048, .f32⟩
  | 8 => ⟨S16640x16x128, .f32⟩
  | 9 => ⟨S16640x2048, .f32⟩
  | 10 => ⟨S256x16x128, .f32⟩
  | 11 => ⟨S256x16x128, .f32⟩
  | 12 => ⟨S256x16x128, .f32⟩
  | 13 => ⟨S16x256x256, .f32⟩
  | 14 => ⟨S_, .f32⟩
  | 15 => ⟨S_, .f32⟩
  | 16 => ⟨S16x256x256, .f32⟩
  | 17 => ⟨S16x256x256, .f32⟩
  | 18 => ⟨S_, .f32⟩
  | 19 => ⟨S16x256, .f32⟩
  | 20 => ⟨S_, .f32⟩
  | 21 => ⟨S16x256, .f32⟩
  | 22 => ⟨S16x256, .f32⟩
  | 23 => ⟨S16x256x1, .f32⟩
  | 24 => ⟨S16x256x256, .f32⟩
  | 25 => ⟨S16x256x256, .f32⟩
  | 26 => ⟨S16x256x256, .f32⟩
  | 27 => ⟨S_, .f32⟩
  | 28 => ⟨S16x256, .f32⟩
  | 29 => ⟨S16x256x1, .f32⟩
  | 30 => ⟨S16x256x256, .f32⟩
  | 31 => ⟨S16x256x256, .f32⟩
  | 32 => ⟨S16x128x256, .f32⟩
  | 33 => ⟨S256x16x128, .f32⟩
  | 34 => ⟨S16384x16x128, .f32⟩
  | 35 => ⟨S16384x16x128, .f32⟩
  | 36 => ⟨S16384x16x128, .f32⟩
  | 37 => ⟨S256x16x128, .f32⟩
  | 38 => ⟨S256x16x128, .f32⟩
  | 39 => ⟨S_, .f32⟩
  | 40 => ⟨S_, .f32⟩
  | 41 => ⟨S256x64x16x128, .f32⟩
  | 42 => ⟨S256x64x16x128, .f32⟩
  | 43 => ⟨S256x64x16x128, .f32⟩
  | 44 => ⟨S256, .i32⟩
  | 45 => ⟨S64, .i32⟩
  | 46 => ⟨S_, .i32⟩
  | 47 => ⟨S256, .i32⟩
  | 48 => ⟨S256, .i32⟩
  | 49 => ⟨S_, .i32⟩
  | 50 => ⟨S_, .i32⟩
  | 51 => ⟨S_, .i32⟩
  | 52 => ⟨S256, .i32⟩
  | 53 => ⟨S256, .i32⟩
  | 54 => ⟨S_, .i32⟩
  | 55 => ⟨S256, .i32⟩
  | 56 => ⟨S256, .i32⟩
  | 57 => ⟨S256x1, .i32⟩
  | 58 => ⟨S8, .i32⟩
  | 59 => ⟨S1x8, .i32⟩
  | 60 => ⟨S256x8, .i32⟩
  | 61 => ⟨S256x8, .i32⟩
  | 62 => ⟨S256x8, .i32⟩
  | 63 => ⟨S_, .i32⟩
  | 64 => ⟨S64, .i32⟩
  | 65 => ⟨S64, .i32⟩
  | 66 => ⟨S_, .i32⟩
  | 67 => ⟨S_, .i32⟩
  | 68 => ⟨S_, .i32⟩
  | 69 => ⟨S64, .i32⟩
  | 70 => ⟨S64, .i32⟩
  | 71 => ⟨S_, .i32⟩
  | 72 => ⟨S64, .i32⟩
  | 73 => ⟨S64, .i32⟩
  | 74 => ⟨S64x1, .i32⟩
  | 75 => ⟨S16, .i32⟩
  | 76 => ⟨S1x16, .i32⟩
  | 77 => ⟨S64x16, .i32⟩
  | 78 => ⟨S64x16, .i32⟩
  | 79 => ⟨S64x16, .i32⟩
  | 80 => ⟨S256x1x8x1, .i32⟩
  | 81 => ⟨S1x64x1x16, .i32⟩
  | 82 => ⟨S_, .i32⟩
  | 83 => ⟨S256x1x8x1, .i32⟩
  | 84 => ⟨S256x1x8x1, .i1⟩
  | 85 => ⟨S_, .i32⟩
  | 86 => ⟨S256x1x8x1, .i32⟩
  | 87 => ⟨S256x1x8x1, .i32⟩
  | 88 => ⟨S256x1x8x1, .i32⟩
  | 89 => ⟨S_, .i32⟩
  | 90 => ⟨S1x64x1x16, .i32⟩
  | 91 => ⟨S1x64x1x16, .i1⟩
  | 92 => ⟨S_, .i32⟩
  | 93 => ⟨S1x64x1x16, .i32⟩
  | 94 => ⟨S1x64x1x16, .i32⟩
  | 95 => ⟨S1x64x1x16, .i32⟩
  | 96 => ⟨S256x64x8x16, .i32⟩
  | 97 => ⟨S256x64x8x16, .i32⟩
  | 98 => ⟨S256x64x8x16x1, .i32⟩
  | 99 => ⟨S256x64x8x16x1, .i32⟩
  | 100 => ⟨S256x64x8x16x2, .i32⟩
  | 101 => ⟨S256x64x8x16x16x128, .f32⟩
  | 102 => ⟨S_, .i32⟩
  | 103 => ⟨S256x1x8x1, .i32⟩
  | 104 => ⟨S256x1x8x1, .i1⟩
  | 105 => ⟨S_, .i32⟩
  | 106 => ⟨S256x1x8x1, .i32⟩
  | 107 => ⟨S256x1x8x1, .i32⟩
  | 108 => ⟨S256x1x8x1, .i32⟩
  | 109 => ⟨S_, .i32⟩
  | 110 => ⟨S1x64x1x16, .i32⟩
  | 111 => ⟨S1x64x1x16, .i1⟩
  | 112 => ⟨S_, .i32⟩
  | 113 => ⟨S1x64x1x16, .i32⟩
  | 114 => ⟨S1x64x1x16, .i32⟩
  | 115 => ⟨S1x64x1x16, .i32⟩
  | 116 => ⟨S256x64x8x16, .i32⟩
  | 117 => ⟨S256x64x8x16, .i32⟩
  | 118 => ⟨S256x64x8x16x1, .i32⟩
  | 119 => ⟨S256x64x8x16x1, .i32⟩
  | 120 => ⟨S256x64x8x16x2, .i32⟩
  | 121 => ⟨S256x64x8x16x16x128, .f32⟩
  | 122 => ⟨S256x1, .i32⟩
  | 123 => ⟨S256x8, .i32⟩
  | 124 => ⟨S256x8, .i32⟩
  | 125 => ⟨S_, .i32⟩
  | 126 => ⟨S256x8, .i32⟩
  | 127 => ⟨S256x8, .i32⟩
  | _ => ⟨S16640x13312, .bf16⟩

abbrev hbmTy0_1 (i : Nat) : BufTy := match i % 128 with
  | 0 => ⟨S64x1, .i32⟩
  | 1 => ⟨S64x16, .i32⟩
  | 2 => ⟨S64x16, .i32⟩
  | 3 => ⟨S_, .i32⟩
  | 4 => ⟨S64x16, .i32⟩
  | 5 => ⟨S64x16, .i32⟩
  | 6 => ⟨S256x1x8x1, .i32⟩
  | 7 => ⟨S1x64x1x16, .i32⟩
  | 8 => ⟨S_, .i32⟩
  | 9 => ⟨S256x1x8x1, .i32⟩
  | 10 => ⟨S256x1x8x1, .i1⟩
  | 11 => ⟨S_, .i32⟩
  | 12 => ⟨S256x1x8x1, .i32⟩
  | 13 => ⟨S256x1x8x1, .i32⟩
  | 14 => ⟨S256x1x8x1, .i32⟩
  | 15 => ⟨S_, .i32⟩
  | 16 => ⟨S1x64x1x16, .i32⟩
  | 17 => ⟨S1x64x1x16, .i1⟩
  | 18 => ⟨S_, .i32⟩
  | 19 => ⟨S1x64x1x16, .i32⟩
  | 20 => ⟨S1x64x1x16, .i32⟩
  | 21 => ⟨S1x64x1x16, .i32⟩
  | 22 => ⟨S256x64x8x16, .i32⟩
  | 23 => ⟨S256x64x8x16, .i32⟩
  | 24 => ⟨S256x64x8x16x1, .i32⟩
  | 25 => ⟨S256x64x8x16x1, .i32⟩
  | 26 => ⟨S256x64x8x16x2, .i32⟩
  | 27 => ⟨S16x256x64x8x16, .f32⟩
  | 28 => ⟨S16x256x64x8x16, .f32⟩
  | 29 => ⟨S16x256x64x8x16, .f32⟩
  | 30 => ⟨S16x256x64x8x16, .f32⟩
  | 31 => ⟨S16x256x64x8x16, .f32⟩
  | 32 => ⟨S16x256x64x256, .f32⟩
  | 33 => ⟨S16x256x64x256, .f32⟩
  | 34 => ⟨S16x256x64x256, .f32⟩
  | 35 => ⟨S16x256x64x128, .f32⟩
  | 36 => ⟨S16x256x64x384, .f32⟩
  | 37 => ⟨S_, .f32⟩
  | 38 => ⟨S16x256x64, .f32⟩
  | 39 => ⟨S_, .f32⟩
  | 40 => ⟨S16x256x64, .f32⟩
  | 41 => ⟨S16x256x64, .f32⟩
  | 42 => ⟨S16x256x64x1, .f32⟩
  | 43 => ⟨S16x256x64x384, .f32⟩
  | 44 => ⟨S16x256x64x384, .f32⟩
  | 45 => ⟨S16x256x64x384, .f32⟩
  | 46 => ⟨S_, .f32⟩
  | 47 => ⟨S16x256x64, .f32⟩
  | 48 => ⟨S16x256x64x1, .f32⟩
  | 49 => ⟨S16x256x64x384, .f32⟩
  | 50 => ⟨S16x256x64x384, .f32⟩
  | 51 => ⟨S16x256x64x128, .f32⟩
  | 52 => ⟨S16x256x64x8x16, .f32⟩
  | 53 => ⟨S16x256x64x256, .f32⟩
  | 54 => ⟨S256x64x16x128, .f32⟩
  | 55 => ⟨S16x128x256x64, .f32⟩
  | 56 => ⟨S256x64x16x128, .f32⟩
  | 57 => ⟨S256x64x16x128, .f32⟩
  | 58 => ⟨S16384x16x128, .f32⟩
  | 59 => ⟨S16640x16x128, .f32⟩
  | 60 => ⟨S16640x2048, .f32⟩
  | 61 => ⟨S16640x2048, .f32⟩
  | 62 => ⟨S16640x2048, .f32⟩
  | 63 => ⟨S_, .f32⟩
  | 64 => ⟨S16640x2048, .f32⟩
  | 65 => ⟨S16640x2048, .f32⟩
  | 66 => ⟨S_, .f32⟩
  | 67 => ⟨S16640x2048, .f32⟩
  | 68 => ⟨S16640x2048, .f32⟩
  | 69 => ⟨S16640x2048, .f32⟩
  | 70 => ⟨S16640x2048, .f32⟩
  | 71 => ⟨S16640x2048, .bf16⟩
  | _ => ⟨S16640x13312, .bf16⟩

abbrev hbmTy (i : Nat) : BufTy := match i / 128 with
  | 0 => hbmTy0_0 i
  | 1 => hbmTy0_1 i
  | _ => ⟨S16640x13312, .bf16⟩

abbrev bufTy : (tb : Table) → Fin (tcTables nBuf tb) → BufTy
  | .hbm, ⟨i, _⟩ => hbmTy i
  | _, _ => ⟨S16640x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c : Ref sig .tc := ⟨.hbm, 46, rfl⟩
abbrev main_v39 : Ref sig .tc := ⟨.hbm, 47, rfl⟩
abbrev main_v40 : Ref sig .tc := ⟨.hbm, 48, rfl⟩
abbrev main_c_4 : Ref sig .tc := ⟨.hbm, 49, rfl⟩
abbrev main_c_5 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_c_7 : Ref sig .tc := ⟨.hbm, 66, rfl⟩
abbrev main_c_8 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_9 : Ref sig .tc := ⟨.hbm, 82, rfl⟩
abbrev main_v59 : Ref sig .tc := ⟨.hbm, 83, rfl⟩
abbrev main_v60 : Ref sig .tc := ⟨.hbm, 84, rfl⟩
abbrev main_c_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_11 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_13 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_15 : Ref sig .tc := ⟨.hbm, 109, rfl⟩
abbrev main_v80 : Ref sig .tc := ⟨.hbm, 110, rfl⟩
abbrev main_v81 : Ref sig .tc := ⟨.hbm, 111, rfl⟩
abbrev main_c_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_17 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_18 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_21 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_23 : Ref sig .tc := ⟨.hbm, 165, rfl⟩
abbrev main_v128 : Ref sig .tc := ⟨.hbm, 166, rfl⟩
abbrev main_cst_24 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_25 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_call2_v0 : Ref sig .tc := ⟨.hbm, 189, rfl⟩
abbrev main_call2_v1 : Ref sig .tc := ⟨.hbm, 190, rfl⟩
abbrev main_call2_cst : Ref sig .tc := ⟨.hbm, 191, rfl⟩
abbrev main_call2_v2 : Ref sig .tc := ⟨.hbm, 192, rfl⟩
abbrev main_call2_v3 : Ref sig .tc := ⟨.hbm, 193, rfl⟩
abbrev main_call2_cst_0 : Ref sig .tc := ⟨.hbm, 194, rfl⟩
abbrev main_call2_v4 : Ref sig .tc := ⟨.hbm, 195, rfl⟩
abbrev main_call2_v5 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩

abbrev nD : Nat := 1
abbrev τ : Topo := Topo.v7x

variable {F : FTy → Type} [FloatOps F]
-- ==== InProj.lean ====
abbrev S16640x4096 : Shape := ⟨2, ![16640, 4096]⟩
abbrev S4x4096x13312 : Shape := ⟨3, ![4, 4096, 13312]⟩
abbrev S16640x13312 : Shape := ⟨2, ![16640, 13312]⟩
abbrev S1280x4096 : Shape := ⟨2, ![1280, 4096]⟩
abbrev S1x4096x512 : Shape := ⟨3, ![1, 4096, 512]⟩
abbrev S1280x512 : Shape := ⟨2, ![1280, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4x4096x13312, .f32⟩
  | .hbm, ⟨2, _⟩ => ⟨S16640x13312, .bf16⟩
  | .local _ .vmem, ⟨0, _⟩ => ⟨S1280x4096, .bf16⟩
  | .local _ .vmem, ⟨1, _⟩ => ⟨S1280x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1280x512, .bf16⟩
  | .local _ .vmem, ⟨5, _⟩ => ⟨S1280x512, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c26_i32 : BitVec 32 := 26#32
  let c0_i32 : BitVec 32 := 0#32
  let v1 : BitVec 1 := Scalar.cmpi .eq c26_i32 c0_i32
  let c1_i32 : BitVec 32 := 1#32
  let v2 : BitVec 32 := Scalar.select v1 c1_i32 c26_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![c0_i32_3.toNat, c0_i32_4.toNat, v10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S16640x4096 : Shape := ⟨2, ![16640, 4096]⟩
abbrev S4x4096x13312 : Shape := ⟨3, ![4, 4096, 13312]⟩
abbrev S1x4096x13312 : Shape := ⟨3, ![1, 4096, 13312]⟩
abbrev S4096x13312 : Shape := ⟨2, ![4096, 13312]⟩
abbrev S16640x13312 : Shape := ⟨2, ![16640, 13312]⟩
abbrev S16640x8192 : Shape := ⟨2, ![16640, 8192]⟩
abbrev S16640x5120 : Shape := ⟨2, ![16640, 5120]⟩

abbrev nBuf : Space → Nat
  | .hbm => 10
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4x4096x13312, .f32⟩
  | .hbm, ⟨2, _⟩ => ⟨S16640x4096, .f32⟩
  | .hbm, ⟨3, _⟩ => ⟨S1x4096x13312, .f32⟩
  | .hbm, ⟨4, _⟩ => ⟨S4096x13312, .f32⟩
  | .hbm, ⟨5, _⟩ => ⟨S16640x13312, .f32⟩
  | .hbm, ⟨6, _⟩ => ⟨S16640x8192, .f32⟩
  | .hbm, ⟨7, _⟩ => ⟨S16640x5120, .f32⟩
  | .hbm, ⟨8, _⟩ => ⟨S16640x13312, .f32⟩
  | .hbm, ⟨9, _⟩ => ⟨S16640x13312, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== OutProj.lean ====
abbrev S16640x1024 : Shape := ⟨2, ![16640, 1024]⟩
abbrev S16640x2048 : Shape := ⟨2, ![16640, 2048]⟩
abbrev S4x4096x4096 : Shape := ⟨3, ![4, 4096, 4096]⟩
abbrev S16640x4096 : Shape := ⟨2, ![16640, 4096]⟩
abbrev S8x12288 : Shape := ⟨2, ![8, 12288]⟩
abbrev S1280x1024 : Shape := ⟨2, ![1280, 1024]⟩
abbrev S1280x2048 : Shape := ⟨2, ![1280, 2048]⟩
abbrev S1x1024x512 : Shape := ⟨3, ![1, 1024, 512]⟩
abbrev S1x2048x512 : Shape := ⟨3, ![1, 2048, 512]⟩
abbrev S1280x512 : Shape := ⟨2, ![1280, 512]⟩
abbrev S8x512 : Shape := ⟨2, ![8, 512]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 7
  | .vmem => 18
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S16640x2048, .bf16⟩
  | .hbm, ⟨3, _⟩ => ⟨S4x4096x4096, .f32⟩
  | .hbm, ⟨4, _⟩ => ⟨S16640x4096, .f32⟩
  | .hbm, ⟨5, _⟩ => ⟨S8x12288, .f32⟩
  | .hbm, ⟨6, _⟩ => ⟨S16640x4096, .f32⟩
  | .local _ .vmem, ⟨0, _⟩ => ⟨S1280x1024, .bf16⟩
  | .local _ .vmem, ⟨1, _⟩ => ⟨S1280x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1280x2048, .bf16⟩
  | .local _ .vmem, ⟨5, _⟩ => ⟨S1280x2048, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x2048x512, .f32⟩
  | .local _ .vmem, ⟨11, _⟩ => ⟨S1x2048x512, .f32⟩
  | .local _ .vmem, ⟨12, _⟩ => ⟨S1280x512, .f32⟩
  | .local _ .vmem, ⟨13, _⟩ => ⟨S1280x512, .f32⟩
  | .local _ .vmem, ⟨14, _⟩ => ⟨S8x512, .f32⟩
  | .local _ .vmem, ⟨15, _⟩ => ⟨S8x512, .f32⟩
  | .local _ .vmem, ⟨16, _⟩ => ⟨S1280x512, .f32⟩
  | .local _ .vmem, ⟨17, _⟩ => ⟨S1280x512, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1280x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1280x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutReferenceIdeal.lean ====
abbrev S16640x1024 : Shape := ⟨2, ![16640, 1024]⟩
abbrev S16640x2048 : Shape := ⟨2, ![16640, 2048]⟩
abbrev S4x4096x4096 : Shape := ⟨3, ![4, 4096, 4096]⟩
abbrev S16640x4096 : Shape := ⟨2, ![16640, 4096]⟩
abbrev S8x12288 : Shape := ⟨2, ![8, 12288]⟩
abbrev S1x4096x4096 : Shape := ⟨3, ![1, 4096, 4096]⟩
abbrev S4096x4096 : Shape := ⟨2, ![4096, 4096]⟩
abbrev S1x4096 : Shape := ⟨2, ![1, 4096]⟩
abbrev S4096 : Shape := ⟨1, ![4096]⟩
abbrev S256x4096 : Shape := ⟨2, ![256, 4096]⟩
abbrev S16384x4096 : Shape := ⟨2, ![16384, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S16640x2048, .bf16⟩
  | .hbm, ⟨3, _⟩ => ⟨S4x4096x4096, .f32⟩
  | .hbm, ⟨4, _⟩ => ⟨S16640x4096, .f32⟩
  | .hbm, ⟨5, _⟩ => ⟨S8x12288, .f32⟩
  | .hbm, ⟨6, _⟩ => ⟨S16640x1024, .f32⟩
  | .hbm, ⟨7, _⟩ => ⟨S16640x1024, .f32⟩
  | .hbm, ⟨8, _⟩ => ⟨S16640x2048, .f32⟩
  | .hbm, ⟨9, _⟩ => ⟨S16640x4096, .f32⟩
  | .hbm, ⟨10, _⟩ => ⟨S1x4096x4096, .f32⟩
  | .hbm, ⟨11, _⟩ => ⟨S4096x4096, .f32⟩
  | .hbm, ⟨12, _⟩ => ⟨S16640x4096, .f32⟩
  | .hbm, ⟨13, _⟩ => ⟨S1x4096, .f32⟩
  | .hbm, ⟨14, _⟩ => ⟨S4096, .f32⟩
  | .hbm, ⟨15, _⟩ => ⟨S1x4096, .f32⟩
  | .hbm, ⟨16, _⟩ => ⟨S4096, .f32⟩
  | .hbm, ⟨17, _⟩ => ⟨S256x4096, .f32⟩
  | .hbm, ⟨18, _⟩ => ⟨S256x4096, .f32⟩
  | .hbm, ⟨19, _⟩ => ⟨S1x4096, .f32⟩
  | .hbm, ⟨20, _⟩ => ⟨S256x4096, .f32⟩
  | .hbm, ⟨21, _⟩ => ⟨S256x4096, .f32⟩
  | .hbm, ⟨22, _⟩ => ⟨S256x4096, .f32⟩
  | .hbm, ⟨23, _⟩ => ⟨S16384x4096, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16640x4096, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Final.lean ====
abbrev S16640x4096 : Shape := ⟨2, ![16640, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalReferenceIdeal.lean ====
abbrev S16640x4096 : Shape := ⟨2, ![16640, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Ada.lean ====
abbrev S8x4096 : Shape := ⟨2, ![8, 4096]⟩
abbrev S4x4096x12288 : Shape := ⟨3, ![4, 4096, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4x4096x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaIdeal.lean ====
variable {F : FTy → Type} [FloatOps F] [Named F]
def κ : String → Option EReal := fun
  | "minus_log2_e" => some ((-((Real.log 2)⁻¹) : ℝ) : EReal)
  | _ => none
-- ==== AdaReferenceIdeal.lean ====
abbrev S8x4096 : Shape := ⟨2, ![8, 4096]⟩
abbrev S4x4096x12288 : Shape := ⟨3, ![4, 4096, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x12288, .f32⟩
  | .hbm, ⟨2, _⟩ => ⟨S4x12288, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Norm.lean ====
abbrev S16640x4096 : Shape := ⟨2, ![16640, 4096]⟩
abbrev S4096 : Shape := ⟨1, ![4096]⟩
abbrev S8x12288 : Shape := ⟨2, ![8, 12288]⟩
abbrev S8x1x12288 : Shape := ⟨3, ![8, 1, 12288]⟩
abbrev S1x4096 : Shape := ⟨2, ![1, 4096]⟩
abbrev S640x4096 : Shape := ⟨2, ![640, 4096]⟩
abbrev S2x1x12288 : Shape := ⟨3, ![2, 1, 12288]⟩
abbrev S2x4096 : Shape := ⟨2, ![2, 4096]⟩
abbrev S1x1x12288 : Shape := ⟨3, ![1, 1, 12288]⟩
abbrev S1x12288 : Shape := ⟨2, ![1, 12288]⟩
abbrev S16x4096 : Shape := ⟨2, ![16, 4096]⟩
abbrev S16 : Shape := ⟨1, ![16]⟩
abbrev S16x1 : Shape := ⟨2, ![16, 1]⟩

abbrev nBuf : Space → Nat
  | .hbm => 6
  | .vmem => 8
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S8x12288, .f32⟩
  | .hbm, ⟨3, _⟩ => ⟨S8x1x12288, .f32⟩
  | .hbm, ⟨4, _⟩ => ⟨S1x4096, .f32⟩
  | .hbm, ⟨5, _⟩ => ⟨S16640x4096, .bf16⟩
  | .local _ .vmem, ⟨0, _⟩ => ⟨S640x4096, .f32⟩
  | .local _ .vmem, ⟨1, _⟩ => ⟨S640x4096, .f32⟩
  | .local _ .vmem, ⟨2, _⟩ => ⟨S1x4096, .f32⟩
  | .local _ .vmem, ⟨3, _⟩ => ⟨S2x1x12288, .f32⟩
  | .local _ .vmem, ⟨4, _⟩ => ⟨S640x4096, .bf16⟩
  | .local _ .vmem, ⟨5, _⟩ => ⟨S640x4096, .bf16⟩
  | .local _ .vmem, ⟨6, _⟩ => ⟨S2x4096, .f32⟩
  | .local _ .vmem, ⟨7, _⟩ => ⟨S2x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![26], ![false]⟩

@[reducible] def k0_t1_loop : Scf.Loop 32 :=
  let c0_i32 : BitVec 32 := 0#32
  let c40_i32 : BitVec 32 := 40#32
  let v30 : BitVec 32 := Scalar.addi c0_i32 c40_i32
  let c1_i32 : BitVec 32 := 1#32
  ⟨c0_i32, v30, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32 : BitVec 32 := 16#32
  let v31 : BitVec 32 := Scalar.muli arg7 c16_i32
  v31
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32 : BitVec 32 := 16#32
  let v31 : BitVec 32 := Scalar.muli arg7 c16_i32
  let v32 : BitVec 32 := v31
  let v37 : Index := Scalar.indexCast v32
  let c0_22 : Index := 0#32
  ![v37.toNat, 0]
def k0_off2 (i : grid0.Coords) (k0_t1 : Fin k0_t1_loop.trips) : Fin 2 → Nat :=
  let arg0 : BitVec 32 := BitVec.ofNat 32 (i 0).val
  let c0_i32_18 : BitVec 32 := 0#32
  let v33 : BitVec 1 := Scalar.cmpi .eq arg0 c0_i32_18
  let c0_i32 : BitVec 32 := 0#32
  let c1_i32 : BitVec 32 := 1#32
  let arg7 : BitVec 32 := Scf.iv c0_i32 c1_i32 k0_t1
  let c16_i32_19 : BitVec 32 := 16#32
  let v34 : BitVec 1 := Scalar.cmpi .slt arg7 c16_i32_19
  let v35 : BitVec 1 := Scalar.andi v33 v34
  let c1_i32_20 : BitVec 32 := 1#32
  let c0_i32_21 : BitVec 32 := 0#32
  let v36 : BitVec 32 := Scalar.select v35 c1_i32_20 c0_i32_21
  let v51 : Index := Scalar.indexCast v36
  let c0_27 : Index := 0#32
  ![v51.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S16640x4096 : Shape := ⟨2, ![16640, 4096]⟩
abbrev S4096 : Shape := ⟨1, ![4096]⟩
abbrev S8x12288 : Shape := ⟨2, ![8, 12288]⟩
abbrev S256x4096 : Shape := ⟨2, ![256, 4096]⟩
abbrev S1x12288 : Shape := ⟨2, ![1, 12288]⟩
abbrev S12288 : Shape := ⟨1, ![12288]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S16384x4096 : Shape := ⟨2, ![16384, 4096]⟩
abbrev S16384 : Shape := ⟨1, ![16384]⟩
abbrev S16384x1 : Shape := ⟨2, ![16384, 1]⟩

abbrev nBuf : Space → Nat
  | .hbm => 65
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S8x12288, .f32⟩
  | .hbm, ⟨3, _⟩ => ⟨S256x4096, .f32⟩
  | .hbm, ⟨4, _⟩ => ⟨S1x12288, .f32⟩
  | .hbm, ⟨5, _⟩ => ⟨S12288, .f32⟩
  | .hbm, ⟨6, _⟩ => ⟨S256x4096, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x4096, .f32⟩
  | .hbm, ⟨18, _⟩ => ⟨S256x4096, .f32⟩
  | .hbm, ⟨19, _⟩ => ⟨S1x4096, .f32⟩
  | .hbm, ⟨20, _⟩ => ⟨S256x4096, .f32⟩
  | .hbm, ⟨21, _⟩ => ⟨S256x4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S1x4096, .f32⟩
  | .hbm, ⟨27, _⟩ => ⟨S256x4096, .f32⟩
  | .hbm, ⟨28, _⟩ => ⟨S256x4096, .f32⟩
  | .hbm, ⟨29, _⟩ => ⟨S4096, .f32⟩
  | .hbm, ⟨30, _⟩ => ⟨S1x4096, .f32⟩
  | .hbm, ⟨31, _⟩ => ⟨S256x4096, .f32⟩
  | .hbm, ⟨32, _⟩ => ⟨S256x4096, .f32⟩
  | .hbm, ⟨33, _⟩ => ⟨S16384x4096, .f32⟩
  | .hbm, ⟨34, _⟩ => ⟨S1x12288, .f32⟩
  | .hbm, ⟨35, _⟩ => ⟨S12288, .f32⟩
  | .hbm, ⟨36, _⟩ => ⟨S16384x4096, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x4096, .f32⟩
  | .hbm, ⟨48, _⟩ => ⟨S16384x4096, .f32⟩
  | .hbm, ⟨49, _⟩ => ⟨S1x4096, .f32⟩
  | .hbm, ⟨50, _⟩ => ⟨S16384x4096, .f32⟩
  | .hbm, ⟨51, _⟩ => ⟨S16384x4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S1x4096, .f32⟩
  | .hbm, ⟨57, _⟩ => ⟨S16384x4096, .f32⟩
  | .hbm, ⟨58, _⟩ => ⟨S16384x4096, .f32⟩
  | .hbm, ⟨59, _⟩ => ⟨S4096, .f32⟩
  | .hbm, ⟨60, _⟩ => ⟨S1x4096, .f32⟩
  | .hbm, ⟨61, _⟩ => ⟨S16384x4096, .f32⟩
  | .hbm, ⟨62, _⟩ => ⟨S16384x4096, .f32⟩
  | .hbm, ⟨63, _⟩ => ⟨S16640x4096, .f32⟩
  | .hbm, ⟨64, _⟩ => ⟨S16640x4096, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Conv.lean ====
abbrev S16640x13312 : Shape := ⟨2, ![16640, 13312]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S32x1024 : Shape := ⟨2, ![32, 1024]⟩
abbrev S1 : Shape := ⟨1, ![1]⟩
abbrev S1x1024 : Shape := ⟨2, ![1, 1024]⟩
abbrev S16640x1024 : Shape := ⟨2, ![16640, 1024]⟩
abbrev S256x1024 : Shape := ⟨2, ![256, 1024]⟩
abbrev S16x1024 : Shape := ⟨2, ![16, 1024]⟩
abbrev S288x1024 : Shape := ⟨2, ![288, 1024]⟩
abbrev S1x128 : Shape := ⟨2, ![1, 128]⟩
abbrev S264x128 : Shape := ⟨2, ![264, 128]⟩
abbrev S33x8x128 : Shape := ⟨3, ![33, 8, 128]⟩
abbrev S32x8x128 : Shape := ⟨3, ![32, 8, 128]⟩
abbrev S1x8x128 : Shape := ⟨3, ![1, 8, 128]⟩
abbrev S8x128 : Shape := ⟨2, ![8, 128]⟩
abbrev S31x8x128 : Shape := ⟨3, ![31, 8, 128]⟩
abbrev S256x128 : Shape := ⟨2, ![256, 128]⟩
abbrev S256 : Shape := ⟨1, ![256]⟩
abbrev S256x1 : Shape := ⟨2, ![256, 1]⟩

abbrev nBuf : Space → Nat
  | .hbm => 18
  | .vmem => 23
  | .smem => 0
  | _ => 0

abbrev bufTy : (tb : Table) → Fin (tcTables nBuf tb) → BufTy
  | .hbm, ⟨0, _⟩ => ⟨S16640x13312, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S_, .f32⟩
  | .hbm, ⟨9, _⟩ => ⟨S32x1024, .f32⟩
  | .hbm, ⟨10, _⟩ => ⟨S_, .i32⟩
  | .hbm, ⟨11, _⟩ => ⟨S1, .i32⟩
  | .hbm, ⟨12, _⟩ => ⟨S32x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16640x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S32x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1x1024, .f32⟩
  | .local _ .vmem, ⟨20, _⟩ => ⟨S256x1024, .bf16⟩
  | .local _ .vmem, ⟨21, _⟩ => ⟨S256x1024, .bf16⟩
  | .local _ .vmem, ⟨22, _⟩ => ⟨S288x1024, .f32⟩
  | _, _ => ⟨S16640x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1039_i32 : BitVec 32 := 1039#32
  let v2 : BitVec 32 := Scalar.minsi v1 c1039_i32
  let c8_i32 : BitVec 32 := 8#32
  let c0_i32 : BitVec 32 := 0#32
  ![v2.toNat, c8_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1039_i32 : BitVec 32 := 1039#32
  let v2 : BitVec 32 := Scalar.minsi v1 c1039_i32
  let c9_i32 : BitVec 32 := 9#32
  let c0_i32 : BitVec 32 := 0#32
  ![v2.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ConvIdeal.lean ====
variable {F : FTy → Type} [FloatOps F] [Named F]
def κ : String → Option EReal := fun
  | "minus_log2_e" => some ((-((Real.log 2)⁻¹) : ℝ) : EReal)
  | _ => none
-- ==== ConvReferenceIdeal.lean ====
abbrev S16640x13312 : Shape := ⟨2, ![16640, 13312]⟩
abbrev S31x1024 : Shape := ⟨2, ![31, 1024]⟩
abbrev S1024 : Shape := ⟨1, ![1024]⟩
abbrev S1024x1024 : Shape := ⟨2, ![1024, 1024]⟩
abbrev S16640x1024 : Shape := ⟨2, ![16640, 1024]⟩
abbrev S256x1024 : Shape := ⟨2, ![256, 1024]⟩
abbrev S_ : Shape := ⟨0, ![]⟩
abbrev S286x1024 : Shape := ⟨2, ![286, 1024]⟩
abbrev S1x1024 : Shape := ⟨2, ![1, 1024]⟩
abbrev S256 : Shape := ⟨1, ![256]⟩
abbrev S256x1 : Shape := ⟨2, ![256, 1]⟩
abbrev S16384x1024 : Shape := ⟨2, ![16384, 1024]⟩
abbrev S16414x1024 : Shape := ⟨2, ![16414, 1024]⟩
abbrev S16384 : Shape := ⟨1, ![16384]⟩
abbrev S16384x1 : Shape := ⟨2, ![16384, 1]⟩

abbrev nBuf : Space → Nat
  | .hbm => 579
  | .vmem => 0
  | .smem => 0
  | _ => 0

abbrev hbmTy0_0 (i : Nat) : BufTy := match i % 128 with
  | 0 => ⟨S16640x13312, .bf16⟩
  | 1 => ⟨S31x1024, .f32⟩
  | 2 => ⟨S1024, .f32⟩
  | 3 => ⟨S1024, .f32⟩
  | 4 => ⟨S1024, .f32⟩
  | 5 => ⟨S1024x1024, .f32⟩
  | 6 => ⟨S1024, .f32⟩
  | 7 => ⟨S16640x13312, .f32⟩
  | 8 => ⟨S16640x1024, .f32⟩
  | 9 => ⟨S16640x1024, .f32⟩
  | 10 => ⟨S16640x1024, .f32⟩
  | 11 => ⟨S256x1024, .f32⟩
  | 12 => ⟨S256x1024, .f32⟩
  | 13 => ⟨S256x1024, .f32⟩
  | 14 => ⟨S256x1024, .f32⟩
  | 15 => ⟨S_, .f32⟩
  | 16 => ⟨S256x1024, .f32⟩
  | 17 => ⟨S256x1024, .f32⟩
  | 18 => ⟨S_, .f32⟩
  | 19 => ⟨S256x1024, .f32⟩
  | 20 => ⟨S256x1024, .f32⟩
  | 21 => ⟨S256x1024, .f32⟩
  | 22 => ⟨S_, .i32⟩
  | 23 => ⟨S_, .f32⟩
  | 24 => ⟨S286x1024, .f32⟩
  | 25 => ⟨S1x1024, .f32⟩
  | 26 => ⟨S1024, .f32⟩
  | 27 => ⟨S256x1024, .f32⟩
  | 28 => ⟨S1x1024, .f32⟩
  | 29 => ⟨S256x1024, .f32⟩
  | 30 => ⟨S256x1024, .f32⟩
  | 31 => ⟨S_, .f32⟩
  | 32 => ⟨S256x1024, .f32⟩
  | 33 => ⟨S256x1024, .f32⟩
  | 34 => ⟨S1x1024, .f32⟩
  | 35 => ⟨S1024, .f32⟩
  | 36 => ⟨S256x1024, .f32⟩
  | 37 => ⟨S1x1024, .f32⟩
  | 38 => ⟨S256x1024, .f32⟩
  | 39 => ⟨S256x1024, .f32⟩
  | 40 => ⟨S256x1024, .f32⟩
  | 41 => ⟨S1x1024, .f32⟩
  | 42 => ⟨S1024, .f32⟩
  | 43 => ⟨S256x1024, .f32⟩
  | 44 => ⟨S1x1024, .f32⟩
  | 45 => ⟨S256x1024, .f32⟩
  | 46 => ⟨S256x1024, .f32⟩
  | 47 => ⟨S256x1024, .f32⟩
  | 48 => ⟨S1x1024, .f32⟩
  | 49 => ⟨S1024, .f32⟩
  | 50 => ⟨S256x1024, .f32⟩
  | 51 => ⟨S1x1024, .f32⟩
  | 52 => ⟨S256x1024, .f32⟩
  | 53 => ⟨S256x1024, .f32⟩
  | 54 => ⟨S256x1024, .f32⟩
  | 55 => ⟨S1x1024, .f32⟩
  | 56 => ⟨S1024, .f32⟩
  | 57 => ⟨S256x1024, .f32⟩
  | 58 => ⟨S1x1024, .f32⟩
  | 59 => ⟨S256x1024, .f32⟩
  | 60 => ⟨S256x1024, .f32⟩
  | 61 => ⟨S256x1024, .f32⟩
  | 62 => ⟨S1x1024, .f32⟩
  | 63 => ⟨S1024, .f32⟩
  | 64 => ⟨S256x1024, .f32⟩
  | 65 => ⟨S1x1024, .f32⟩
  | 66 => ⟨S256x1024, .f32⟩
  | 67 => ⟨S256x1024, .f32⟩
  | 68 => ⟨S256x1024, .f32⟩
  | 69 => ⟨S1x1024, .f32⟩
  | 70 => ⟨S1024, .f32⟩
  | 71 => ⟨S256x1024, .f32⟩
  | 72 => ⟨S1x1024, .f32⟩
  | 73 => ⟨S256x1024, .f32⟩
  | 74 => ⟨S256x1024, .f32⟩
  | 75 => ⟨S256x1024, .f32⟩
  | 76 => ⟨S1x1024, .f32⟩
  | 77 => ⟨S1024, .f32⟩
  | 78 => ⟨S256x1024, .f32⟩
  | 79 => ⟨S1x1024, .f32⟩
  | 80 => ⟨S256x1024, .f32⟩
  | 81 => ⟨S256x1024, .f32⟩
  | 82 => ⟨S256x1024, .f32⟩
  | 83 => ⟨S1x1024, .f32⟩
  | 84 => ⟨S1024, .f32⟩
  | 85 => ⟨S256x1024, .f32⟩
  | 86 => ⟨S1x1024, .f32⟩
  | 87 => ⟨S256x1024, .f32⟩
  | 88 => ⟨S256x1024, .f32⟩
  | 89 => ⟨S256x1024, .f32⟩
  | 90 => ⟨S1x1024, .f32⟩
  | 91 => ⟨S1024, .f32⟩
  | 92 => ⟨S256x1024, .f32⟩
  | 93 => ⟨S1x1024, .f32⟩
  | 94 => ⟨S256x1024, .f32⟩
  | 95 => ⟨S256x1024, .f32⟩
  | 96 => ⟨S256x1024, .f32⟩
  | 97 => ⟨S1x1024, .f32⟩
  | 98 => ⟨S1024, .f32⟩
  | 99 => ⟨S256x1024, .f32⟩
  | 100 => ⟨S1x1024, .f32⟩
  | 101 => ⟨S256x1024, .f32⟩
  | 102 => ⟨S256x1024, .f32⟩
  | 103 => ⟨S256x1024, .f32⟩
  | 104 => ⟨S1x1024, .f32⟩
  | 105 => ⟨S1024, .f32⟩
  | 106 => ⟨S256x1024, .f32⟩
  | 107 => ⟨S1x1024, .f32⟩
  | 108 => ⟨S256x1024, .f32⟩
  | 109 => ⟨S256x1024, .f32⟩
  | 110 => ⟨S256x1024, .f32⟩
  | 111 => ⟨S1x1024, .f32⟩
  | 112 => ⟨S1024, .f32⟩
  | 113 => ⟨S256x1024, .f32⟩
  | 114 => ⟨S1x1024, .f32⟩
  | 115 => ⟨S256x1024, .f32⟩
  | 116 => ⟨S256x1024, .f32⟩
  | 117 => ⟨S256x1024, .f32⟩
  | 118 => ⟨S1x1024, .f32⟩
  | 119 => ⟨S1024, .f32⟩
  | 120 => ⟨S256x1024, .f32⟩
  | 121 => ⟨S1x1024, .f32⟩
  | 122 => ⟨S256x1024, .f32⟩
  | 123 => ⟨S256x1024, .f32⟩
  | 124 => ⟨S256x1024, .f32⟩
  | 125 => ⟨S1x1024, .f32⟩
  | 126 => ⟨S1024, .f32⟩
  | 127 => ⟨S256x1024, .f32⟩
  | _ => ⟨S16640x13312, .bf16⟩

abbrev hbmTy0_1 (i : Nat) : BufTy := match i % 128 with
  | 0 => ⟨S1x1024, .f32⟩
  | 1 => ⟨S256x1024, .f32⟩
  | 2 => ⟨S256x1024, .f32⟩
  | 3 => ⟨S256x1024, .f32⟩
  | 4 => ⟨S1x1024, .f32⟩
  | 5 => ⟨S1024, .f32⟩
  | 6 => ⟨S256x1024, .f32⟩
  | 7 => ⟨S1x1024, .f32⟩
  | 8 => ⟨S256x1024, .f32⟩
  | 9 => ⟨S256x1024, .f32⟩
  | 10 => ⟨S256x1024, .f32⟩
  | 11 => ⟨S1x1024, .f32⟩
  | 12 => ⟨S1024, .f32⟩
  | 13 => ⟨S256x1024, .f32⟩
  | 14 => ⟨S1x1024, .f32⟩
  | 15 => ⟨S256x1024, .f32⟩
  | 16 => ⟨S256x1024, .f32⟩
  | 17 => ⟨S256x1024, .f32⟩
  | 18 => ⟨S1x1024, .f32⟩
  | 19 => ⟨S1024, .f32⟩
  | 20 => ⟨S256x1024, .f32⟩
  | 21 => ⟨S1x1024, .f32⟩
  | 22 => ⟨S256x1024, .f32⟩
  | 23 => ⟨S256x1024, .f32⟩
  | 24 => ⟨S256x1024, .f32⟩
  | 25 => ⟨S1x1024, .f32⟩
  | 26 => ⟨S1024, .f32⟩
  | 27 => ⟨S256x1024, .f32⟩
  | 28 => ⟨S1x1024, .f32⟩
  | 29 => ⟨S256x1024, .f32⟩
  | 30 => ⟨S256x1024, .f32⟩
  | 31 => ⟨S256x1024, .f32⟩
  | 32 => ⟨S1x1024, .f32⟩
  | 33 => ⟨S1024, .f32⟩
  | 34 => ⟨S256x1024, .f32⟩
  | 35 => ⟨S1x1024, .f32⟩
  | 36 => ⟨S256x1024, .f32⟩
  | 37 => ⟨S256x1024, .f32⟩
  | 38 => ⟨S256x1024, .f32⟩
  | 39 => ⟨S1x1024, .f32⟩
  | 40 => ⟨S1024, .f32⟩
  | 41 => ⟨S256x1024, .f32⟩
  | 42 => ⟨S1x1024, .f32⟩
  | 43 => ⟨S256x1024, .f32⟩
  | 44 => ⟨S256x1024, .f32⟩
  | 45 => ⟨S256x1024, .f32⟩
  | 46 => ⟨S1x1024, .f32⟩
  | 47 => ⟨S1024, .f32⟩
  | 48 => ⟨S256x1024, .f32⟩
  | 49 => ⟨S1x1024, .f32⟩
  | 50 => ⟨S256x1024, .f32⟩
  | 51 => ⟨S256x1024, .f32⟩
  | 52 => ⟨S256x1024, .f32⟩
  | 53 => ⟨S1x1024, .f32⟩
  | 54 => ⟨S1024, .f32⟩
  | 55 => ⟨S256x1024, .f32⟩
  | 56 => ⟨S1x1024, .f32⟩
  | 57 => ⟨S256x1024, .f32⟩
  | 58 => ⟨S256x1024, .f32⟩
  | 59 => ⟨S256x1024, .f32⟩
  | 60 => ⟨S1x1024, .f32⟩
  | 61 => ⟨S1024, .f32⟩
  | 62 => ⟨S256x1024, .f32⟩
  | 63 => ⟨S1x1024, .f32⟩
  | 64 => ⟨S256x1024, .f32⟩
  | 65 => ⟨S256x1024, .f32⟩
  | 66 => ⟨S256x1024, .f32⟩
  | 67 => ⟨S1x1024, .f32⟩
  | 68 => ⟨S1024, .f32⟩
  | 69 => ⟨S256x1024, .f32⟩
  | 70 => ⟨S1x1024, .f32⟩
  | 71 => ⟨S256x1024, .f32⟩
  | 72 => ⟨S256x1024, .f32⟩
  | 73 => ⟨S256x1024, .f32⟩
  | 74 => ⟨S1x1024, .f32⟩
  | 75 => ⟨S1024, .f32⟩
  | 76 => ⟨S256x1024, .f32⟩
  | 77 => ⟨S1x1024, .f32⟩
  | 78 => ⟨S256x1024, .f32⟩
  | 79 => ⟨S256x1024, .f32⟩
  | 80 => ⟨S256x1024, .f32⟩
  | 81 => ⟨S1x1024, .f32⟩
  | 82 => ⟨S1024, .f32⟩
  | 83 => ⟨S256x1024, .f32⟩
  | 84 => ⟨S1x1024, .f32⟩
  | 85 => ⟨S256x1024, .f32⟩
  | 86 => ⟨S256x1024, .f32⟩
  | 87 => ⟨S256x1024, .f32⟩
  | 88 => ⟨S1x1024, .f32⟩
  | 89 => ⟨S1024, .f32⟩
  | 90 => ⟨S256x1024, .f32⟩
  | 91 => ⟨S1x1024, .f32⟩
  | 92 => ⟨S256x1024, .f32⟩
  | 93 => ⟨S256x1024, .f32⟩
  | 94 => ⟨S256x1024, .f32⟩
  | 95 => ⟨S1x1024, .f32⟩
  | 96 => ⟨S1024, .f32⟩
  | 97 => ⟨S256x1024, .f32⟩
  | 98 => ⟨S1x1024, .f32⟩
  | 99 => ⟨S256x1024, .f32⟩
  | 100 => ⟨S256x1024, .f32⟩
  | 101 => ⟨S256x1024, .f32⟩
  | 102 => ⟨S1x1024, .f32⟩
  | 103 => ⟨S1024, .f32⟩
  | 104 => ⟨S256x1024, .f32⟩
  | 105 => ⟨S1x1024, .f32⟩
  | 106 => ⟨S256x1024, .f32⟩
  | 107 => ⟨S256x1024, .f32⟩
  | 108 => ⟨S256x1024, .f32⟩
  | 109 => ⟨S1x1024, .f32⟩
  | 110 => ⟨S1024, .f32⟩
  | 111 => ⟨S256x1024, .f32⟩
  | 112 => ⟨S1x1024, .f32⟩
  | 113 => ⟨S256x1024, .f32⟩
  | 114 => ⟨S256x1024, .f32⟩
  | 115 => ⟨S256x1024, .f32⟩
  | 116 => ⟨S1x1024, .f32⟩
  | 117 => ⟨S256x1024, .f32⟩
  | 118 => ⟨S256x1024, .f32⟩
  | 119 => ⟨S_, .f32⟩
  | 120 => ⟨S256, .f32⟩
  | 121 => ⟨S256x1, .f32⟩
  | 122 => ⟨S_, .f32⟩
  | 123 => ⟨S256x1, .f32⟩
  | 124 => ⟨S256x1, .f32⟩
  | 125 => ⟨S256x1024, .f32⟩
  | 126 => ⟨S256x1024, .f32⟩
  | 127 => ⟨S256x1024, .f32⟩
  | _ => ⟨S16640x13312, .bf16⟩

abbrev hbmTy0_2 (i : Nat) : BufTy := match i % 128 with
  | 0 => ⟨S_, .f32⟩
  | 1 => ⟨S256, .f32⟩
  | 2 => ⟨S256x1, .f32⟩
  | 3 => ⟨S_, .f32⟩
  | 4 => ⟨S256x1, .f32⟩
  | 5 => ⟨S256x1, .f32⟩
  | 6 => ⟨S256x1024, .f32⟩
  | 7 => ⟨S256x1024, .f32⟩
  | 8 => ⟨S_, .f32⟩
  | 9 => ⟨S256x1, .f32⟩
  | 10 => ⟨S256x1, .f32⟩
  | 11 => ⟨S256x1, .f32⟩
  | 12 => ⟨S256x1024, .f32⟩
  | 13 => ⟨S256x1024, .f32⟩
  | 14 => ⟨S1x1024, .f32⟩
  | 15 => ⟨S256x1024, .f32⟩
  | 16 => ⟨S256x1024, .f32⟩
  | 17 => ⟨S1x1024, .f32⟩
  | 18 => ⟨S256x1024, .f32⟩
  | 19 => ⟨S256x1024, .f32⟩
  | 20 => ⟨S256x1024, .f32⟩
  | 21 => ⟨S256x1024, .f32⟩
  | 22 => ⟨S_, .f32⟩
  | 23 => ⟨S256x1024, .f32⟩
  | 24 => ⟨S256x1024, .f32⟩
  | 25 => ⟨S_, .f32⟩
  | 26 => ⟨S256x1024, .f32⟩
  | 27 => ⟨S256x1024, .f32⟩
  | 28 => ⟨S256x1024, .f32⟩
  | 29 => ⟨S256x1024, .f32⟩
  | 30 => ⟨S1x1024, .f32⟩
  | 31 => ⟨S256x1024, .f32⟩
  | 32 => ⟨S256x1024, .f32⟩
  | 33 => ⟨S16384x1024, .f32⟩
  | 34 => ⟨S16384x1024, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S16384x1024, .f32⟩
  | 44 => ⟨S_, .i32⟩
  | 45 => ⟨S_, .f32⟩
  | 46 => ⟨S16414x1024, .f32⟩
  | 47 => ⟨S1x1024, .f32⟩
  | 48 => ⟨S1024, .f32⟩
  | 49 => ⟨S16384x1024, .f32⟩
  | 50 => ⟨S1x1024, .f32⟩
  | 51 => ⟨S16384x1024, .f32⟩
  | 52 => ⟨S16384x1024, .f32⟩
  | 53 => ⟨S_, .f32⟩
  | 54 => ⟨S16384x1024, .f32⟩
  | 55 => ⟨S16384x1024, .f32⟩
  | 56 => ⟨S1x1024, .f32⟩
  | 57 => ⟨S1024, .f32⟩
  | 58 => ⟨S16384x1024, .f32⟩
  | 59 => ⟨S1x1024, .f32⟩
  | 60 => ⟨S16384x1024, .f32⟩
  | 61 => ⟨S16384x1024, .f32⟩
  | 62 => ⟨S16384x1024, .f32⟩
  | 63 => ⟨S1x1024, .f32⟩
  | 64 => ⟨S1024, .f32⟩
  | 65 => ⟨S16384x1024, .f32⟩
  | 66 => ⟨S1x1024, .f32⟩
  | 67 => ⟨S16384x1024, .f32⟩
  | 68 => ⟨S16384x1024, .f32⟩
  | 69 => ⟨S16384x1024, .f32⟩
  | 70 => ⟨S1x1024, .f32⟩
  | 71 => ⟨S1024, .f32⟩
  | 72 => ⟨S16384x1024, .f32⟩
  | 73 => ⟨S1x1024, .f32⟩
  | 74 => ⟨S16384x1024, .f32⟩
  | 75 => ⟨S16384x1024, .f32⟩
  | 76 => ⟨S16384x1024, .f32⟩
  | 77 => ⟨S1x1024, .f32⟩
  | 78 => ⟨S1024, .f32⟩
  | 79 => ⟨S16384x1024, .f32⟩
  | 80 => ⟨S1x1024, .f32⟩
  | 81 => ⟨S16384x1024, .f32⟩
  | 82 => ⟨S16384x1024, .f32⟩
  | 83 => ⟨S16384x1024, .f32⟩
  | 84 => ⟨S1x1024, .f32⟩
  | 85 => ⟨S1024, .f32⟩
  | 86 => ⟨S16384x1024, .f32⟩
  | 87 => ⟨S1x1024, .f32⟩
  | 88 => ⟨S16384x1024, .f32⟩
  | 89 => ⟨S16384x1024, .f32⟩
  | 90 => ⟨S16384x1024, .f32⟩
  | 91 => ⟨S1x1024, .f32⟩
  | 92 => ⟨S1024, .f32⟩
  | 93 => ⟨S16384x1024, .f32⟩
  | 94 => ⟨S1x1024, .f32⟩
  | 95 => ⟨S16384x1024, .f32⟩
  | 96 => ⟨S16384x1024, .f32⟩
  | 97 => ⟨S16384x1024, .f32⟩
  | 98 => ⟨S1x1024, .f32⟩
  | 99 => ⟨S1024, .f32⟩
  | 100 => ⟨S16384x1024, .f32⟩
  | 101 => ⟨S1x1024, .f32⟩
  | 102 => ⟨S16384x1024, .f32⟩
  | 103 => ⟨S16384x1024, .f32⟩
  | 104 => ⟨S16384x1024, .f32⟩
  | 105 => ⟨S1x1024, .f32⟩
  | 106 => ⟨S1024, .f32⟩
  | 107 => ⟨S16384x1024, .f32⟩
  | 108 => ⟨S1x1024, .f32⟩
  | 109 => ⟨S16384x1024, .f32⟩
  | 110 => ⟨S16384x1024, .f32⟩
  | 111 => ⟨S16384x1024, .f32⟩
  | 112 => ⟨S1x1024, .f32⟩
  | 113 => ⟨S1024, .f32⟩
  | 114 => ⟨S16384x1024, .f32⟩
  | 115 => ⟨S1x1024, .f32⟩
  | 116 => ⟨S16384x1024, .f32⟩
  | 117 => ⟨S16384x1024, .f32⟩
  | 118 => ⟨S16384x1024, .f32⟩
  | 119 => ⟨S1x1024, .f32⟩
  | 120 => ⟨S1024, .f32⟩
  | 121 => ⟨S16384x1024, .f32⟩
  | 122 => ⟨S1x1024, .f32⟩
  | 123 => ⟨S16384x1024, .f32⟩
  | 124 => ⟨S16384x1024, .f32⟩
  | 125 => ⟨S16384x1024, .f32⟩
  | 126 => ⟨S1x1024, .f32⟩
  | 127 => ⟨S1024, .f32⟩
  | _ => ⟨S16640x13312, .bf16⟩

abbrev hbmTy0_3 (i : Nat) : BufTy := match i % 128 with
  | 0 => ⟨S16384x1024, .f32⟩
  | 1 => ⟨S1x1024, .f32⟩
  | 2 => ⟨S16384x1024, .f32⟩
  | 3 => ⟨S16384x1024, .f32⟩
  | 4 => ⟨S16384x1024, .f32⟩
  | 5 => ⟨S1x1024, .f32⟩
  | 6 => ⟨S1024, .f32⟩
  | 7 => ⟨S16384x1024, .f32⟩
  | 8 => ⟨S1x1024, .f32⟩
  | 9 => ⟨S16384x1024, .f32⟩
  | 10 => ⟨S16384x1024, .f32⟩
  | 11 => ⟨S16384x1024, .f32⟩
  | 12 => ⟨S1x1024, .f32⟩
  | 13 => ⟨S1024, .f32⟩
  | 14 => ⟨S16384x1024, .f32⟩
  | 15 => ⟨S1x1024, .f32⟩
  | 16 => ⟨S16384x1024, .f32⟩
  | 17 => ⟨S16384x1024, .f32⟩
  | 18 => ⟨S16384x1024, .f32⟩
  | 19 => ⟨S1x1024, .f32⟩
  | 20 => ⟨S1024, .f32⟩
  | 21 => ⟨S16384x1024, .f32⟩
  | 22 => ⟨S1x1024, .f32⟩
  | 23 => ⟨S16384x1024, .f32⟩
  | 24 => ⟨S16384x1024, .f32⟩
  | 25 => ⟨S16384x1024, .f32⟩
  | 26 => ⟨S1x1024, .f32⟩
  | 27 => ⟨S1024, .f32⟩
  | 28 => ⟨S16384x1024, .f32⟩
  | 29 => ⟨S1x1024, .f32⟩
  | 30 => ⟨S16384x1024, .f32⟩
  | 31 => ⟨S16384x1024, .f32⟩
  | 32 => ⟨S16384x1024, .f32⟩
  | 33 => ⟨S1x1024, .f32⟩
  | 34 => ⟨S1024, .f32⟩
  | 35 => ⟨S16384x1024, .f32⟩
  | 36 => ⟨S1x1024, .f32⟩
  | 37 => ⟨S16384x1024, .f32⟩
  | 38 => ⟨S16384x1024, .f32⟩
  | 39 => ⟨S16384x1024, .f32⟩
  | 40 => ⟨S1x1024, .f32⟩
  | 41 => ⟨S1024, .f32⟩
  | 42 => ⟨S16384x1024, .f32⟩
  | 43 => ⟨S1x1024, .f32⟩
  | 44 => ⟨S16384x1024, .f32⟩
  | 45 => ⟨S16384x1024, .f32⟩
  | 46 => ⟨S16384x1024, .f32⟩
  | 47 => ⟨S1x1024, .f32⟩
  | 48 => ⟨S1024, .f32⟩
  | 49 => ⟨S16384x1024, .f32⟩
  | 50 => ⟨S1x1024, .f32⟩
  | 51 => ⟨S16384x1024, .f32⟩
  | 52 => ⟨S16384x1024, .f32⟩
  | 53 => ⟨S16384x1024, .f32⟩
  | 54 => ⟨S1x1024, .f32⟩
  | 55 => ⟨S1024, .f32⟩
  | 56 => ⟨S16384x1024, .f32⟩
  | 57 => ⟨S1x1024, .f32⟩
  | 58 => ⟨S16384x1024, .f32⟩
  | 59 => ⟨S16384x1024, .f32⟩
  | 60 => ⟨S16384x1024, .f32⟩
  | 61 => ⟨S1x1024, .f32⟩
  | 62 => ⟨S1024, .f32⟩
  | 63 => ⟨S16384x1024, .f32⟩
  | 64 => ⟨S1x1024, .f32⟩
  | 65 => ⟨S16384x1024, .f32⟩
  | 66 => ⟨S16384x1024, .f32⟩
  | 67 => ⟨S16384x1024, .f32⟩
  | 68 => ⟨S1x1024, .f32⟩
  | 69 => ⟨S1024, .f32⟩
  | 70 => ⟨S16384x1024, .f32⟩
  | 71 => ⟨S1x1024, .f32⟩
  | 72 => ⟨S16384x1024, .f32⟩
  | 73 => ⟨S16384x1024, .f32⟩
  | 74 => ⟨S16384x1024, .f32⟩
  | 75 => ⟨S1x1024, .f32⟩
  | 76 => ⟨S1024, .f32⟩
  | 77 => ⟨S16384x1024, .f32⟩
  | 78 => ⟨S1x1024, .f32⟩
  | 79 => ⟨S16384x1024, .f32⟩
  | 80 => ⟨S16384x1024, .f32⟩
  | 81 => ⟨S16384x1024, .f32⟩
  | 82 => ⟨S1x1024, .f32⟩
  | 83 => ⟨S1024, .f32⟩
  | 84 => ⟨S16384x1024, .f32⟩
  | 85 => ⟨S1x1024, .f32⟩
  | 86 => ⟨S16384x1024, .f32⟩
  | 87 => ⟨S16384x1024, .f32⟩
  | 88 => ⟨S16384x1024, .f32⟩
  | 89 => ⟨S1x1024, .f32⟩
  | 90 => ⟨S1024, .f32⟩
  | 91 => ⟨S16384x1024, .f32⟩
  | 92 => ⟨S1x1024, .f32⟩
  | 93 => ⟨S16384x1024, .f32⟩
  | 94 => ⟨S16384x1024, .f32⟩
  | 95 => ⟨S16384x1024, .f32⟩
  | 96 => ⟨S1x1024, .f32⟩
  | 97 => ⟨S1024, .f32⟩
  | 98 => ⟨S16384x1024, .f32⟩
  | 99 => ⟨S1x1024, .f32⟩
  | 100 => ⟨S16384x1024, .f32⟩
  | 101 => ⟨S16384x1024, .f32⟩
  | 102 => ⟨S16384x1024, .f32⟩
  | 103 => ⟨S1x1024, .f32⟩
  | 104 => ⟨S1024, .f32⟩
  | 105 => ⟨S16384x1024, .f32⟩
  | 106 => ⟨S1x1024, .f32⟩
  | 107 => ⟨S16384x1024, .f32⟩
  | 108 => ⟨S16384x1024, .f32⟩
  | 109 => ⟨S16384x1024, .f32⟩
  | 110 => ⟨S1x1024, .f32⟩
  | 111 => ⟨S1024, .f32⟩
  | 112 => ⟨S16384x1024, .f32⟩
  | 113 => ⟨S1x1024, .f32⟩
  | 114 => ⟨S16384x1024, .f32⟩
  | 115 => ⟨S16384x1024, .f32⟩
  | 116 => ⟨S16384x1024, .f32⟩
  | 117 => ⟨S1x1024, .f32⟩
  | 118 => ⟨S1024, .f32⟩
  | 119 => ⟨S16384x1024, .f32⟩
  | 120 => ⟨S1x1024, .f32⟩
  | 121 => ⟨S16384x1024, .f32⟩
  | 122 => ⟨S16384x1024, .f32⟩
  | 123 => ⟨S16384x1024, .f32⟩
  | 124 => ⟨S1x1024, .f32⟩
  | 125 => ⟨S1024, .f32⟩
  | 126 => ⟨S16384x1024, .f32⟩
  | 127 => ⟨S1x1024, .f32⟩
  | _ => ⟨S16640x13312, .bf16⟩

abbrev hbmTy0_4 (i : Nat) : BufTy := match i % 128 with
  | 0 => ⟨S16384x1024, .f32⟩
  | 1 => ⟨S16384x1024, .f32⟩
  | 2 => ⟨S16384x1024, .f32⟩
  | 3 => ⟨S1x1024, .f32⟩
  | 4 => ⟨S1024, .f32⟩
  | 5 => ⟨S16384x1024, .f32⟩
  | 6 => ⟨S1x1024, .f32⟩
  | 7 => ⟨S16384x1024, .f32⟩
  | 8 => ⟨S16384x1024, .f32⟩
  | 9 => ⟨S16384x1024, .f32⟩
  | 10 => ⟨S1x1024, .f32⟩
  | 11 => ⟨S16384x1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S16384x1024, .f32⟩
  | 20 => ⟨S16384x1024, .f32⟩
  | 21 => ⟨S16384x1024, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S16384x1024, .f32⟩
  | 29 => ⟨S16384x1024, .f32⟩
  | 30 => ⟨S_, .f32⟩
  | 31 => ⟨S16384x1, .f32⟩
  | 32 => ⟨S16384x1, .f32⟩
  | 33 => ⟨S16384x1, .f32⟩
  | 34 => ⟨S16384x1024, .f32⟩
  | 35 => ⟨S16384x1024, .f32⟩
  | 36 => ⟨S1x1024, .f32⟩
  | 37 => ⟨S16384x1024, .f32⟩
  | 38 => ⟨S16384x1024, .f32⟩
  | 39 => ⟨S1x1024, .f32⟩
  | 40 => ⟨S16384x1024, .f32⟩
  | 41 => ⟨S16384x1024, .f32⟩
  | 42 => ⟨S16384x1024, .f32⟩
  | 43 => ⟨S16384x1024, .f32⟩
  | 44 => ⟨S_, .f32⟩
  | 45 => ⟨S16384x1024, .f32⟩
  | 46 => ⟨S16384x1024, .f32⟩
  | 47 => ⟨S_, .f32⟩
  | 48 => ⟨S16384x1024, .f32⟩
  | 49 => ⟨S16384x1024, .f32⟩
  | 50 => ⟨S16384x1024, .f32⟩
  | 51 => ⟨S16384x1024, .f32⟩
  | 52 => ⟨S1x1024, .f32⟩
  | 53 => ⟨S16384x1024, .f32⟩
  | 54 => ⟨S16384x1024, .f32⟩
  | 55 => ⟨S16640x1024, .f32⟩
  | 56 => ⟨S16640x1024, .f32⟩
  | 57 => ⟨S16640x1024, .f32⟩
  | 58 => ⟨S_, .f32⟩
  | 59 => ⟨S16640x1024, .f32⟩
  | 60 => ⟨S16640x1024, .f32⟩
  | 61 => ⟨S_, .f32⟩
  | 62 => ⟨S16640x1024, .f32⟩
  | 63 => ⟨S16640x1024, .f32⟩
  | 64 => ⟨S16640x1024, .f32⟩
  | 65 => ⟨S16640x1024, .f32⟩
  | 66 => ⟨S16640x1024, .bf16⟩
  | _ => ⟨S16640x13312, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16640x13312, .bf16⟩

abbrev bufTy : (tb : Table) → Fin (tcTables nBuf tb) → BufTy
  | .hbm, ⟨i, _⟩ => hbmTy i
  | _, _ => ⟨S16640x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_cst_2 : Ref sig .tc := ⟨.hbm, 247, rfl⟩
abbrev main_v235 : Ref sig .tc := ⟨.hbm, 248, rfl⟩
abbrev main_v236 : Ref sig .tc := ⟨.hbm, 249, rfl⟩
abbrev main_cst_3 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_cst_4 : Ref sig .tc := ⟨.hbm, 256, rfl⟩
abbrev main_v242 : Ref sig .tc := ⟨.hbm, 257, rfl⟩
abbrev main_v243 : Ref sig .tc := ⟨.hbm, 258, rfl⟩
abbrev main_cst_5 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_cst_6 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_call1_v0 : Ref sig .tc := ⟨.hbm, 276, rfl⟩
abbrev main_call1_v1 : Ref sig .tc := ⟨.hbm, 277, rfl⟩
abbrev main_call1_cst : Ref sig .tc := ⟨.hbm, 278, rfl⟩
abbrev main_call1_v2 : Ref sig .tc := ⟨.hbm, 279, rfl⟩
abbrev main_call1_v3 : Ref sig .tc := ⟨.hbm, 280, rfl⟩
abbrev main_call1_cst_0 : Ref sig .tc := ⟨.hbm, 281, rfl⟩
abbrev main_call1_v4 : Ref sig .tc := ⟨.hbm, 282, rfl⟩
abbrev main_call1_v5 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_cst_7 : Ref sig .tc := ⟨.hbm, 293, rfl⟩
abbrev main_v268 : Ref sig .tc := ⟨.hbm, 294, rfl⟩
abbrev main_v269 : Ref sig .tc := ⟨.hbm, 295, rfl⟩
abbrev main_cst_8 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_c_9 : Ref sig .tc := ⟨.hbm, 300, rfl⟩
abbrev main_call2_v0 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_cst_10 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩
abbrev main_v311 : Ref sig .tc := ⟨.hbm, 341, rfl⟩
abbrev main_v312 : Ref sig .tc := ⟨.hbm, 342, rfl⟩
abbrev main_v313 : Ref sig .tc := ⟨.hbm, 343, rfl⟩
abbrev main_v314 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_v322 : Ref sig .tc := ⟨.hbm, 352, rfl⟩
abbrev main_v323 : Ref sig .tc := ⟨.hbm, 353, rfl⟩
abbrev main_v324 : Ref sig .tc := ⟨.hbm, 354, rfl⟩
abbrev main_v325 : Ref sig .tc := ⟨.hbm, 355, rfl⟩
abbrev main_v326 : Ref sig .tc := ⟨.hbm, 356, rfl⟩
abbrev main_v327 : Ref sig .tc := ⟨.hbm, 357, rfl⟩
abbrev main_v328 : Ref sig .tc := ⟨.hbm, 358, rfl⟩
abbrev main_v329 : Ref sig .tc := ⟨.hbm, 359, rfl⟩
abbrev main_v330 : Ref sig .tc := ⟨.hbm, 360, rfl⟩
abbrev main_v331 : Ref sig .tc := ⟨.hbm, 361, rfl⟩
abbrev main_v332 : Ref sig .tc := ⟨.hbm, 362, rfl⟩
abbrev main_v333 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_v340 : Ref sig .tc := ⟨.hbm, 370, rfl⟩
abbrev main_v341 : Ref sig .tc := ⟨.hbm, 371, rfl⟩
abbrev main_v342 : Ref sig .tc := ⟨.hbm, 372, rfl⟩
abbrev main_v343 : Ref sig .tc := ⟨.hbm, 373, rfl⟩
abbrev main_v344 : Ref sig .tc := ⟨.hbm, 374, rfl⟩
abbrev main_v345 : Ref sig .tc := ⟨.hbm, 375, rfl⟩
abbrev main_v346 : Ref sig .tc := ⟨.hbm, 376, rfl⟩
abbrev main_v347 : Ref sig .tc := ⟨.hbm, 377, rfl⟩
abbrev main_v348 : Ref sig .tc := ⟨.hbm, 378, rfl⟩
abbrev main_v349 : Ref sig .tc := ⟨.hbm, 379, rfl⟩
abbrev main_v350 : Ref sig .tc := ⟨.hbm, 380, rfl⟩
abbrev main_v351 : Ref sig .tc := ⟨.hbm, 381, rfl⟩
abbrev main_v352 : Ref sig .tc := ⟨.hbm, 382, rfl⟩
abbrev main_v353 : Ref sig .tc := ⟨.hbm, 383, rfl⟩
abbrev main_v354 : Ref sig .tc := ⟨.hbm, 384, rfl⟩
abbrev main_v355 : Ref sig .tc := ⟨.hbm, 385, rfl⟩
abbrev main_v356 : Ref sig .tc := ⟨.hbm, 386, rfl⟩
abbrev main_v357 : Ref sig .tc := ⟨.hbm, 387, rfl⟩
abbrev main_v358 : Ref sig .tc := ⟨.hbm, 388, rfl⟩
abbrev main_v359 : Ref sig .tc := ⟨.hbm, 389, rfl⟩
abbrev main_v360 : Ref sig .tc := ⟨.hbm, 390, rfl⟩
abbrev main_v361 : Ref sig .tc := ⟨.hbm, 391, rfl⟩
abbrev main_v362 : Ref sig .tc := ⟨.hbm, 392, rfl⟩
abbrev main_v363 : Ref sig .tc := ⟨.hbm, 393, rfl⟩
abbrev main_v364 : Ref sig .tc := ⟨.hbm, 394, rfl⟩
abbrev main_v365 : Ref sig .tc := ⟨.hbm, 395, rfl⟩
abbrev main_v366 : Ref sig .tc := ⟨.hbm, 396, rfl⟩
abbrev main_v367 : Ref sig .tc := ⟨.hbm, 397, rfl⟩
abbrev main_v368 : Ref sig .tc := ⟨.hbm, 398, rfl⟩
abbrev main_v369 : Ref sig .tc := ⟨.hbm, 399, rfl⟩
abbrev main_v370 : Ref sig .tc := ⟨.hbm, 400, rfl⟩
abbrev main_v371 : Ref sig .tc := ⟨.hbm, 401, rfl⟩
abbrev main_v372 : Ref sig .tc := ⟨.hbm, 402, rfl⟩
abbrev main_v373 : Ref sig .tc := ⟨.hbm, 403, rfl⟩
abbrev main_v374 : Ref sig .tc := ⟨.hbm, 404, rfl⟩
abbrev main_v375 : Ref sig .tc := ⟨.hbm, 405, rfl⟩
abbrev main_v376 : Ref sig .tc := ⟨.hbm, 406, rfl⟩
abbrev main_v377 : Ref sig .tc := ⟨.hbm, 407, rfl⟩
abbrev main_v378 : Ref sig .tc := ⟨.hbm, 408, rfl⟩
abbrev main_v379 : Ref sig .tc := ⟨.hbm, 409, rfl⟩
abbrev main_v380 : Ref sig .tc := ⟨.hbm, 410, rfl⟩
abbrev main_v381 : Ref sig .tc := ⟨.hbm, 411, rfl⟩
abbrev main_v382 : Ref sig .tc := ⟨.hbm, 412, rfl⟩
abbrev main_v383 : Ref sig .tc := ⟨.hbm, 413, rfl⟩
abbrev main_v384 : Ref sig .tc := ⟨.hbm, 414, rfl⟩
abbrev main_v385 : Ref sig .tc := ⟨.hbm, 415, rfl⟩
abbrev main_v386 : Ref sig .tc := ⟨.hbm, 416, rfl⟩
abbrev main_v387 : Ref sig .tc := ⟨.hbm, 417, rfl⟩
abbrev main_v388 : Ref sig .tc := ⟨.hbm, 418, rfl⟩
abbrev main_v389 : Ref sig .tc := ⟨.hbm, 419, rfl⟩
abbrev main_v390 : Ref sig .tc := ⟨.hbm, 420, rfl⟩
abbrev main_v391 : Ref sig .tc := ⟨.hbm, 421, rfl⟩
abbrev main_v392 : Ref sig .tc := ⟨.hbm, 422, rfl⟩
abbrev main_v393 : Ref sig .tc := ⟨.hbm, 423, rfl⟩
abbrev main_v394 : Ref sig .tc := ⟨.hbm, 424, rfl⟩
abbrev main_v395 : Ref sig .tc := ⟨.hbm, 425, rfl⟩
abbrev main_v396 : Ref sig .tc := ⟨.hbm, 426, rfl⟩
abbrev main_v397 : Ref sig .tc := ⟨.hbm, 427, rfl⟩
abbrev main_v398 : Ref sig .tc := ⟨.hbm, 428, rfl⟩
abbrev main_v399 : Ref sig .tc := ⟨.hbm, 429, rfl⟩
abbrev main_v400 : Ref sig .tc := ⟨.hbm, 430, rfl⟩
abbrev main_v401 : Ref sig .tc := ⟨.hbm, 431, rfl⟩
abbrev main_v402 : Ref sig .tc := ⟨.hbm, 432, rfl⟩
abbrev main_v403 : Ref sig .tc := ⟨.hbm, 433, rfl⟩
abbrev main_v404 : Ref sig .tc := ⟨.hbm, 434, rfl⟩
abbrev main_v405 : Ref sig .tc := ⟨.hbm, 435, rfl⟩
abbrev main_v406 : Ref sig .tc := ⟨.hbm, 436, rfl⟩
abbrev main_v407 : Ref sig .tc := ⟨.hbm, 437, rfl⟩
abbrev main_v408 : Ref sig .tc := ⟨.hbm, 438, rfl⟩
abbrev main_v409 : Ref sig .tc := ⟨.hbm, 439, rfl⟩
abbrev main_v410 : Ref sig .tc := ⟨.hbm, 440, rfl⟩
abbrev main_v411 : Ref sig .tc := ⟨.hbm, 441, rfl⟩
abbrev main_v412 : Ref sig .tc := ⟨.hbm, 442, rfl⟩
abbrev main_v413 : Ref sig .tc := ⟨.hbm, 443, rfl⟩
abbrev main_v414 : Ref sig .tc := ⟨.hbm, 444, rfl⟩
abbrev main_v415 : Ref sig .tc := ⟨.hbm, 445, rfl⟩
abbrev main_v416 : Ref sig .tc := ⟨.hbm, 446, rfl⟩
abbrev main_v417 : Ref sig .tc := ⟨.hbm, 447, rfl⟩
abbrev main_v418 : Ref sig .tc := ⟨.hbm, 448, rfl⟩
abbrev main_v419 : Ref sig .tc := ⟨.hbm, 449, rfl⟩
abbrev main_v420 : Ref sig .tc := ⟨.hbm, 450, rfl⟩
abbrev main_v421 : Ref sig .tc := ⟨.hbm, 451, rfl⟩
abbrev main_v422 : Ref sig .tc := ⟨.hbm, 452, rfl⟩
abbrev main_v423 : Ref sig .tc := ⟨.hbm, 453, rfl⟩
abbrev main_v424 : Ref sig .tc := ⟨.hbm, 454, rfl⟩
abbrev main_v425 : Ref sig .tc := ⟨.hbm, 455, rfl⟩
abbrev main_v426 : Ref sig .tc := ⟨.hbm, 456, rfl⟩
abbrev main_v427 : Ref sig .tc := ⟨.hbm, 457, rfl⟩
abbrev main_v428 : Ref sig .tc := ⟨.hbm, 458, rfl⟩
abbrev main_v429 : Ref sig .tc := ⟨.hbm, 459, rfl⟩
abbrev main_v430 : Ref sig .tc := ⟨.hbm, 460, rfl⟩
abbrev main_v431 : Ref sig .tc := ⟨.hbm, 461, rfl⟩
abbrev main_v432 : Ref sig .tc := ⟨.hbm, 462, rfl⟩
abbrev main_v433 : Ref sig .tc := ⟨.hbm, 463, rfl⟩
abbrev main_v434 : Ref sig .tc := ⟨.hbm, 464, rfl⟩
abbrev main_v435 : Ref sig .tc := ⟨.hbm, 465, rfl⟩
abbrev main_v436 : Ref sig .tc := ⟨.hbm, 466, rfl⟩
abbrev main_v437 : Ref sig .tc := ⟨.hbm, 467, rfl⟩
abbrev main_v438 : Ref sig .tc := ⟨.hbm, 468, rfl⟩
abbrev main_v439 : Ref sig .tc := ⟨.hbm, 469, rfl⟩
abbrev main_v440 : Ref sig .tc := ⟨.hbm, 470, rfl⟩
abbrev main_v441 : Ref sig .tc := ⟨.hbm, 471, rfl⟩
abbrev main_v442 : Ref sig .tc := ⟨.hbm, 472, rfl⟩
abbrev main_v443 : Ref sig .tc := ⟨.hbm, 473, rfl⟩
abbrev main_v444 : Ref sig .tc := ⟨.hbm, 474, rfl⟩
abbrev main_v445 : Ref sig .tc := ⟨.hbm, 475, rfl⟩
abbrev main_v446 : Ref sig .tc := ⟨.hbm, 476, rfl⟩
abbrev main_v447 : Ref sig .tc := ⟨.hbm, 477, rfl⟩
abbrev main_v448 : Ref sig .tc := ⟨.hbm, 478, rfl⟩
abbrev main_v449 : Ref sig .tc := ⟨.hbm, 479, rfl⟩
abbrev main_v450 : Ref sig .tc := ⟨.hbm, 480, rfl⟩
abbrev main_v451 : Ref sig .tc := ⟨.hbm, 481, rfl⟩
abbrev main_v452 : Ref sig .tc := ⟨.hbm, 482, rfl⟩
abbrev main_v453 : Ref sig .tc := ⟨.hbm, 483, rfl⟩
abbrev main_v454 : Ref sig .tc := ⟨.hbm, 484, rfl⟩
abbrev main_v455 : Ref sig .tc := ⟨.hbm, 485, rfl⟩
abbrev main_v456 : Ref sig .tc := ⟨.hbm, 486, rfl⟩
abbrev main_v457 : Ref sig .tc := ⟨.hbm, 487, rfl⟩
abbrev main_v458 : Ref sig .tc := ⟨.hbm, 488, rfl⟩
abbrev main_v459 : Ref sig .tc := ⟨.hbm, 489, rfl⟩
abbrev main_v460 : Ref sig .tc := ⟨.hbm, 490, rfl⟩
abbrev main_v461 : Ref sig .tc := ⟨.hbm, 491, rfl⟩
abbrev main_v462 : Ref sig .tc := ⟨.hbm, 492, rfl⟩
abbrev main_v463 : Ref sig .tc := ⟨.hbm, 493, rfl⟩
abbrev main_v464 : Ref sig .tc := ⟨.hbm, 494, rfl⟩
abbrev main_v465 : Ref sig .tc := ⟨.hbm, 495, rfl⟩
abbrev main_v466 : Ref sig .tc := ⟨.hbm, 496, rfl⟩
abbrev main_v467 : Ref sig .tc := ⟨.hbm, 497, rfl⟩
abbrev main_v468 : Ref sig .tc := ⟨.hbm, 498, rfl⟩
abbrev main_v469 : Ref sig .tc := ⟨.hbm, 499, rfl⟩
abbrev main_v470 : Ref sig .tc := ⟨.hbm, 500, rfl⟩
abbrev main_v471 : Ref sig .tc := ⟨.hbm, 501, rfl⟩
abbrev main_v472 : Ref sig .tc := ⟨.hbm, 502, rfl⟩
abbrev main_v473 : Ref sig .tc := ⟨.hbm, 503, rfl⟩
abbrev main_v474 : Ref sig .tc := ⟨.hbm, 504, rfl⟩
abbrev main_v475 : Ref sig .tc := ⟨.hbm, 505, rfl⟩
abbrev main_v476 : Ref sig .tc := ⟨.hbm, 506, rfl⟩
abbrev main_v477 : Ref sig .tc := ⟨.hbm, 507, rfl⟩
abbrev main_v478 : Ref sig .tc := ⟨.hbm, 508, rfl⟩
abbrev main_v479 : Ref sig .tc := ⟨.hbm, 509, rfl⟩
abbrev main_v480 : Ref sig .tc := ⟨.hbm, 510, rfl⟩
abbrev main_v481 : Ref sig .tc := ⟨.hbm, 511, rfl⟩
abbrev main_v482 : Ref sig .tc := ⟨.hbm, 512, rfl⟩
abbrev main_v483 : Ref sig .tc := ⟨.hbm, 513, rfl⟩
abbrev main_v484 : Ref sig .tc := ⟨.hbm, 514, rfl⟩
abbrev main_v485 : Ref sig .tc := ⟨.hbm, 515, rfl⟩
abbrev main_v486 : Ref sig .tc := ⟨.hbm, 516, rfl⟩
abbrev main_v487 : Ref sig .tc := ⟨.hbm, 517, rfl⟩
abbrev main_v488 : Ref sig .tc := ⟨.hbm, 518, rfl⟩
abbrev main_v489 : Ref sig .tc := ⟨.hbm, 519, rfl⟩
abbrev main_v490 : Ref sig .tc := ⟨.hbm, 520, rfl⟩
abbrev main_v491 : Ref sig .tc := ⟨.hbm, 521, rfl⟩
abbrev main_v492 : Ref sig .tc := ⟨.hbm, 522, rfl⟩
abbrev main_v493 : Ref sig .tc := ⟨.hbm, 523, rfl⟩
abbrev main_v494 : Ref sig .tc := ⟨.hbm, 524, rfl⟩
abbrev main_cst_11 : Ref sig .tc := ⟨.hbm, 525, rfl⟩
abbrev main_v495 : Ref sig .tc := ⟨.hbm, 526, rfl⟩
abbrev main_v496 : Ref sig .tc := ⟨.hbm, 527, rfl⟩
abbrev main_cst_12 : Ref sig .tc := ⟨.hbm, 528, rfl⟩
abbrev main_v497 : Ref sig .tc := ⟨.hbm, 529, rfl⟩
abbrev main_v498 : Ref sig .tc := ⟨.hbm, 530, rfl⟩
abbrev main_v499 : Ref sig .tc := ⟨.hbm, 531, rfl⟩
abbrev main_v500 : Ref sig .tc := ⟨.hbm, 532, rfl⟩
abbrev main_v501 : Ref sig .tc := ⟨.hbm, 533, rfl⟩
abbrev main_cst_13 : Ref sig .tc := ⟨.hbm, 534, rfl⟩
abbrev main_v502 : Ref sig .tc := ⟨.hbm, 535, rfl⟩
abbrev main_v503 : Ref sig .tc := ⟨.hbm, 536, rfl⟩
abbrev main_cst_14 : Ref sig .tc := ⟨.hbm, 537, rfl⟩
abbrev main_v504 : Ref sig .tc := ⟨.hbm, 538, rfl⟩
abbrev main_v505 : Ref sig .tc := ⟨.hbm, 539, rfl⟩
abbrev main_v506 : Ref sig .tc := ⟨.hbm, 540, rfl⟩
abbrev main_v507 : Ref sig .tc := ⟨.hbm, 541, rfl⟩
abbrev main_cst_15 : Ref sig .tc := ⟨.hbm, 542, rfl⟩
abbrev main_v508 : Ref sig .tc := ⟨.hbm, 543, rfl⟩
abbrev main_v509 : Ref sig .tc := ⟨.hbm, 544, rfl⟩
abbrev main_v510 : Ref sig .tc := ⟨.hbm, 545, rfl⟩
abbrev main_v511 : Ref sig .tc := ⟨.hbm, 546, rfl⟩
abbrev main_v512 : Ref sig .tc := ⟨.hbm, 547, rfl⟩
abbrev main_v513 : Ref sig .tc := ⟨.hbm, 548, rfl⟩
abbrev main_v514 : Ref sig .tc := ⟨.hbm, 549, rfl⟩
abbrev main_v515 : Ref sig .tc := ⟨.hbm, 550, rfl⟩
abbrev main_v516 : Ref sig .tc := ⟨.hbm, 551, rfl⟩
abbrev main_v517 : Ref sig .tc := ⟨.hbm, 552, rfl⟩
abbrev main_v518 : Ref sig .tc := ⟨.hbm, 553, rfl⟩
abbrev main_call3_v0 : Ref sig .tc := ⟨.hbm, 554, rfl⟩
abbrev main_call3_v1 : Ref sig .tc := ⟨.hbm, 555, rfl⟩
abbrev main_call3_cst : Ref sig .tc := ⟨.hbm, 556, rfl⟩
abbrev main_call3_v2 : Ref sig .tc := ⟨.hbm, 557, rfl⟩
abbrev main_call3_v3 : Ref sig .tc := ⟨.hbm, 558, rfl⟩
abbrev main_call3_cst_0 : Ref sig .tc := ⟨.hbm, 559, rfl⟩
abbrev main_call3_v4 : Ref sig .tc := ⟨.hbm, 560, rfl⟩
abbrev main_call3_v5 : Ref sig .tc := ⟨.hbm, 561, rfl⟩
abbrev main_v519 : Ref sig .tc := ⟨.hbm, 562, rfl⟩
abbrev main_v520 : Ref sig .tc := ⟨.hbm, 563, rfl⟩
abbrev main_v521 : Ref sig .tc := ⟨.hbm, 564, rfl⟩
abbrev main_v522 : Ref sig .tc := ⟨.hbm, 565, rfl⟩
abbrev main_v523 : Ref sig .tc := ⟨.hbm, 566, rfl⟩
abbrev main_v524 : Ref sig .tc := ⟨.hbm, 567, rfl⟩
abbrev main_call4_v0 : Ref sig .tc := ⟨.hbm, 568, rfl⟩
abbrev main_call4_v1 : Ref sig .tc := ⟨.hbm, 569, rfl⟩
abbrev main_call4_cst : Ref sig .tc := ⟨.hbm, 570, rfl⟩
abbrev main_call4_v2 : Ref sig .tc := ⟨.hbm, 571, rfl⟩
abbrev main_call4_v3 : Ref sig .tc := ⟨.hbm, 572, rfl⟩
abbrev main_call4_cst_0 : Ref sig .tc := ⟨.hbm, 573, rfl⟩
abbrev main_call4_v4 : Ref sig .tc := ⟨.hbm, 574, rfl⟩
abbrev main_call4_v5 : Ref sig .tc := ⟨.hbm, 575, rfl⟩
abbrev main_v525 : Ref sig .tc := ⟨.hbm, 576, rfl⟩
abbrev main_v526 : Ref sig .tc := ⟨.hbm, 577, rfl⟩
abbrev main_v527 : Ref sig .tc := ⟨.hbm, 578, rfl⟩

abbrev nD : Nat := 1
abbrev τ : Topo := Topo.v7x

variable {F : FTy → Type} [FloatOps F]
-- ==== First.lean ====
abbrev S256x4096 : Shape := ⟨2, ![256, 4096]⟩
abbrev S16384x4096 : Shape := ⟨2, ![16384, 4096]⟩
abbrev S4096 : Shape := ⟨1, ![4096]⟩
abbrev S8x12288 : Shape := ⟨2, ![8, 12288]⟩
abbrev S8x1x12288 : Shape := ⟨3, ![8, 1, 12288]⟩
abbrev S1x4096 : Shape := ⟨2, ![1, 4096]⟩
abbrev S16640x4096 : Shape := ⟨2, ![16640, 4096]⟩
abbrev S1x1x12288 : Shape := ⟨3, ![1, 1, 12288]⟩
abbrev S1x12288 : Shape := ⟨2, ![1, 12288]⟩
abbrev S16x4096 : Shape := ⟨2, ![16, 4096]⟩
abbrev S16 : Shape := ⟨1, ![16]⟩
abbrev S16x1 : Shape := ⟨2, ![16, 1]⟩

abbrev nBuf : Space → Nat
  | .hbm => 8
  | .vmem => 12
  | .smem => 0
  | _ => 0

abbrev bufTy : (tb : Table) → Fin (tcTables nBuf tb) → BufTy
  | .hbm, ⟨0, _⟩ => ⟨S256x4096, .f32⟩
  | .hbm, ⟨1, _⟩ => ⟨S16384x4096, .f32⟩
  | .hbm, ⟨2, _⟩ => ⟨S4096, .f32⟩
  | .hbm, ⟨3, _⟩ => ⟨S8x12288, .f32⟩
  | .hbm, ⟨4, _⟩ => ⟨S8x1x12288, .f32⟩
  | .hbm, ⟨5, _⟩ => ⟨S1x4096, .f32⟩
  | .hbm, ⟨6, _⟩ => ⟨S16640x4096, .bf16⟩
  | .hbm, ⟨7, _⟩ => ⟨S16640x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S1x4096, .f32⟩
  | .local _ .vmem, ⟨4, _⟩ => ⟨S1x1x12288, .f32⟩
  | .local _ .vmem, ⟨5, _⟩ => ⟨S1x1x12288, .f32⟩
  | .local _ .vmem, ⟨6, _⟩ => ⟨S256x4096, .bf16⟩
  | .local _ .vmem, ⟨7, _⟩ => ⟨S256x4096, .bf16⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S1x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c16_i32 : BitVec 32 := 16#32
  let v21 : BitVec 32 := Scalar.addi c0_i32_11 c16_i32
  let c1_i32 : BitVec 32 := 1#32
  ⟨c0_i32_11, v21, c1_i32⟩
def k0_mult1 (k0_t1 : Fin k0_t1_loop.trips) : BitVec 32 :=
  let c0_i32_11 : BitVec 32 := 0#32
  let c1_i32 : BitVec 32 := 1#32
  let arg9 : BitVec 32 := Scf.iv c0_i32_11 c1_i32 k0_t1
  let c16_i32_13 : BitVec 32 := 16#32
  let v22 : BitVec 32 := Scalar.muli arg9 c16_i32_13
  v22
def k0_off1 (k0_t1 : Fin k0_t1_loop.trips) : Fin 2 → Nat :=
  let c0_i32_11 : BitVec 32 := 0#32
  let c1_i32 : BitVec 32 := 1#32
  let arg9 : BitVec 32 := Scf.iv c0_i32_11 c1_i32 k0_t1
  let c16_i32_13 : BitVec 32 := 16#32
  let v22 : BitVec 32 := Scalar.muli arg9 c16_i32_13
  let v23 : BitVec 32 := v22
  let v24 : Index := Scalar.indexCast v23
  let c0_14 : Index := 0#32
  ![v24.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

@[reducible] def k0_t2_loop : Scf.Loop 32 :=
  let c0_i32_11 : BitVec 32 := 0#32
  let c16_i32 : BitVec 32 := 16#32
  let v21 : BitVec 32 := Scalar.addi c0_i32_11 c16_i32
  let c1_i32 : BitVec 32 := 1#32
  ⟨c0_i32_11, v21, c1_i32⟩
def k0_mult2 (k0_t2 : Fin k0_t2_loop.trips) : BitVec 32 :=
  let c0_i32_11 : BitVec 32 := 0#32
  let c1_i32 : BitVec 32 := 1#32
  let arg9 : BitVec 32 := Scf.iv c0_i32_11 c1_i32 k0_t2
  let c16_i32_13 : BitVec 32 := 16#32
  let v22 : BitVec 32 := Scalar.muli arg9 c16_i32_13
  v22
def k0_off2 (k0_t2 : Fin k0_t2_loop.trips) : Fin 2 → Nat :=
  let c0_i32_11 : BitVec 32 := 0#32
  let c1_i32 : BitVec 32 := 1#32
  let arg9 : BitVec 32 := Scf.iv c0_i32_11 c1_i32 k0_t2
  let c16_i32_13 : BitVec 32 := 16#32
  let v22 : BitVec 32 := Scalar.muli arg9 c16_i32_13
  let v23 : BitVec 32 := v22
  let v24 : Index := Scalar.indexCast v23
  let c0_14 : Index := 0#32
  ![v24.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let v0 : BitVec 1 := Scalar.cmpi .eq arg0 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FirstReferenceIdeal.lean ====
abbrev S256x4096 : Shape := ⟨2, ![256, 4096]⟩
abbrev S16384x4096 : Shape := ⟨2, ![16384, 4096]⟩
abbrev S4096 : Shape := ⟨1, ![4096]⟩
abbrev S8x12288 : Shape := ⟨2, ![8, 12288]⟩
abbrev S1x12288 : Shape := ⟨2, ![1, 12288]⟩
abbrev S12288 : Shape := ⟨1, ![12288]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S16384 : Shape := ⟨1, ![16384]⟩
abbrev S16384x1 : Shape := ⟨2, ![16384, 1]⟩
abbrev S16640x4096 : Shape := ⟨2, ![16640, 4096]⟩

abbrev nBuf : Space → Nat
  | .hbm => 65
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S16384x4096, .f32⟩
  | .hbm, ⟨2, _⟩ => ⟨S4096, .f32⟩
  | .hbm, ⟨3, _⟩ => ⟨S8x12288, .f32⟩
  | .hbm, ⟨4, _⟩ => ⟨S1x12288, .f32⟩
  | .hbm, ⟨5, _⟩ => ⟨S12288, .f32⟩
  | .hbm, ⟨6, _⟩ => ⟨S256x4096, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x4096, .f32⟩
  | .hbm, ⟨18, _⟩ => ⟨S256x4096, .f32⟩
  | .hbm, ⟨19, _⟩ => ⟨S1x4096, .f32⟩
  | .hbm, ⟨20, _⟩ => ⟨S256x4096, .f32⟩
  | .hbm, ⟨21, _⟩ => ⟨S256x4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S1x4096, .f32⟩
  | .hbm, ⟨27, _⟩ => ⟨S256x4096, .f32⟩
  | .hbm, ⟨28, _⟩ => ⟨S256x4096, .f32⟩
  | .hbm, ⟨29, _⟩ => ⟨S4096, .f32⟩
  | .hbm, ⟨30, _⟩ => ⟨S1x4096, .f32⟩
  | .hbm, ⟨31, _⟩ => ⟨S256x4096, .f32⟩
  | .hbm, ⟨32, _⟩ => ⟨S256x4096, .f32⟩
  | .hbm, ⟨33, _⟩ => ⟨S1x12288, .f32⟩
  | .hbm, ⟨34, _⟩ => ⟨S12288, .f32⟩
  | .hbm, ⟨35, _⟩ => ⟨S16384x4096, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x4096, .f32⟩
  | .hbm, ⟨47, _⟩ => ⟨S16384x4096, .f32⟩
  | .hbm, ⟨48, _⟩ => ⟨S1x4096, .f32⟩
  | .hbm, ⟨49, _⟩ => ⟨S16384x4096, .f32⟩
  | .hbm, ⟨50, _⟩ => ⟨S16384x4096, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S1x4096, .f32⟩
  | .hbm, ⟨56, _⟩ => ⟨S16384x4096, .f32⟩
  | .hbm, ⟨57, _⟩ => ⟨S16384x4096, .f32⟩
  | .hbm, ⟨58, _⟩ => ⟨S4096, .f32⟩
  | .hbm, ⟨59, _⟩ => ⟨S1x4096, .f32⟩
  | .hbm, ⟨60, _⟩ => ⟨S16384x4096, .f32⟩
  | .hbm, ⟨61, _⟩ => ⟨S16384x4096, .f32⟩
  | .hbm, ⟨62, _⟩ => ⟨S16640x4096, .f32⟩
  | .hbm, ⟨63, _⟩ => ⟨S16640x4096, .bf16⟩
  | .hbm, ⟨64, _⟩ => ⟨S16640x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Proof.InProj.lean ====
/- The input projection: the kernel's result array, block by block, is one product of the activations with the layer's
   weights, its columns rotated; the reference's slices and concatenation read the same product. -/
module

public import proofs.«01_k».proof.Defs
public import proofs.«01_k».proof.Proof.Gen.InProj.Frame
public import proofs.«01_k».proof.Proof.Gen.InProjIdeal.Value
public import proofs.«01_k».proof.Proof.Gen.InReferenceIdeal.Run
public import Idealize.ShloMosaic.Lib.Pipeline.Value
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjIdeal.Projection

open Cert.InProjIdeal Cert.InProjIdeal.Gen

variable (m : (ℓ : Loc nD τ sig) → Buf (Elt Ideal) ℓ) (ρ : Dev nD → PrngReg)

/-- The projection at one element: row `i 0` of the activations against the layer's column `i 1 + 5120`, round the end. -/
def proj (h : FVec Ideal S16640x4096 .bf16) (w : FVec Ideal S4x4096x13312 .f32) : FVec Ideal S16640x13312 .bf16 :=
  fun i => ∑ k : Fin 4096, h (ix2 (i 0) k) * w (ix3 (0 : Fin 4) k (⟨((i 1).val + 5120) % 13312, Nat.mod_lt _ (by decide)⟩ : Fin 13312))

theorem index0 : ∀ t : Fin grid0.N, win0_0.index t 0 = t.val / 26 ∧ win0_0.index t 1 = 0 := by decide +kernel
theorem index1 : ∀ t : Fin grid0.N, win0_1.index t 0 = 0 ∧ win0_1.index t 1 = 0 ∧ win0_1.index t 2 = (t.val % 26 + 10) % 26 := by
  decide +kernel
theorem index2 : ∀ t : Fin grid0.N, win0_2.index t 0 = t.val / 26 ∧ win0_2.index t 1 = t.val % 26 := by decide +kernel

theorem point_lt (t : Fin cfg0.N) : t.val < 338 := by have := t.isLt; have hN : cfg0.N = 338 := N_0; omega

/-- Row `r` of the point's block of rows, in the whole array. -/
abbrev row (t : Fin cfg0.N) (r : Fin 1280) : Fin 16640 := ⟨t.val / 26 * 1280 + r.val, by have := point_lt t; omega⟩
/-- Column `l` of the point's block of columns, in the whole array. -/
abbrev col (t : Fin cfg0.N) (l : Fin 512) : Fin 13312 := ⟨t.val % 26 * 512 + l.val, by omega⟩

/-- The block of activations at a point, read at an index. -/
theorem rows_apply (c : Dev nD) (t : Fin cfg0.N) (r : Fin 1280) (k : Fin 4096) :
    (iblk m c 0 t : FVec Ideal S1280x4096 .bf16) (ix2 r k) = m ((c : Thread nD τ).loc main_arg0) (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 1280 + 1 * r.val = t.val / 26 * 1280 + r.val; rw [(index0 t).1]; omega
  | ⟨1, _⟩ => show win0_0.index t 1 * 4096 + 1 * k.val = k.val; rw [(index0 t).2]; omega

/-- The block of weights at a point, read at an index: the column is the result's, 5120 further, round the end. -/
theorem weights_apply (c : Dev nD) (t : Fin cfg0.N) (k : Fin 4096) (l : Fin 512) :
    (iblk m c 1 t : FVec Ideal S1x4096x512 .f32) (ix3 (0 : Fin 1) k l)
      = m ((c : Thread nD τ).loc main_arg1)
          (ix3 (0 : Fin 4) k (⟨((col t l).val + 5120) % 13312, Nat.mod_lt _ (by decide)⟩ : Fin 13312)) := by
  unfold iblk
  rw [View.read_apply]
  show V m c main_arg1 _ = m (c.tc.loc main_arg1) _
  unfold V
  congr 1
  funext a
  apply Fin.ext
  match a with
  | ⟨0, _⟩ => show win0_1.index t 0 * 1 + 1 * 0 = 0; rw [(index1 t).1]
  | ⟨1, _⟩ => show win0_1.index t 1 * 4096 + 1 * k.val = k.val; rw [(index1 t).2.1]; omega
  | ⟨2, _⟩ => show win0_1.index t 2 * 512 + 1 * l.val = (t.val % 26 * 512 + l.val + 5120) % 13312
              rw [(index1 t).2.2]; have := l.isLt; omega

/-- What the body computes of the two blocks, at an index. -/
theorem payload_apply (x : FVec Ideal S1280x4096 .bf16) (w : FVec Ideal S1x4096x512 .f32) (r : Fin 1280) (l : Fin 512) :
    k0_pay1 x w (ix2 r l) = ∑ k : Fin 4096, x (ix2 r k) * w (ix3 (0 : Fin 1) k l) := by
  pointwise [k0_pay1]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The whole-array projection of device `c`'s arguments. -/
abbrev result (c : Dev nD) : Buf (Elt Ideal) ((c : Thread nD τ).loc main_v0) :=
  proj (m ((c : Thread nD τ).loc main_arg0)) (m ((c : Thread nD τ).loc main_arg1))

/-- Each point writes back its block of the whole projection. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold out0_2
  rw [View.canon_unit_zero zeros2, View.ld_unit_zero zeros2, View.ld_unit_zero zeros3]
  funext y
  obtain ⟨r, l, rfl⟩ : ∃ (r : Fin 1280) (l : Fin 512), y = ix2 r l := ⟨y 0, y 1, funext fun a => by fin_cases a <;> rfl⟩
  rw [View.read_apply]
  show k0_pay1 (F := Ideal) (iblk m c 0 t) (iblk m c 1 t) (ix2 r l) = result m c ((win0_2.rect t).emb (ix2 r l))
  have e : (win0_2.rect t).emb (ix2 r l) = ix2 (row t r) (col t l) := by
    funext a
    apply Fin.ext
    match a with
    | ⟨0, _⟩ => show win0_2.index t 0 * 1280 + 1 * r.val = t.val / 26 * 1280 + r.val; rw [(index2 t).1]; omega
    | ⟨1, _⟩ => show win0_2.index t 1 * 512 + 1 * l.val = t.val % 26 * 512 + l.val; rw [(index2 t).2]; omega
  refine (payload_apply _ _ r l).trans ((Finset.sum_congr rfl fun k _ => ?_).trans (congrArg (result m c) e).symm)
  exact congrArg₂ (· * ·) (rows_apply m c t r k) (weights_apply m c t k l)

/-- The blocks tile the result. -/
theorem cover (i : S16640x13312.Idx) :
    ∃ t : Fin cfg0.N, (cfg0.win 2).flush t = true ∧ i ∈ ((cfg0.win 2).blk t).view.set := by
  have h0 : (i 0 : Nat) < 16640 := (i 0).isLt
  have h1 : (i 1 : Nat) < 13312 := (i 1).isLt
  have hN : cfg0.N = 338 := N_0
  refine ⟨⟨(i 0 : Nat) / 1280 * 26 + (i 1 : Nat) / 512, by omega⟩, flush0_2 _, ?_⟩
  generalize ht : (⟨(i 0 : Nat) / 1280 * 26 + (i 1 : Nat) / 512, _⟩ : Fin cfg0.N) = t
  have hv : t.val = (i 0 : Nat) / 1280 * 26 + (i 1 : Nat) / 512 := by rw [← ht]
  show i ∈ ((View.whole main_v0).slice (win0_2.rect t)).set
  rw [View.set_slice_whole, Rect.mem_set_unit]
  intro a
  match a with
  | ⟨0, _⟩ => show win0_2.index t 0 * 1280 ≤ (i 0 : Nat) ∧ (i 0 : Nat) < win0_2.index t 0 * 1280 + 1280
              rw [(index2 t).1]; omega
  | ⟨1, _⟩ => show win0_2.index t 1 * 512 ≤ (i 1 : Nat) ∧ (i 1 : Nat) < win0_2.index t 1 * 512 + 512
              rw [(index2 t).2]; omega

theorem final_result (c : Dev nD) : (dats m 0 c).arrAt 2 cfg0.N = result m c :=
  (dats m 0 c).arrAt_eq_of_cover 2 (result m c) (fun t _ => flushed_eq m c t) cover

end Cert.InProjIdeal.Projection

namespace Cert.InReferenceIdeal.Projection

open Cert.InReferenceIdeal Cert.InReferenceIdeal.Gen

/-- The reference's composed term is the projection. -/
theorem composed (h : FVec Ideal S16640x4096 .bf16) (w : FVec Ideal S4x4096x13312 .f32) :
    (truncf .bf16 (concatenate S16640x13312 1 [⟨S16640x8192, (extractStridedSlice S16640x8192 ![0, 5120] (Host.dotGeneral dot_S16640x4096_S4096x13312_S16640x13312_1_0_0_1_n_n none (extf .f32 h bitsLt_bf16_f32) (shapeCast _ (extractStridedSlice S1x4096x13312 ![0, 0, 0] w slices_S4x4096x13312_S1x4096x13312_0_0_0) shapeCasts_S1x4096x13312_S4096x13312)) slices_S16640x13312_S16640x8192_0_5120)⟩, ⟨S16640x5120, (extractStridedSlice S16640x5120 ![0, 0] (Host.dotGeneral dot_S16640x4096_S4096x13312_S16640x13312_1_0_0_1_n_n none (extf .f32 h bitsLt_bf16_f32) (shapeCast _ (extractStridedSlice S1x4096x13312 ![0, 0, 0] w slices_S4x4096x13312_S1x4096x13312_0_0_0) shapeCasts_S1x4096x13312_S4096x13312)) slices_S16640x13312_S16640x5120_0_0)⟩] concatenates_S16640x8192_S16640x5120_S16640x13312_d1) bitsLt_bf16_f32 : FVec Ideal S16640x13312 .bf16)
      = Cert.InProjIdeal.Projection.proj h w := by
  funext j
  idx_vars j
  pointwise [Cert.InProjIdeal.Projection.proj]
  split
  · refine Finset.sum_congr rfl fun k _ => congrArg (h _ * w ·) ?_
    exact congrArg (ix3 (0 : Fin 4) k) (Fin.ext (by dsimp only; omega))
  · refine Finset.sum_congr rfl fun k _ => congrArg (h _ * w ·) ?_
    exact congrArg (ix3 (0 : Fin 4) k) (Fin.ext (by dsimp only; have := j1.isLt; omega))

end Cert.InReferenceIdeal.Projection

namespace Cert.Proof.InProjClaims

theorem algebraic : Cert.algebraic_InProjIdeal_InReferenceIdeal := by
  intro m g m' g' _ hargs
  refine ⟨fun c => Cert.InProjIdeal.Projection.result m c, ?_, ?_⟩
  · exact (θ_run _ _ _).mono (fun r h c => ⟨(h c).1.trans (Cert.InProjIdeal.Projection.final_result m c), (h c).2⟩)
      (Cert.InProjIdeal.Value.run_blocks m g)
  · refine (θ_run _ _ _).mono (fun r h c => ⟨(h c).1.trans ?_, (h c).2⟩) (Cert.InReferenceIdeal.Value.run m' g')
    rw [(hargs c).1, (hargs c).2]
    exact Cert.InReferenceIdeal.Projection.composed _ _

end Cert.Proof.InProjClaims

end
-- ==== Proof.OutProj.lean ====
/- The output projection with its gated residual: the kernel multiplies the three mixers by their rows of the weights one after
   the other, a product over the 4096 channels cut in three, and each block of the result is its block of that. -/
module

public import proofs.«01_k».proof.Defs
public import proofs.«01_k».proof.Proof.Gen.OutProj.Frame
public import proofs.«01_k».proof.Proof.Gen.OutProjIdeal.Value
public import proofs.«01_k».proof.Proof.Gen.OutReferenceIdeal.Read
public import Idealize.ShloMosaic.Lib.Pipeline.Value
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.Projection

open Cert.OutProjIdeal Cert.OutProjIdeal.Gen

variable (m : (ℓ : Loc nD τ sig) → Buf (Elt Ideal) ℓ) (ρ : Dev nD → PrngReg)

/-- The gate of a row: the context's rows come first. -/
def gate (mod : FVec Ideal S8x12288 .f32) (r : Fin 16640) (l : Fin 4096) : EReal :=
  if r.val < 256 then mod (ix2 (1 : Fin 8) (⟨8192 + l.val, by omega⟩ : Fin 12288))
  else mod (ix2 (0 : Fin 8) (⟨8192 + l.val, by omega⟩ : Fin 12288))

/-- The three mixers against their rows of the weights. -/
def mixed (a b : FVec Ideal S16640x1024 .bf16) (d : FVec Ideal S16640x2048 .bf16) (w : FVec Ideal S4x4096x4096 .f32)
    (r : Fin 16640) (l : Fin 4096) : EReal :=
  (∑ k : Fin 1024, a (ix2 r k) * w (ix3 (0 : Fin 4) (⟨k.val, by omega⟩ : Fin 4096) l))
    + (∑ k : Fin 1024, b (ix2 r k) * w (ix3 (0 : Fin 4) (⟨1024 + k.val, by omega⟩ : Fin 4096) l))
    + ∑ k : Fin 2048, d (ix2 r k) * w (ix3 (0 : Fin 4) (⟨2048 + k.val, by omega⟩ : Fin 4096) l)

/-- The residual stream after the layer, at one element. -/
def stream (a b : FVec Ideal S16640x1024 .bf16) (d : FVec Ideal S16640x2048 .bf16) (w : FVec Ideal S4x4096x4096 .f32)
    (x : FVec Ideal S16640x4096 .f32) (mod : FVec Ideal S8x12288 .f32) : FVec Ideal S16640x4096 .f32 :=
  fun i => x (ix2 (i 0) (i 1)) + gate mod (i 0) (i 1) * mixed a b d w (i 0) (i 1)

theorem index0 : ∀ t : Fin grid0.N, win0_0.index t 0 = t.val / 8 ∧ win0_0.index t 1 = 0 := by decide +kernel
theorem index1 : ∀ t : Fin grid0.N, win0_1.index t 0 = t.val / 8 ∧ win0_1.index t 1 = 0 := by decide +kernel
theorem index2 : ∀ t : Fin grid0.N, win0_2.index t 0 = t.val / 8 ∧ win0_2.index t 1 = 0 := by decide +kernel
theorem index3 : ∀ t : Fin grid0.N, win0_3.index t 0 = 0 ∧ win0_3.index t 1 = 0 ∧ win0_3.index t 2 = t.val % 8 := by decide +kernel
theorem index4 : ∀ t : Fin grid0.N, win0_4.index t 0 = 0 ∧ win0_4.index t 1 = 1 ∧ win0_4.index t 2 = t.val % 8 := by decide +kernel
theorem index5 : ∀ t : Fin grid0.N, win0_5.index t 0 = 0 ∧ win0_5.index t 1 = 1 ∧ win0_5.index t 2 = t.val % 8 := by decide +kernel
theorem index6 : ∀ t : Fin grid0.N, win0_6.index t 0 = t.val / 8 ∧ win0_6.index t 1 = t.val % 8 := by decide +kernel
theorem index7 : ∀ t : Fin grid0.N, win0_7.index t 0 = 0 ∧ win0_7.index t 1 = t.val % 8 + 16 := by decide +kernel
theorem index8 : ∀ t : Fin grid0.N, win0_8.index t 0 = t.val / 8 ∧ win0_8.index t 1 = t.val % 8 := by decide +kernel
theorem coord0 : ∀ t : Fin grid0.N, (grid0.coords t 0).val = t.val / 8 := by decide +kernel

theorem point_lt (t : Fin cfg0.N) : t.val < 104 := by have := t.isLt; have hN : cfg0.N = 104 := N_0; omega

/-- Row `r` of the point's block of rows, in the whole array. -/
abbrev row (t : Fin cfg0.N) (r : Fin 1280) : Fin 16640 := ⟨t.val / 8 * 1280 + r.val, by have := point_lt t; omega⟩
/-- Column `l` of the point's block of columns, in the whole array. -/
abbrev col (t : Fin cfg0.N) (l : Fin 512) : Fin 4096 := ⟨t.val % 8 * 512 + l.val, by omega⟩

/-- A mixer's block of rows at a point, read at an index. -/
theorem conv_apply (c : Dev nD) (t : Fin cfg0.N) (r : Fin 1280) (k : Fin 1024) :
    (iblk m c 0 t : FVec Ideal S1280x1024 .bf16) (ix2 r k) = m ((c : Thread nD τ).loc main_arg0) (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 1280 + 1 * r.val = t.val / 8 * 1280 + r.val; rw [(index0 t).1]; omega
  | ⟨1, _⟩ => show win0_0.index t 1 * 1024 + 1 * k.val = k.val; rw [(index0 t).2]; omega

/-- A mixer's block of rows at a point, read at an index. -/
theorem rec_apply (c : Dev nD) (t : Fin cfg0.N) (r : Fin 1280) (k : Fin 1024) :
    (iblk m c 1 t : FVec Ideal S1280x1024 .bf16) (ix2 r k) = m ((c : Thread nD τ).loc main_arg1) (ix2 (row t r) k) := by
  unfold iblk
  rw [View.read_apply]
  show V m c main_arg1 _ = m (c.tc.loc main_arg1) _
  unfold V
  congr 1
  funext a
  apply Fin.ext
  match a with
  | ⟨0, _⟩ => show win0_1.index t 0 * 1280 + 1 * r.val = t.val / 8 * 1280 + r.val; rw [(index1 t).1]; omega
  | ⟨1, _⟩ => show win0_1.index t 1 * 1024 + 1 * k.val = k.val; rw [(index1 t).2]; omega

/-- A mixer's block of rows at a point, read at an index. -/
theorem att_apply (c : Dev nD) (t : Fin cfg0.N) (r : Fin 1280) (k : Fin 2048) :
    (iblk m c 2 t : FVec Ideal S1280x2048 .bf16) (ix2 r k) = m ((c : Thread nD τ).loc main_arg2) (ix2 (row t r) k) := by
  unfold iblk
  rw [View.read_apply]
  show V m c main_arg2 _ = m (c.tc.loc main_arg2) _
  unfold V
  congr 1
  funext a
  apply Fin.ext
  match a with
  | ⟨0, _⟩ => show win0_2.index t 0 * 1280 + 1 * r.val = t.val / 8 * 1280 + r.val; rw [(index2 t).1]; omega
  | ⟨1, _⟩ => show win0_2.index t 1 * 2048 + 1 * k.val = k.val; rw [(index2 t).2]; omega

/-- A mixer's block of the weights at a point, read at an index. -/
theorem conv_weights_apply (c : Dev nD) (t : Fin cfg0.N) (k : Fin 1024) (l : Fin 512) :
    (iblk m c 3 t : FVec Ideal S1x1024x512 .f32) (ix3 (0 : Fin 1) k l) = m ((c : Thread nD τ).loc main_arg3) (ix3 (0 : Fin 4) (⟨k.val, by omega⟩ : Fin 4096) (col t l)) := by
  unfold iblk
  rw [View.read_apply]
  show V m c main_arg3 _ = m (c.tc.loc main_arg3) _
  unfold V
  congr 1
  funext a
  apply Fin.ext
  match a with
  | ⟨0, _⟩ => show win0_3.index t 0 * 1 + 1 * 0 = 0; rw [(index3 t).1]
  | ⟨1, _⟩ => show win0_3.index t 1 * 1024 + 1 * k.val = k.val; rw [(index3 t).2.1]; omega
  | ⟨2, _⟩ => show win0_3.index t 2 * 512 + 1 * l.val = t.val % 8 * 512 + l.val; rw [(index3 t).2.2]; omega

/-- A mixer's block of the weights at a point, read at an index. -/
theorem rec_weights_apply (c : Dev nD) (t : Fin cfg0.N) (k : Fin 1024) (l : Fin 512) :
    (iblk m c 4 t : FVec Ideal S1x1024x512 .f32) (ix3 (0 : Fin 1) k l) = m ((c : Thread nD τ).loc main_arg3) (ix3 (0 : Fin 4) (⟨1024 + k.val, by omega⟩ : Fin 4096) (col t l)) := by
  unfold iblk
  rw [View.read_apply]
  show V m c main_arg3 _ = m (c.tc.loc main_arg3) _
  unfold V
  congr 1
  funext a
  apply Fin.ext
  match a with
  | ⟨0, _⟩ => show win0_4.index t 0 * 1 + 1 * 0 = 0; rw [(index4 t).1]
  | ⟨1, _⟩ => show win0_4.index t 1 * 1024 + 1 * k.val = 1024 + k.val; rw [(index4 t).2.1]; omega
  | ⟨2, _⟩ => show win0_4.index t 2 * 512 + 1 * l.val = t.val % 8 * 512 + l.val; rw [(index4 t).2.2]; omega

/-- A mixer's block of the weights at a point, read at an index. -/
theorem att_weights_apply (c : Dev nD) (t : Fin cfg0.N) (k : Fin 2048) (l : Fin 512) :
    (iblk m c 5 t : FVec Ideal S1x2048x512 .f32) (ix3 (0 : Fin 1) k l) = m ((c : Thread nD τ).loc main_arg3) (ix3 (0 : Fin 4) (⟨2048 + k.val, by omega⟩ : Fin 4096) (col t l)) := by
  unfold iblk
  rw [View.read_apply]
  show V m c main_arg3 _ = m (c.tc.loc main_arg3) _
  unfold V
  congr 1
  funext a
  apply Fin.ext
  match a with
  | ⟨0, _⟩ => show win0_5.index t 0 * 1 + 1 * 0 = 0; rw [(index5 t).1]
  | ⟨1, _⟩ => show win0_5.index t 1 * 2048 + 1 * k.val = 2048 + k.val; rw [(index5 t).2.1]; omega
  | ⟨2, _⟩ => show win0_5.index t 2 * 512 + 1 * l.val = t.val % 8 * 512 + l.val; rw [(index5 t).2.2]; omega

/-- The residual stream's block at a point, read at an index. -/
theorem stream_apply (c : Dev nD) (t : Fin cfg0.N) (r : Fin 1280) (l : Fin 512) :
    (iblk m c 6 t : FVec Ideal S1280x512 .f32) (ix2 r l) = m ((c : Thread nD τ).loc main_arg4) (ix2 (row t r) (col t l)) := by
  unfold iblk
  rw [View.read_apply]
  show V m c main_arg4 _ = m (c.tc.loc main_arg4) _
  unfold V
  congr 1
  funext a
  apply Fin.ext
  match a with
  | ⟨0, _⟩ => show win0_6.index t 0 * 1280 + 1 * r.val = t.val / 8 * 1280 + r.val; rw [(index6 t).1]; omega
  | ⟨1, _⟩ => show win0_6.index t 1 * 512 + 1 * l.val = t.val % 8 * 512 + l.val; rw [(index6 t).2]; omega

/-- The gates' block at a point, read at an index. -/
theorem mod_apply (c : Dev nD) (t : Fin cfg0.N) (q : Fin 8) (l : Fin 512) :
    (iblk m c 7 t : FVec Ideal S8x512 .f32) (ix2 q l) = m ((c : Thread nD τ).loc main_arg5) (ix2 q (⟨8192 + (col t l).val, by omega⟩ : Fin 12288)) := by
  unfold iblk
  rw [View.read_apply]
  show V m c main_arg5 _ = m (c.tc.loc main_arg5) _
  unfold V
  congr 1
  funext a
  apply Fin.ext
  match a with
  | ⟨0, _⟩ => show win0_7.index t 0 * 8 + 1 * q.val = q.val; rw [(index7 t).1]; omega
  | ⟨1, _⟩ => show win0_7.index t 1 * 512 + 1 * l.val = 8192 + (t.val % 8 * 512 + l.val); rw [(index7 t).2]; omega

/-- The kernel's test for a context row, on words, is the one on numbers. -/
theorem context_word : ∀ (a : Fin 13) (r : Fin 1280),
    (IntOp.cmpi CmpIPredicate.slt (IntOp.addi (Scalar.muli (BitVec.ofNat 32 a.val) 1280#32) (BitVec.ofNat 32 r.val)) 256#32 = 1#1)
      ↔ a.val * 1280 + r.val < 256 := by decide +kernel

/-- What the body computes of its blocks, at an index. -/
theorem payload_apply (i : grid0.Coords) (a : FVec Ideal S1280x1024 .bf16) (wa : FVec Ideal S1x1024x512 .f32)
    (b : FVec Ideal S1280x1024 .bf16) (wb : FVec Ideal S1x1024x512 .f32) (d : FVec Ideal S1280x2048 .bf16)
    (wd : FVec Ideal S1x2048x512 .f32) (gc gl : FVec Ideal S1x512 .f32) (x : FVec Ideal S1280x512 .f32) (r : Fin 1280) (l : Fin 512) :
    k0_pay1 (F := Ideal) x (k0_pay2 (F := Ideal) i a wa b wb d wd gc gl) (ix2 r l)
      = x (ix2 r l)
        + (if (i 0).val * 1280 + r.val < 256 then gc (ix2 (0 : Fin 1) l) else gl (ix2 (0 : Fin 1) l))
          * ((∑ k : Fin 1024, a (ix2 r k) * wa (ix3 (0 : Fin 1) k l)) + (∑ k : Fin 1024, b (ix2 r k) * wb (ix3 (0 : Fin 1) k l))
            + ∑ k : Fin 2048, d (ix2 r k) * wd (ix3 (0 : Fin 1) k l)) := by
  have h := context_word (i 0) r
  rw [if_congr h.symm rfl rfl]
  pointwise [k0_pay1, k0_pay2]
  rfl

theorem zeros2 : (![0, 0] : Fin 2 → Nat) = fun _ => 0 := funext fun a => by fin_cases a <;> rfl
theorem zeros3 : (![0, 0, 0] : Fin 3 → Nat) = fun _ => 0 := funext fun a => by fin_cases a <;> rfl

/-- The residual stream after the layer, of device `c`'s arguments. -/
abbrev result (c : Dev nD) : Buf (Elt Ideal) ((c : Thread nD τ).loc main_v0) :=
  stream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Where the two gates' rows lie in their block. -/
theorem gate_row (l : Fin 512) :
    r0_4.emb (ix2 (0 : Fin 1) l) = ix2 (1 : Fin 8) l ∧ r0_5.emb (ix2 (0 : Fin 1) l) = ix2 (0 : Fin 8) l := by
  constructor <;> funext a <;> apply Fin.ext <;> match a with
    | ⟨0, _⟩ => rfl
    | ⟨1, _⟩ => show 0 + 1 * l.val = l.val; omega

/-- The gate the body picks is the row's gate. -/
theorem gate_eq (c : Dev nD) (t : Fin cfg0.N) (r : Fin 1280) (l : Fin 512) :
    (if (grid0.coords t 0).val * 1280 + r.val < 256
      then (iblk m c 7 t : FVec Ideal S8x512 .f32) (r0_4.emb (ix2 (0 : Fin 1) l))
      else (iblk m c 7 t : FVec Ideal S8x512 .f32) (r0_5.emb (ix2 (0 : Fin 1) l)))
      = gate (m ((c : Thread nD τ).loc main_arg5)) (row t r) (col t l) := by
  have h0 := coord0 t
  have e4 : (iblk m c 7 t : FVec Ideal S8x512 .f32) (r0_4.emb (ix2 (0 : Fin 1) l)) = _ :=
    (congrArg (iblk m c 7 t : FVec Ideal S8x512 .f32) (gate_row l).1).trans (mod_apply m c t 1 l)
  have e5 : (iblk m c 7 t : FVec Ideal S8x512 .f32) (r0_5.emb (ix2 (0 : Fin 1) l)) = _ :=
    (congrArg (iblk m c 7 t : FVec Ideal S8x512 .f32) (gate_row l).2).trans (mod_apply m c t 0 l)
  rw [e4, e5, h0]
  rfl

/-- Each point writes back its block of the whole stream. -/
theorem flushed_eq (c : Dev nD) (t : Fin cfg0.N) :
    (dats m 0 c).flushed 8 t = ((cfg0.win 8).blk t).view.read (Elt Ideal) (result m c) := by
  show (cfg0.win 8).cut (grid0.coords t) ((dats m 0 c).after 8 t) = _
  rw [after0_8]
  unfold out0_8
  rw [View.canon_unit_zero zeros2]
  simp only [View.ld_unit_zero (S := S1280x512) zeros2, View.ld_unit_zero (S := S1280x1024) zeros2,
    View.ld_unit_zero (S := S1280x2048) zeros2, View.ld_unit_zero (S := S1x1024x512) zeros3, View.ld_unit_zero (S := S1x2048x512) zeros3]
  funext y
  obtain ⟨r, l, rfl⟩ : ∃ (r : Fin 1280) (l : Fin 512), y = ix2 r l := ⟨y 0, y 1, funext fun a => by fin_cases a <;> rfl⟩
  rw [View.read_apply]
  have e : (win0_8.rect t).emb (ix2 r l) = ix2 (row t r) (col t l) := by
    funext a
    apply Fin.ext
    match a with
    | ⟨0, _⟩ => show win0_8.index t 0 * 1280 + 1 * r.val = t.val / 8 * 1280 + r.val; rw [(index8 t).1]; omega
    | ⟨1, _⟩ => show win0_8.index t 1 * 512 + 1 * l.val = t.val % 8 * 512 + l.val; rw [(index8 t).2]; omega
  refine (payload_apply (grid0.coords t) _ _ _ _ _ _ _ _ _ r l).trans (Eq.trans ?_ (congrArg (result m c) e).symm)
  refine congrArg₂ (· + ·) (stream_apply m c t r l) (congrArg₂ (· * ·) ?_ (congrArg₂ (· + ·) (congrArg₂ (· + ·)
    (Finset.sum_congr rfl fun k _ => congrArg₂ (· * ·) (conv_apply m c t r k) (conv_weights_apply m c t k l))
    (Finset.sum_congr rfl fun k _ => congrArg₂ (· * ·) (rec_apply m c t r k) (rec_weights_apply m c t k l)))
    (Finset.sum_congr rfl fun k _ => congrArg₂ (· * ·) (att_apply m c t r k) (att_weights_apply m c t k l))))
  exact gate_eq m c t r l

/-- The blocks tile the result. -/
theorem cover (i : S16640x4096.Idx) :
    ∃ t : Fin cfg0.N, (cfg0.win 8).flush t = true ∧ i ∈ ((cfg0.win 8).blk t).view.set := by
  have h0 : (i 0 : Nat) < 16640 := (i 0).isLt
  have h1 : (i 1 : Nat) < 4096 := (i 1).isLt
  have hN : cfg0.N = 104 := N_0
  refine ⟨⟨(i 0 : Nat) / 1280 * 8 + (i 1 : Nat) / 512, by omega⟩, flush0_8 _, ?_⟩
  generalize ht : (⟨(i 0 : Nat) / 1280 * 8 + (i 1 : Nat) / 512, _⟩ : Fin cfg0.N) = t
  have hv : t.val = (i 0 : Nat) / 1280 * 8 + (i 1 : Nat) / 512 := by rw [← ht]
  show i ∈ ((View.whole main_v0).slice (win0_8.rect t)).set
  rw [View.set_slice_whole, Rect.mem_set_unit]
  intro a
  match a with
  | ⟨0, _⟩ => show win0_8.index t 0 * 1280 ≤ (i 0 : Nat) ∧ (i 0 : Nat) < win0_8.index t 0 * 1280 + 1280
              rw [(index8 t).1]; omega
  | ⟨1, _⟩ => show win0_8.index t 1 * 512 ≤ (i 1 : Nat) ∧ (i 1 : Nat) < win0_8.index t 1 * 512 + 512
              rw [(index8 t).2]; omega

theorem final_result (c : Dev nD) : (dats m 0 c).arrAt 8 cfg0.N = result m c :=
  (dats m 0 c).arrAt_eq_of_cover 8 (result m c) (fun t _ => flushed_eq m c t) cover

end Cert.OutProjIdeal.Projection

namespace Cert.OutReferenceIdeal.Projection

open Cert.OutReferenceIdeal Cert.OutReferenceIdeal.Gen
open Cert.OutProjIdeal.Projection (gate mixed stream)

/-- A sum over the 4096 channels, cut at the mixers' bounds. -/
theorem sum_mixers (f : Fin 4096 → EReal) :
    ∑ k : Fin 4096, f k = (∑ k : Fin 1024, f (⟨k.val, by omega⟩ : Fin 4096)) + (∑ k : Fin 1024, f (⟨1024 + k.val, by omega⟩ : Fin 4096))
      + ∑ k : Fin 2048, f (⟨2048 + k.val, by omega⟩ : Fin 4096) := by
  refine (Fin.sum_univ_add (a := 1024 + 1024) (b := 2048) f).trans (congrArg₂ (· + ·) ?_ rfl)
  exact Fin.sum_univ_add (a := 1024) (b := 1024) fun k => f (Fin.castAdd 2048 k)

open Cert.OutReferenceIdeal.Read in
/-- The reference's composed term is the stream. -/
theorem composed (a b : FVec Ideal S16640x1024 .bf16) (d : FVec Ideal S16640x2048 .bf16) (w : FVec Ideal S4x4096x4096 .f32)
    (x : FVec Ideal S16640x4096 .f32) (mod : FVec Ideal S8x12288 .f32) :
    (val_main_v23 (F := Ideal) a b d w x mod : FVec Ideal S16640x4096 .f32) = stream a b d w x mod := by
  funext j
  idx_vars j
  have key : ∀ (r : Fin 16640), (∑ k : Fin 4096,
      (if h : k.val < 1024 then a (ix2 r (⟨k.val, h⟩ : Fin 1024))
        else if h' : k.val - 1024 < 1024 then b (ix2 r (⟨k.val - 1024, h'⟩ : Fin 1024))
          else d (ix2 r (⟨k.val - 1024 - 1024, by omega⟩ : Fin 2048))) * w (ix3 (0 : Fin 4) k j1)) = mixed a b d w r j1 := by
    intro r
    rw [sum_mixers]
    unfold mixed
    refine congrArg₂ (· + ·) (congrArg₂ (· + ·) (Finset.sum_congr rfl fun k _ => ?_) (Finset.sum_congr rfl fun k _ => ?_))
      (Finset.sum_congr rfl fun k _ => ?_)
    · rw [dif_pos k.isLt]
    · rw [dif_neg (by simp), dif_pos (by simp)]
      have e : (⟨1024 + k.val - 1024, by omega⟩ : Fin 1024) = k := Fin.ext (by simp)
      exact congrArg (fun q => b (ix2 r q) * _) e
    · rw [dif_neg (by simp; omega), dif_neg (by simp; omega)]
      have e : (⟨2048 + k.val - 1024 - 1024, by omega⟩ : Fin 2048) = k := Fin.ext (by simp; omega)
      exact congrArg (fun q => d (ix2 r q) * _) e
  show _ = x (ix2 j0 j1) + gate mod j0 j1 * mixed a b d w j0 j1
  rw [← key j0]
  rw [← val_main_v23_eq]
  pointwise
  by_cases hr : j0.val < 256
  · rw [dif_pos hr]
    exact congrArg (fun q => x (ix2 j0 j1) + q * _) (if_pos hr).symm
  · rw [dif_neg hr]
    have e : (⟨256 + (j0.val - 256), by omega⟩ : Fin 16640) = j0 := Fin.ext (by simp; omega)
    simp only [e]
    exact congrArg (fun q => x (ix2 j0 j1) + q * _) (if_neg hr).symm

end Cert.OutReferenceIdeal.Projection

namespace Cert.Proof.OutProjClaims

theorem algebraic : Cert.algebraic_OutProjIdeal_OutReferenceIdeal := by
  intro m g m' g' _ hargs
  refine ⟨fun c => Cert.OutProjIdeal.Projection.result m c, ?_, ?_⟩
  · exact (θ_run _ _ _).mono (fun r h c => ⟨(h c).1.trans (Cert.OutProjIdeal.Projection.final_result m c), (h c).2⟩)
      (Cert.OutProjIdeal.Value.run_blocks m g)
  · refine (θ_run _ _ _).mono (fun r h c => ⟨(h c).1.trans ?_, (h c).2⟩) (Cert.OutReferenceIdeal.Value.run m' g')
    obtain ⟨h0, h1, h2, h3, h4, h5⟩ := hargs c
    rw [h0, h1, h2, h3, h4, h5]
    exact Cert.OutReferenceIdeal.Projection.composed _ _ _ _ _ _

end Cert.Proof.OutProjClaims

end
-- ==== Proof.Final.lean ====
/- The final norm: each point writes its block of rows of the RMSNorm of the latent rows of the residual stream, and the
   reference's composed term is the same function of the arguments. -/
module

public import proofs.«01_k».proof.Defs
public import proofs.«01_k».proof.Proof.Gen.Final.Frame
public import proofs.«01_k».proof.Proof.Gen.FinalIdeal.Value
public import proofs.«01_k».proof.Proof.Gen.FinalReferenceIdeal.Run
public import Idealize.ShloMosaic.Lib.Pipeline.Value
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FinalIdeal.Norm

open Cert.FinalIdeal Cert.FinalIdeal.Gen

variable (m : (ℓ : Loc nD τ sig) → Buf (Elt Ideal) ℓ) (ρ : Dev nD → PrngReg)

/-- Row `r` of the latent rows, in the residual stream. -/
abbrev latent (r : Fin 16384) : Fin 16640 := ⟨256 + r.val, by omega⟩

/-- The RMSNorm of the latent rows at one element. -/
def norm (x : FVec Ideal S16640x4096 .f32) (g : FVec Ideal S4096 .f32) : FVec Ideal S16384x4096 .f32 :=
  fun i => x (ix2 (latent (i 0)) (i 1))
    * Ideal.rsqrt (Ideal.div (∑ k : Fin 4096, x (ix2 (latent (i 0)) k) * x (ix2 (latent (i 0)) k)) (Ideal.ofBits .f32 0x45800000#32)
        + Ideal.ofBits .f32 0x358637BD#32)
    * g (ix1 (i 1))

theorem index0 : ∀ t : Fin grid0.N, win0_0.index t 0 = t.val + 1 ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem point_lt (t : Fin cfg0.N) : t.val < 64 := by have := t.isLt; have hN : cfg0.N = 64 := N_0; omega

/-- Row `r` of the point's block, in the result. -/
abbrev row (t : Fin cfg0.N) (r : Fin 256) : Fin 16384 := ⟨t.val * 256 + r.val, by have := point_lt t; omega⟩

theorem rows_apply (c : Dev nD) (t : Fin cfg0.N) (r : Fin 256) (k : Fin 4096) :
    (iblk m c 0 t : FVec Ideal S256x4096 .f32) (ix2 r k) = m ((c : Thread nD τ).loc main_arg0) (ix2 (latent (row t r)) k) := by
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = 256 + (t.val * 256 + r.val); rw [(index0 t).1]; omega
  | ⟨1, _⟩ => show win0_0.index t 1 * 4096 + 1 * k.val = k.val; rw [(index0 t).2]; omega

/-- The host lays the gain out as one row. -/
theorem gain_entry (c : Dev nD) :
    V m c main_v0 = shapeCast S1x4096 (m ((c : Thread nD τ).loc main_arg1)) shapeCasts_S4096_S1x4096 := by
  unfold V
  after_results <;> rfl

/-- A vector laid out as one row, at an index. -/
theorem one_row (g : FVec Ideal S4096 .f32) (k : Fin 4096) :
    shapeCast S1x4096 g shapeCasts_S4096_S1x4096 (ix2 (0 : Fin 1) k) = g (ix1 k) := by
  pointwise

theorem gain_apply (c : Dev nD) (t : Fin cfg0.N) (k : Fin 4096) :
    (iblk m c 1 t : FVec Ideal S1x4096 .f32) (ix2 (0 : Fin 1) k) = m ((c : Thread nD τ).loc main_arg1) (ix1 k) := by
  have e : (iblk m c 1 t : FVec Ideal S1x4096 .f32) (ix2 (0 : Fin 1) k) = (V m c main_v0 : FVec Ideal S1x4096 .f32) (ix2 (0 : Fin 1) k) := by
    unfold iblk
    rw [View.read_apply]
    show V m c main_v0 _ = V m c main_v0 _
    congr 1
    funext a
    apply Fin.ext
    match a with
    | ⟨0, _⟩ => show win0_1.index t 0 * 1 + 1 * 0 = 0; rw [(index1 t).1]
    | ⟨1, _⟩ => show win0_1.index t 1 * 4096 + 1 * k.val = k.val; rw [(index1 t).2]; omega
  rw [e, gain_entry]
  exact one_row _ k

theorem payload_apply (x : FVec Ideal S256x4096 .f32) (g : FVec Ideal S1x4096 .f32) (r : Fin 256) (l : Fin 4096) :
    k0_pay1 (F := Ideal) x g (ix2 r l) = x (ix2 r l)
      * Ideal.rsqrt (Ideal.div (∑ k : Fin 4096, x (ix2 r k) * x (ix2 r k)) (Ideal.ofBits .f32 0x45800000#32)
          + Ideal.ofBits .f32 0x358637BD#32)
      * g (ix2 (0 : Fin 1) l) := by
  pointwise [k0_pay1]

theorem zeros2 : (![0, 0] : Fin 2 → Nat) = fun _ => 0 := funext fun a => by fin_cases a <;> rfl

/-- The whole-array norm of device `c`'s arguments. -/
abbrev result (c : Dev nD) : Buf (Elt Ideal) ((c : Thread nD τ).loc main_v1) :=
  norm (m ((c : Thread nD τ).loc main_arg0)) (m ((c : Thread nD τ).loc main_arg1))

/-- Each point writes back its block of the whole norm. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold out0_2
  rw [View.canon_unit_zero zeros2, View.ld_unit_zero zeros2, View.ld_unit_zero zeros2]
  funext y
  obtain ⟨r, l, rfl⟩ : ∃ (r : Fin 256) (l : Fin 4096), y = ix2 r l := ⟨y 0, y 1, funext fun a => by fin_cases a <;> rfl⟩
  rw [View.read_apply]
  show k0_pay1 (F := Ideal) (iblk m c 0 t) (iblk m c 1 t) (ix2 r l) = result m c ((win0_2.rect t).emb (ix2 r l))
  have e : (win0_2.rect t).emb (ix2 r l) = ix2 (row t r) l := by
    funext a
    apply Fin.ext
    match a with
    | ⟨0, _⟩ => show win0_2.index t 0 * 256 + 1 * r.val = t.val * 256 + r.val; rw [(index2 t).1]; omega
    | ⟨1, _⟩ => show win0_2.index t 1 * 4096 + 1 * l.val = l.val; rw [(index2 t).2]; omega
  refine (payload_apply _ _ r l).trans (Eq.trans ?_ (congrArg (result m c) e).symm)
  refine congrArg₂ (· * ·) (congrArg₂ (· * ·) (rows_apply m c t r l) (congrArg Ideal.rsqrt (congrArg (· + _) (congrArg (Ideal.div · _)
    (Finset.sum_congr rfl fun k _ => ?_))))) (gain_apply m c t l)
  exact congrArg₂ (· * ·) (rows_apply m c t r k) (rows_apply m c t r k)

/-- The blocks tile the result. -/
theorem cover (i : S16384x4096.Idx) :
    ∃ t : Fin cfg0.N, (cfg0.win 2).flush t = true ∧ i ∈ ((cfg0.win 2).blk t).view.set := by
  have h0 : (i 0 : Nat) < 16384 := (i 0).isLt
  have h1 : (i 1 : Nat) < 4096 := (i 1).isLt
  have hN : cfg0.N = 64 := N_0
  refine ⟨⟨(i 0 : Nat) / 256, by omega⟩, flush0_2 _, ?_⟩
  generalize ht : (⟨(i 0 : Nat) / 256, _⟩ : Fin cfg0.N) = t
  have hv : t.val = (i 0 : Nat) / 256 := by rw [← ht]
  show i ∈ ((View.whole main_v1).slice (win0_2.rect t)).set
  rw [View.set_slice_whole, Rect.mem_set_unit]
  intro a
  match a with
  | ⟨0, _⟩ => show win0_2.index t 0 * 256 ≤ (i 0 : Nat) ∧ (i 0 : Nat) < win0_2.index t 0 * 256 + 256
              rw [(index2 t).1]; omega
  | ⟨1, _⟩ => show win0_2.index t 1 * 4096 ≤ (i 1 : Nat) ∧ (i 1 : Nat) < win0_2.index t 1 * 4096 + 4096
              rw [(index2 t).2]; omega

theorem final_result (c : Dev nD) : (dats m 0 c).arrAt 2 cfg0.N = result m c :=
  (dats m 0 c).arrAt_eq_of_cover 2 (result m c) (fun t _ => flushed_eq m c t) cover

end Cert.FinalIdeal.Norm

namespace Cert.FinalReferenceIdeal.Norm

open Cert.FinalReferenceIdeal Cert.FinalReferenceIdeal.Gen

/-- The reference's composed term is the norm. -/
theorem composed (x : FVec Ideal S16640x4096 .f32) (g : FVec Ideal S4096 .f32) :
    (mulf (mulf (extractStridedSlice S16384x4096 ![256, 0] x slices_S16640x4096_S16384x4096_256_0) (broadcastInDim S16384x4096 ![0, 1] bcast_S16384x1_S16384x4096_0_1 (Host.rsqrt (addf (Host.divf (broadcastInDim S16384x1 ![0] bcast_S16384_S16384x1_0 (Host.reduceAdd (mulf (extractStridedSlice S16384x4096 ![256, 0] x slices_S16640x4096_S16384x4096_256_0) (extractStridedSlice S16384x4096 ![256, 0] x slices_S16640x4096_S16384x4096_256_0)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g)) : FVec Ideal S16384x4096 .f32)
      = Cert.FinalIdeal.Norm.norm x g := by
  funext j
  idx_vars j
  pointwise [Cert.FinalIdeal.Norm.norm]

end Cert.FinalReferenceIdeal.Norm

namespace Cert.Proof.FinalClaims

theorem algebraic : Cert.algebraic_FinalIdeal_FinalReferenceIdeal := by
  intro m g m' g' _ hargs
  refine ⟨fun c => Cert.FinalIdeal.Norm.result m c, ?_, ?_⟩
  · exact (θ_run _ _ _).mono (fun r h c => ⟨(h c).1.trans (Cert.FinalIdeal.Norm.final_result m c), (h c).2⟩)
      (Cert.FinalIdeal.Value.run_blocks m g)
  · refine (θ_run _ _ _).mono (fun r h c => ⟨(h c).1.trans ?_, (h c).2⟩) (Cert.FinalReferenceIdeal.Value.run m' g')
    rw [(hargs c).1, (hargs c).2]
    exact Cert.FinalReferenceIdeal.Norm.composed _ _

end Cert.Proof.FinalClaims

end
-- ==== Proof.AttRun.lean ====
/- The attention's run: the two launches one after the other, the result read off the second launch's last write-back, and what
   the host prepares for the first launch read at an index. -/
module

public import proofs.«01_k».proof.Defs
public import proofs.«01_k».proof.Proof.Gen.AttIdeal.Frame
public import Idealize.ShloMosaic.Lib.Pipeline.Value
public import Idealize.ShloMosaic.Lib.Pointwise
public import Idealize.ShloMosaic.Lib.Claim

@[expose] public section

set_option maxRecDepth 16384

noncomputable section

namespace Cert.AttIdeal.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.AttIdeal Cert.AttIdeal.Gen

variable (m : (ℓ : Loc nD τ sig) → Buf (Elt Ideal) ℓ) (ρ : Dev nD → PrngReg)

set_option backward.isDefEq.respectTransparency.types false in
/-- Every run ends with the second launch's output array at its write-backs, the arguments as they were. -/
theorem run : θ_run defs (onTc (τ := τ) (main (F := Ideal))) ⟨m, fun _ => 0, ρ⟩ (fun r => ∀ c : Dev nD,
      r.2.mem ((c.tc : Thread nD τ).loc main_v26) = (dat1 (V7 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨(h c _ (mem_uc main_v26 (by decide))).trans (W8_arr m ρ c 11),
       (h c _ (mem_uc main_arg0 (by decide))).trans (W8_main_arg0 m ρ c),
       (h c _ (mem_uc main_arg1 (by decide))).trans (W8_main_arg1 m ρ c)⟩)

/-! ## What the host prepares -/

/-- The contents the stretches start from are the launch's. -/
theorem start_eq (c : Dev nD) (r : Ref sig .tc) : W0 m ρ c (Proc.devRef .tc r) = m ((c : Thread nD τ).loc r) := rfl

theorem z_at1 (c : Dev nD) : W1 m ρ c (Proc.devRef .tc main_v0)
    = extractStridedSlice S16640x8192 ![0, 0] (m ((c : Thread nD τ).loc main_arg0)) slices_S16640x13312_S16640x8192_0_0 := by
  rw [← start_eq m ρ c main_arg0]
  unfold W1
  after_results <;> rfl

theorem z_at6 (c : Dev nD) : W6 m ρ c (Proc.devRef .tc main_v0) = W1 m ρ c (Proc.devRef .tc main_v0) :=
  (W6_of m ρ c main_v0 (by decide)).trans <| (W5_of m ρ c main_v0 (by decide)).trans <| (W4_of m ρ c main_v0 (by decide)).trans <|
    (W3_of m ρ c main_v0 (by decide)).trans (W2_of m ρ c main_v0 (by decide))

/-- The second launch's shared input array: the first 8192 columns of the activations. -/
theorem z_eq (c : Dev nD) : V7 m ρ c main_v0
    = extractStridedSlice S16640x8192 ![0, 0] (m ((c : Thread nD τ).loc main_arg0)) slices_S16640x13312_S16640x8192_0_0 :=
  (W7_of m ρ c main_v0 (by decide)).trans ((z_at6 m ρ c).trans (z_at1 m ρ c))

/-- The first launch's output array, as the second launch finds it. -/
theorem tables_eq (c : Dev nD) : V7 m ρ c main_v25 = (dat0 (V6 m ρ) c).arrAt 2 cfg0.N := W7_arr m ρ c 2

/-- The first column of each query column's window, as words. -/
def firstCol : IVec S64x1 32 :=
  minsi (broadcastInDim S64x1 ![] bcast_S_S64x1 (constantI S_ 32 48#32))
    (maxsi (broadcastInDim S64x1 ![] bcast_S_S64x1 (constantI S_ 32 0#32))
      (subi (broadcastInDim S64x1 ![0] bcast_S64_S64x1_0 (iotaInDim S64 32 0))
        (broadcastInDim S64x1 ![] bcast_S_S64x1 (constantI S_ 32 8#32))))

theorem firstCol_at2 (c : Dev nD) : W2 m ρ c (Proc.devRef .tc main_v7) = firstCol := by
  have h0 : W1 m ρ c (Proc.devRef .tc main_c_0) = constantI S_ 32 0#32 := by unfold W1; after_results <;> rfl
  have h1 : W1 m ρ c (Proc.devRef .tc main_c_1) = constantI S_ 32 48#32 := by unfold W1; after_results <;> rfl
  have h6 : W1 m ρ c (Proc.devRef .tc main_v6) = subi (broadcastInDim S64x1 ![0] bcast_S64_S64x1_0 (iotaInDim S64 32 0))
        (broadcastInDim S64x1 ![] bcast_S_S64x1 (constantI S_ 32 8#32)) := by unfold W1; after_results <;> rfl
  unfold firstCol
  rw [← h0, ← h1, ← h6]
  unfold W2
  after_results <;> rfl

/-- Which columns the window of a query column holds. -/
def inWindow : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 firstCol))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi firstCol (broadcastInDim S64x1 ![] bcast_S_S64x1 (constantI S_ 32 16#32)))))

theorem inWindow_at3 (c : Dev nD) : W3 m ρ c (Proc.devRef .tc main_v16) = inWindow := by
  have h4 : W2 m ρ c (Proc.devRef .tc main_v4) = broadcastInDim S1x64 ![1] bcast_S64_S1x64_1 (iotaInDim S64 32 0) := by
    refine (W2_of m ρ c main_v4 (by decide)).trans ?_
    unfold W1; after_results <;> rfl
  unfold inWindow
  rw [← firstCol_at2 m ρ c, ← h4]
  unfold W3
  after_results <;> rfl

/-- The mask of a query column's window, one where the column is in it. -/
def maskCol : FVec Ideal S64x64 .f32 :=
  select inWindow (broadcastInDim S64x64 ![] bcast_S_S64x64 (constant (F := Ideal) S_ .f32 0x3F800000#32))
    (broadcastInDim S64x64 ![] bcast_S_S64x64 (constant (F := Ideal) S_ .f32 0x00000000#32))

theorem maskCol_at4 (c : Dev nD) : W4 m ρ c (Proc.devRef .tc main_v17) = maskCol := by
  have h0 : W3 m ρ c (Proc.devRef .tc main_cst) = constant (F := Ideal) S_ .f32 0x3F800000#32 := by unfold W3; after_results <;> rfl
  have h1 : W3 m ρ c (Proc.devRef .tc main_cst_3) = constant (F := Ideal) S_ .f32 0x00000000#32 := by unfold W3; after_results <;> rfl
  unfold maskCol
  rw [← h0, ← h1, ← inWindow_at3 m ρ c]
  unfold W4
  after_results <;> rfl

/-- The mask twice side by side, for two grid rows of keys. -/
def maskPair : FVec Ideal S64x128 .f32 :=
  concatenate S64x128 1 [⟨S64x64, maskCol⟩, ⟨S64x64, maskCol⟩] concatenates_S64x64_S64x64_S64x128_d1

theorem maskPair_eq (c : Dev nD) : V6 m ρ c main_v19 = maskPair := by
  refine (W6_of m ρ c main_v19 (by decide)).trans ?_
  unfold maskPair
  rw [← maskCol_at4 m ρ c]
  unfold W5
  after_results <;> rfl

/-- The bias rows laid around a circle of 128 lanes, the relative column zero at lane zero. -/
def circle (b : FVec Ideal S16x15x31 .f32) : FVec Ideal S16x15x128 .f32 :=
  concatenate S16x15x128 2 [⟨S16x15x16, extractStridedSlice S16x15x16 ![0, 0, 15] b slices_S16x15x31_S16x15x16_0_0_15⟩,
    ⟨S16x15x97, broadcastInDim S16x15x97 ![] bcast_S_S16x15x97 (constant (F := Ideal) S_ .f32 0x00000000#32)⟩,
    ⟨S16x15x15, extractStridedSlice S16x15x15 ![0, 0, 0] b slices_S16x15x31_S16x15x15_0_0_0⟩]
    concatenates_S16x15x16_S16x15x97_S16x15x15_S16x15x128_d2

theorem circle_at5 (c : Dev nD) : W5 m ρ c (Proc.devRef .tc main_v23) = circle (m ((c : Thread nD τ).loc main_arg1)) := by
  rw [← W4_args m ρ c main_arg1 (by decide)]
  unfold circle W5
  after_results <;> rfl

/-- The circle with one more row under it. -/
def circlePad (b : FVec Ideal S16x15x31 .f32) : FVec Ideal S16x16x128 .f32 :=
  pad S16x16x128 ![0, 0, 0] ![0, 1, 0] ![0, 0, 0] (circle b) (sitofp (F := Ideal) .f32 (constantI S_ 32 0#32))
    pads_S16x15x128_S16x16x128_000_010_000 h_S_

theorem circlePad_eq (c : Dev nD) : V6 m ρ c main_v24 = circlePad (m ((c : Thread nD τ).loc main_arg1)) := by
  have h5 : W5 m ρ c (Proc.devRef .tc main_c_5) = constantI S_ 32 0#32 := by unfold W5; after_results <;> rfl
  unfold circlePad
  rw [← circle_at5 m ρ c, ← h5]
  show W6 m ρ c (Proc.devRef .tc main_v24) = _
  unfold W6
  after_results <;> rfl

end Cert.AttIdeal.Attention
end
-- ==== Proof.AttTables.lean ====
/- The attention's tables: for each head, what is added to the scores of a block of queries against three blocks of keys. The
   first launch writes them in 96 pieces, all of one kind. -/
module

public import proofs.«01_k».proof.Proof.AttRun

@[expose] public section

set_option maxRecDepth 16384

noncomputable section

namespace Cert.AttIdeal.Attention

open Idealize.ShloMosaic Idealize.ShloMosaic.TcCoe Idealize.SL.Sem
open Idealize.ShloMosaic.Pipeline (Dat)
open Cert.AttIdeal Cert.AttIdeal.Gen

variable (m : (ℓ : Loc nD τ sig) → Buf (Elt Ideal) ℓ) (ρ : Dev nD → PrngReg)

/-- The block of queries a variant of the tables stands for: the first, an inner one, the last. -/
def blockOf (v : Nat) : Nat := if v = 0 then 0 else if v = 1 then 1 else 63

/-- Whether grid row `jr` of the three blocks of keys is in the window of grid row `rq` of the block of queries. -/
def okRow (v rq jr : Nat) : Bool :=
  Nat.blt v 3 && Nat.ble (min (4 * blockOf v + rq - 4) 248 + 4) (4 * blockOf v + jr)
    && Nat.blt (4 * blockOf v + jr) (min (4 * blockOf v + rq - 4) 248 + 12)

/-- Nothing to attend to. -/
def noRow : FVec Ideal S64x128 .f32 := broadcast S64x128 (Named.named (F := Ideal) κ "mask" 0xF149F2CA#32)

/-- What the mask adds: nothing in the window, the least value outside it. -/
def colMask (x1 : FVec Ideal S64x128 .f32) : FVec Ideal S64x128 .f32 :=
  select (cmpf .ogt (shapeCast S64x128 (View.ld (Val := Elt Ideal) (e' := .f32) x1 r0_0) shapeCasts_S64x128_S64x128) (broadcast S64x128 (Scalar.ofBits (F := Ideal) .f32 0x00000000#32)))
    (broadcast S64x128 (Scalar.ofBits (F := Ideal) .f32 0x00000000#32)) noRow

/-- A bias row rotated to each query column, its mask added. -/
def rotated (x0 : FVec Ideal S1x16x128 .f32) (x1 : FVec Ideal S64x128 .f32) (d : Nat) (hd : d ≤ 14) (a : BitVec 32) : FVec Ideal S64x128 .f32 :=
  addf (dynamicRotate 1 a (some (1, 0)) (broadcastTo S64x128 (shapeCast S1x128 (mulf (shapeCast S1x128 (View.ld (Val := Elt Ideal) (e' := .f32) x0
      (Rect.unit (s := S1x16x128) ![0, d, 0] S1x1x128.size (fun i => match i with
        | ⟨0, _⟩ => (by show 0 + 1 ≤ 1; omega) | ⟨1, _⟩ => (by show d + 1 ≤ 16; omega) | ⟨2, _⟩ => (by show 0 + 128 ≤ 128; omega))))
      shapeCasts_S1x1x128_S1x128)
      (broadcast S1x128 (Named.named (F := Ideal) κ "log2_e" 0x3FB8AA3B#32))) shapeCasts_S1x128_S1x128) broadcasts_S1x128_S64x128) rotates_S64x128_d1s1a0) (colMask x1)

/-- The lanes of the first of two grid rows. -/
def leftHalf : IVec S64x128 1 :=
  cmpi .slt (iota .tc S64x128 32 [1] iota_S64x128_d1_w32) (broadcast S64x128 64#32)

/-- One piece of the tables: two grid rows of keys side by side. -/
def tile (x0 : FVec Ideal S1x16x128 .f32) (x1 : FVec Ideal S64x128 .f32) (v rq k : Nat) (hk : k ≤ 5) : FVec Ideal S64x128 .f32 :=
  cond (okRow v rq (2 * k) || okRow v rq (2 * k + 1))
    (select leftHalf (cond (okRow v rq (2 * k)) (rotated x0 x1 (2 * k + 3 - rq) (by omega) 0#32) noRow)
      (cond (okRow v rq (2 * k + 1)) (rotated x0 x1 (2 * k + 4 - rq) (by omega) 64#32) noRow))
    noRow

theorem piece_inb (n : Nat) : ∀ a, (![n / 24 % 4, 0, n % 24 / 6 * 64, n % 6 * 128] : Fin S4x1x256x768.rank → Nat) a + S1x1x64x128.size a
    ≤ S4x1x256x768.size a := fun a => match a with
  | ⟨0, _⟩ => (by show n / 24 % 4 + 1 ≤ 4; omega)
  | ⟨1, _⟩ => (by show 0 + 1 ≤ 1; omega)
  | ⟨2, _⟩ => (by show n % 24 / 6 * 64 + 64 ≤ 256; omega)
  | ⟨3, _⟩ => (by show n % 6 * 128 + 128 ≤ 768; omega)

/-- The piece of a variant, a grid row of queries and a pair of grid rows of keys, numbered together. -/
def piece (x0 : FVec Ideal S1x16x128 .f32) (x1 : FVec Ideal S64x128 .f32) (n : Nat) : View.Piece (Elt Ideal) S4x1x256x768 .f32 :=
  ⟨Rect.unit ![n / 24 % 4, 0, n % 24 / 6 * 64, n % 6 * 128] S1x1x64x128.size (piece_inb n),
    shapeCast S1x1x64x128 (tile x0 x1 (n / 24 % 4) (n % 24 / 6) (n % 6) (by omega)) shapeCasts_S64x128_S1x1x64x128⟩

set_option maxHeartbeats 1000000 in
/-- The first launch's block is its 96 pieces, the last one first. -/
theorem out0_eq (x0 : FVec Ideal S1x16x128 .f32) (x1 : FVec Ideal S64x128 .f32) :
    out0_2 (F := Ideal) x0 x1 = View.canon (Val := Elt Ideal) ((List.range 96).reverse.map (piece x0 x1)) := by
  rw [show (List.range 96).reverse = [95, 94, 93, 92, 91, 90, 89, 88, 87, 86, 85, 84, 83, 82, 81, 80, 79, 78, 77, 76, 75, 74, 73, 72, 71, 70, 69, 68, 67, 66, 65, 64, 63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] from by decide]
  rfl

theorem zeros2 : (![0, 0] : Fin 2 → Nat) = fun _ => 0 := by funext a; match a with | ⟨0, _⟩ => rfl | ⟨1, _⟩ => rfl

theorem log2_named : (Named.named (F := Ideal) (φ := .f32) κ "log2_e" 0x3FB8AA3B#32 : EReal) = (((Real.log 2)⁻¹ : ℝ) : EReal) := rfl
theorem mask_named : (Named.named (F := Ideal) (φ := .f32) κ "mask" 0xF149F2CA#32 : EReal) = ⊥ := rfl

theorem noRow_apply (i : Fin 64) (l : Fin 128) : (noRow : FVec Ideal S64x128 .f32) (ix2 i l) = (⊥ : EReal) := rfl

theorem leftHalf_apply : ∀ (i : Fin 64) (l : Fin 128), leftHalf (ix2 i l) = if l.val < 64 then 1#1 else 0#1 := by
  intro i l
  have h : ∀ l : Fin 128, IntOp.cmpi CmpIPredicate.slt (BitVec.ofNat 32 l.val) 64#32 = if l.val < 64 then 1#1 else 0#1 := by decide +kernel
  unfold leftHalf
  pointwise
  exact h l

theorem colMask_apply (x1 : FVec Ideal S64x128 .f32) (i : Fin 64) (l : Fin 128) :
    colMask x1 (ix2 i l) = if (0 : EReal) < x1 (ix2 i l) then (0 : EReal) else ⊥ := by
  unfold colMask noRow
  rw [View.ld_unit_zero (S := S64x128) zeros2]
  pointwise
  rfl

theorem rotated_apply (x0 : FVec Ideal S1x16x128 .f32) (x1 : FVec Ideal S64x128 .f32) (d : Nat) (hd : d ≤ 14) (a : BitVec 32) (i : Fin 64) (l : Fin 128) :
    rotated x0 x1 d hd a (ix2 i l)
      = x0 (ix3 (0 : Fin 1) (⟨d, by omega⟩ : Fin 16) (⟨(l.val + 128 - (a.toNat + i.val) % 128) % 128, Nat.mod_lt _ (by omega)⟩ : Fin 128))
          * (((Real.log 2)⁻¹ : ℝ) : EReal) + (if (0 : EReal) < x1 (ix2 i l) then (0 : EReal) else ⊥) := by
  unfold rotated
  pointwise
  rw [colMask_apply]
  rfl

theorem select_left (i : Fin 64) (l : Fin 128) (a b : FVec Ideal S64x128 .f32) :
    select leftHalf a b (ix2 i l) = if l.val < 64 then a (ix2 i l) else b (ix2 i l) := by
  show (if leftHalf (ix2 i l) = 1#1 then a (ix2 i l) else b (ix2 i l)) = _
  rw [leftHalf_apply]
  by_cases hl : l.val < 64
  · rw [if_pos hl, if_pos hl, if_pos rfl]
  · rw [if_neg hl, if_neg hl, if_neg (by decide)]

theorem tile_cases (x0 : FVec Ideal S1x16x128 .f32) (x1 : FVec Ideal S64x128 .f32) (v rq k : Nat) (hk : k ≤ 5) (i : Fin 64) (l : Fin 128) :
    tile x0 x1 v rq k hk (ix2 i l) = if okRow v rq (2 * k + l.val / 64) then
        (if l.val < 64 then rotated x0 x1 (2 * k + 3 - rq) (by omega) 0#32 (ix2 i l)
          else rotated x0 x1 (2 * k + 4 - rq) (by omega) 64#32 (ix2 i l))
      else (⊥ : EReal) := by
  have hl' := l.isLt
  unfold tile
  by_cases hl : l.val < 64
  · rw [show 2 * k + l.val / 64 = 2 * k from by omega]
    cases h0 : okRow v rq (2 * k) <;> cases h1 : okRow v rq (2 * k + 1) <;>
      simp only [Bool.or_false, Bool.false_or, Bool.or_true, cond_true, cond_false, select_left, noRow_apply,
        if_true, Bool.false_eq_true, if_false, if_pos hl]
  · rw [show 2 * k + l.val / 64 = 2 * k + 1 from by omega]
    cases h0 : okRow v rq (2 * k) <;> cases h1 : okRow v rq (2 * k + 1) <;>
      simp only [Bool.or_false, Bool.false_or, Bool.or_true, cond_true, cond_false, select_left, noRow_apply,
        if_true, Bool.false_eq_true, if_false, if_neg hl]

/-- The table of a head: variant, query in the block, key among the three blocks. -/
def table (x0 : FVec Ideal S1x16x128 .f32) (x1 : FVec Ideal S64x128 .f32) (v : Fin 4) (q : Fin 256) (l : Fin 768) : EReal :=
  if okRow v.val (q.val / 64) (l.val / 64) then
    x0 (ix3 (0 : Fin 1) (⟨l.val / 64 + 3 - q.val / 64, by omega⟩ : Fin 16)
        (⟨(l.val % 64 + 128 - q.val % 64) % 128, Nat.mod_lt _ (by omega)⟩ : Fin 128)) * (((Real.log 2)⁻¹ : ℝ) : EReal)
      + (if (0 : EReal) < x1 (ix2 (⟨q.val % 64, by omega⟩ : Fin 64) (⟨l.val % 128, by omega⟩ : Fin 128)) then (0 : EReal) else ⊥)
  else ⊥

theorem tile_apply (x0 : FVec Ideal S1x16x128 .f32) (x1 : FVec Ideal S64x128 .f32) (v : Fin 4) (rq k : Nat) (hk : k ≤ 5) (hq : rq ≤ 3) (i : Fin 64) (l : Fin 128) :
    tile x0 x1 v.val rq k hk (ix2 i l) = table x0 x1 v (⟨rq * 64 + i.val, by omega⟩ : Fin 256) (⟨k * 128 + l.val, by omega⟩ : Fin 768) := by
  have hi := i.isLt
  have hl' := l.isLt
  rw [tile_cases]
  unfold table
  have e1 : (rq * 64 + i.val) / 64 = rq := by omega
  have e2 : (k * 128 + l.val) / 64 = 2 * k + l.val / 64 := by omega
  refine if_congr (by dsimp only; rw [e1, e2]) ?_ rfl
  have e3 : (⟨(rq * 64 + i.val) % 64, by omega⟩ : Fin 64) = i := Fin.ext (by show (rq * 64 + i.val) % 64 = _; omega)
  have e4 : (⟨(k * 128 + l.val) % 128, by omega⟩ : Fin 128) = l := Fin.ext (by show (k * 128 + l.val) % 128 = _; omega)
  dsimp only
  rw [e3, e4]
  by_cases hl : l.val < 64
  · rw [if_pos hl, rotated_apply]
    refine congrArg (· * _ + _) (congrArg x0 (congrArg₂ (fun a b => ix3 (0 : Fin 1) a b) (Fin.ext ?_) (Fin.ext ?_)))
    · show 2 * k + 3 - rq = (k * 128 + l.val) / 64 + 3 - (rq * 64 + i.val) / 64; omega
    · show (l.val + 128 - ((0#32 : BitVec 32).toNat + i.val) % 128) % 128 = ((k * 128 + l.val) % 64 + 128 - (rq * 64 + i.val) % 64) % 128
      have : (0#32 : BitVec 32).toNat = 0 := rfl
      rw [this]; omega
  · rw [if_neg hl, rotated_apply]
    refine congrArg (· * _ + _) (congrArg x0 (congrArg₂ (fun a b => ix3 (0 : Fin 1) a b) (Fin.ext ?_) (Fin.ext ?_)))
    · show 2 * k + 4 - rq = (k * 128 + l.val) / 64 + 3 - (rq * 64 + i.val) / 64; omega
    · show (l.val + 128 - ((64#32 : BitVec 32).toNat + i.val) % 128) % 128 = ((k * 128 + l.val) % 64 + 128 - (rq * 64 + i.val) % 64) % 128
      have : (64#32 : BitVec 32).toNat = 64 := rfl
      rw [this]; omega

theorem cast_apply (f : FVec Ideal S64x128 .f32) (a b : Fin 1) (i : Fin 64) (l : Fin 128) :
    shapeCast S1x1x64x128 f shapeCasts_S64x128_S1x1x64x128 (ix4 a b i l) = f (ix2 i l) := by
  pointwise

theorem piece_apply (x0 : FVec Ideal S1x16x128 .f32) (x1 : FVec Ideal S64x128 .f32) (n : Nat) (a b : Fin 1) (i : Fin 64) (l : Fin 128) :
    (piece x0 x1 n).2 (ix4 a b i l)
      = table x0 x1 ((piece x0 x1 n).1.emb (ix4 a b i l) 0) ((piece x0 x1 n).1.emb (ix4 a b i l) 2) ((piece x0 x1 n).1.emb (ix4 a b i l) 3) := by
  have ha := a.isLt
  refine (cast_apply _ a b i l).trans ((tile_apply x0 x1 (⟨n / 24 % 4, by omega⟩ : Fin 4) (n % 24 / 6) (n % 6) (by omega) (by omega) i l).trans ?_)
  congr 1
  · exact Fin.ext (by show n / 24 % 4 = n / 24 % 4 + 1 * a.val; omega)
  · exact Fin.ext (by show n % 24 / 6 * 64 + i.val = n % 24 / 6 * 64 + 1 * i.val; omega)
  · exact Fin.ext (by show n % 6 * 128 + l.val = n % 6 * 128 + 1 * l.val; omega)

theorem out0_apply (x0 : FVec Ideal S1x16x128 .f32) (x1 : FVec Ideal S64x128 .f32) (y : S4x1x256x768.Idx) :
    out0_2 (F := Ideal) x0 x1 y = table x0 x1 (y 0) (y 2) (y 3) := by
  rw [out0_eq]
  refine View.canon_apply_of_pieces (Val := Elt Ideal) (S := S4x1x256x768) (e := .f32) (fun y => table x0 x1 (y 0) (y 2) (y 3)) _ ?_ y ?_
  · intro p hp x
    obtain ⟨n, hn, rfl⟩ := List.mem_map.mp hp
    change S1x1x64x128.Idx at x
    rw [show x = ix4 (x 0) (x 1) (x 2) (x 3) from funext fun a => match a with | ⟨0, _⟩ => rfl | ⟨1, _⟩ => rfl | ⟨2, _⟩ => rfl | ⟨3, _⟩ => rfl]
    exact piece_apply x0 x1 n _ _ _ _
  · have h0 : (y 0).val < 4 := (y 0).isLt
    have h1 : (y 1).val < 1 := (y 1).isLt
    have h2 : (y 2).val < 256 := (y 2).isLt
    have h3 : (y 3).val < 768 := (y 3).isLt
    refine ⟨piece x0 x1 (24 * (y 0).val + 6 * ((y 2).val / 64) + (y 3).val / 128), List.mem_map.mpr ⟨_, List.mem_reverse.mpr (List.mem_range.mpr (by omega)), rfl⟩, ?_⟩
    refine (Rect.mem_set_unit (inb := piece_inb (24 * (y 0).val + 6 * ((y 2).val / 64) + (y 3).val / 128))).mpr fun a => ?_
    match a with
    | ⟨0, _⟩ => (show (24 * (y 0).val + 6 * ((y 2).val / 64) + (y 3).val / 128) / 24 % 4 ≤ (y 0).val ∧ (y 0).val < (24 * (y 0).val + 6 * ((y 2).val / 64) + (y 3).val / 128) / 24 % 4 + 1; omega)
    | ⟨1, _⟩ => (show 0 ≤ (y 1).val ∧ (y 1).val < 0 + 1; omega)
    | ⟨2, _⟩ => (show (24 * (y 0).val + 6 * ((y 2).val / 64) + (y 3).val / 128) % 24 / 6 * 64 ≤ (y 2).val ∧ (y 2).val < (24 * (y 0).val + 6 * ((y 2).val / 64) + (y 3).val / 128) % 24 / 6 * 64 + 64; omega)
    | ⟨3, _⟩ => (show (24 * (y 0).val + 6 * ((y 2).val / 64) + (y 3).val / 128) % 6 * 128 ≤ (y 3).val ∧ (y 3).val < (24 * (y 0).val + 6 * ((y 2).val / 64) + (y 3).val / 128) % 6 * 128 + 128; omega)

theorem inWindow_apply (p c : Fin 64) : inWindow (ix2 p c) = if min (p.val - 8) 48 ≤ c.val ∧ c.val < min (p.val - 8) 48 + 16 then 1#1 else 0#1 := by
  unfold inWindow firstCol
  pointwise
  revert p c
  decide +kernel

theorem maskCol_apply (p c : Fin 64) : maskCol (ix2 p c) = if min (p.val - 8) 48 ≤ c.val ∧ c.val < min (p.val - 8) 48 + 16 then (1 : EReal) else 0 := by
  unfold maskCol
  pointwise
  rw [inWindow_apply]
  by_cases h : min (p.val - 8) 48 ≤ c.val ∧ c.val < min (p.val - 8) 48 + 16
  · simp only [if_pos h]; rfl
  · simp only [if_neg h]; rfl

theorem maskPair_apply (p : Fin 64) (l : Fin 128) : maskPair (ix2 p l) = maskCol (ix2 p (⟨l.val % 64, by omega⟩ : Fin 64)) := by
  have hl := l.isLt
  unfold maskPair
  pointwise
  by_cases h : l.val < 64
  · rw [dif_pos h]
    exact congrArg (fun q => maskCol (ix2 p q)) (Fin.ext (by show l.val = l.val % 64; omega))
  · rw [dif_neg h]
    exact congrArg (fun q => maskCol (ix2 p q)) (Fin.ext (by show l.val - 64 = l.val % 64; omega))

theorem circle_apply (b : FVec Ideal S16x15x31 .f32) (h : Fin 16) (d : Fin 16) (hd : d.val < 15) (l : Fin 128) (e : Fin 31)
    (hle : l.val = (e.val + 113) % 128) :
    circlePad b (ix3 h d l) = b (ix3 h (⟨d.val, hd⟩ : Fin 15) e) := by
  have he := e.isLt
  unfold circlePad circle
  pointwise
  rw [dif_pos hd]
  by_cases h1 : l.val < 16
  · rw [dif_pos h1]
    exact congrArg (fun q => b (ix3 h (⟨d.val, hd⟩ : Fin 15) q)) (Fin.ext (by show 15 + l.val = e.val; omega))
  · rw [dif_neg h1, dif_neg (by omega)]
    exact congrArg (fun q => b (ix3 h (⟨d.val, hd⟩ : Fin 15) q)) (Fin.ext (by show l.val - 16 - 97 = e.val; omega))

/-! ## The tables in terms of the bias -/

/-- Whether column `c` is in the window of query column `p`. -/
def okCol (p c : Nat) : Prop := min (p - 8) 48 ≤ c ∧ c < min (p - 8) 48 + 16

instance (p c : Nat) : Decidable (okCol p c) := by unfold okCol; infer_instance

/-- The tables: the bias of a key in the window of the query, the least value elsewhere. -/
def bias (b : FVec Ideal S16x15x31 .f32) (v : Fin 4) (h : Fin 16) (q : Fin 256) (l : Fin 768) : EReal :=
  if okRow v.val (q.val / 64) (l.val / 64) = true ∧ okCol (q.val % 64) (l.val % 64) then
    b (ix3 h (⟨(l.val / 64 + 3 - q.val / 64) % 15, Nat.mod_lt _ (by omega)⟩ : Fin 15)
      (⟨(l.val % 64 + 15 - q.val % 64) % 31, Nat.mod_lt _ (by omega)⟩ : Fin 31)) * (((Real.log 2)⁻¹ : ℝ) : EReal)
  else ⊥

theorem okRow_bound : ∀ (v : Fin 4) (r : Fin 4) (j : Fin 12), okRow v.val r.val j.val = true → j.val + 3 - r.val < 15 := by decide +kernel

/-- A head's table from what the host prepares. -/
theorem table_eq (b : FVec Ideal S16x15x31 .f32) (h : Fin 16) (x0 : FVec Ideal S1x16x128 .f32)
    (hx0 : ∀ (d : Fin 16) (l : Fin 128), x0 (ix3 (0 : Fin 1) d l) = circlePad b (ix3 h d l)) (v : Fin 4) (q : Fin 256) (l : Fin 768) :
    table x0 maskPair v q l = bias b v h q l := by
  have hq := q.isLt
  have hl := l.isLt
  unfold table bias
  by_cases hr : okRow v.val (q.val / 64) (l.val / 64) = true
  · have hb : l.val / 64 + 3 - q.val / 64 < 15 := okRow_bound v (⟨q.val / 64, by omega⟩ : Fin 4) (⟨l.val / 64, by omega⟩ : Fin 12) hr
    have hm : maskPair (ix2 (⟨q.val % 64, by omega⟩ : Fin 64) (⟨l.val % 128, by omega⟩ : Fin 128))
        = if okCol (q.val % 64) (l.val % 64) then (1 : EReal) else 0 := by
      rw [maskPair_apply, maskCol_apply]
      refine if_congr ?_ rfl rfl
      show (min (q.val % 64 - 8) 48 ≤ l.val % 128 % 64 ∧ l.val % 128 % 64 < min (q.val % 64 - 8) 48 + 16) ↔ okCol (q.val % 64) (l.val % 64)
      rw [show l.val % 128 % 64 = l.val % 64 from by omega]
      exact Iff.rfl
    rw [if_pos hr, hm]
    by_cases hc : okCol (q.val % 64) (l.val % 64)
    · rw [if_pos hc, if_pos (show (0 : EReal) < 1 from by norm_num), add_zero, if_pos (And.intro hr hc), hx0,
        circle_apply b h _ hb _ (⟨(l.val % 64 + 15 - q.val % 64) % 31, Nat.mod_lt _ (by omega)⟩ : Fin 31)
          (by unfold okCol at hc; show (l.val % 64 + 128 - q.val % 64) % 128 = ((l.val % 64 + 15 - q.val % 64) % 31 + 113) % 128; omega)]
      refine congrArg (· * _) (congrArg (fun d => b (ix3 h d _)) (Fin.ext ?_))
      show l.val / 64 + 3 - q.val / 64 = (l.val / 64 + 3 - q.val / 64) % 15
      omega
    · rw [if_neg hc, if_neg (lt_irrefl (0 : EReal)), EReal.add_bot, if_neg (fun hh => hc (And.right hh))]
  · rw [if_neg hr, if_neg (fun hh => hr hh.1)]

theorem index0_0 : ∀ t : Fin grid0.N, win0_0.index t 0 = t.val ∧ win0_0.index t 1 = 0 ∧ win0_0.index t 2 = 0 := by decide +kernel
theorem index0_1 : ∀ t : Fin grid0.N, win0_1.index t 0 = 0 ∧ win0_1.index t 1 = 0 := by decide +kernel
theorem index0_2 : ∀ t : Fin grid0.N, win0_2.index t 0 = 0 ∧ win0_2.index t 1 = t.val ∧ win0_2.index t 2 = 0 ∧ win0_2.index t 3 = 0 := by decide +kernel

theorem point0_lt (t : Fin cfg0.N) : t.val < 16 := by have := t.isLt; have hN : cfg0.N = 16 := N_0; omega

theorem circle_block (c : Dev nD) (t : Fin cfg0.N) (d : Fin 16) (l : Fin 128) :
    (iblk0 (V6 m ρ) c 0 t : FVec Ideal S1x16x128 .f32) (ix3 (0 : Fin 1) d l)
      = circlePad (m ((c : Thread nD τ).loc main_arg1)) (ix3 (⟨t.val, point0_lt t⟩ : Fin 16) d l) := by
  unfold iblk0
  rw [View.read_apply]
  rw [← circlePad_eq m ρ c]
  show V6 m ρ c main_v24 _ = V6 m ρ c main_v24 _
  refine congrArg _ (funext fun a => Fin.ext ?_)
  match a with
  | ⟨0, _⟩ => show win0_0.index t 0 * 1 + 1 * 0 = t.val; rw [(index0_0 t).1]; omega
  | ⟨1, _⟩ => show win0_0.index t 1 * 16 + 1 * d.val = d.val; rw [(index0_0 t).2.1]; omega
  | ⟨2, _⟩ => show win0_0.index t 2 * 128 + 1 * l.val = l.val; rw [(index0_0 t).2.2]; omega

theorem mask_block (c : Dev nD) (t : Fin cfg0.N) : (iblk0 (V6 m ρ) c 1 t : FVec Ideal S64x128 .f32) = maskPair := by
  rw [← maskPair_eq m ρ c]
  funext y
  unfold iblk0
  rw [View.read_apply]
  show V6 m ρ c main_v19 _ = V6 m ρ c main_v19 _
  refine congrArg _ (funext fun a => Fin.ext ?_)
  match a with
  | ⟨0, _⟩ => show win0_1.index t 0 * 64 + 1 * (y 0).val = (y 0).val; rw [(index0_1 t).1]; omega
  | ⟨1, _⟩ => show win0_1.index t 1 * 128 + 1 * (y 1).val = (y 1).val; rw [(index0_1 t).2]; omega

/-- All the tables. -/
def tables (b : FVec Ideal S16x15x31 .f32) : FVec Ideal S4x16x256x768 .f32 := fun i => bias b (i 0) (i 1) (i 2) (i 3)

theorem flushed0_eq (c : Dev nD) (t : Fin cfg0.N) :
    (dat0 (V6 m ρ) c).flushed 2 t = ((cfg0.win 2).blk t).view.read (Elt Ideal) (tables (m ((c : Thread nD τ).loc main_arg1))) := by
  show (cfg0.win 2).cut (grid0.coords t) ((dat0 (V6 m ρ) c).after 2 t) = _
  rw [after0_2, mask_block]
  funext y
  change S4x1x256x768.Idx at y
  have hy : (y 1).val < 1 := (y 1).isLt
  rw [View.read_apply]
  have e : (win0_2.rect t).emb y = ix4 (y 0) (⟨t.val, point0_lt t⟩ : Fin 16) (y 2) (y 3) := by
    funext a
    apply Fin.ext
    match a with
    | ⟨0, _⟩ => show win0_2.index t 0 * 4 + 1 * (y 0).val = (y 0).val; rw [(index0_2 t).1]; omega
    | ⟨1, _⟩ => show win0_2.index t 1 * 1 + 1 * (y 1).val = t.val; rw [(index0_2 t).2.1]; omega
    | ⟨2, _⟩ => show win0_2.index t 2 * 256 + 1 * (y 2).val = (y 2).val; rw [(index0_2 t).2.2.1]; omega
    | ⟨3, _⟩ => show win0_2.index t 3 * 768 + 1 * (y 3).val = (y 3).val; rw [(index0_2 t).2.2.2]; omega
  refine (out0_apply _ _ y).trans (Eq.trans ?_ (congrArg (tables (m ((c : Thread nD τ).loc main_arg1))) e).symm)
  exact table_eq (m ((c : Thread nD τ).loc main_arg1)) (⟨t.val, point0_lt t⟩ : Fin 16) _ (fun d l => circle_block m ρ c t d l) _ _ _

theorem cover0 (i : S4x16x256x768.Idx) :
    ∃ t : Fin cfg0.N, (cfg0.win 2).flush t = true ∧ i ∈ ((cfg0.win 2).blk t).view.set := by
  have h0 : (i 0).val < 4 := (i 0).isLt
  have h1 : (i 1).val < 16 := (i 1).isLt
  have h2 : (i 2).val < 256 := (i 2).isLt
  have h3 : (i 3).val < 768 := (i 3).isLt
  have hN : cfg0.N = 16 := N_0
  refine ⟨⟨(i 1).val, by omega⟩, flush0_2 _, ?_⟩
  generalize ht : (⟨(i 1).val, _⟩ : Fin cfg0.N) = t
  have hv : t.val = (i 1).val := by rw [← ht]
  show i ∈ ((View.whole main_v25).slice (win0_2.rect t)).set
  rw [View.set_slice_whole, Rect.mem_set_unit]
  intro a
  match a with
  | ⟨0, _⟩ => show win0_2.index t 0 * 4 ≤ (i 0).val ∧ (i 0).val < win0_2.index t 0 * 4 + 4; rw [(index0_2 t).1]; omega
  | ⟨1, _⟩ => show win0_2.index t 1 * 1 ≤ (i 1).val ∧ (i 1).val < win0_2.index t 1 * 1 + 1; rw [(index0_2 t).2.1]; omega
  | ⟨2, _⟩ => show win0_2.index t 2 * 256 ≤ (i 2).val ∧ (i 2).val < win0_2.index t 2 * 256 + 256; rw [(index0_2 t).2.2.1]; omega
  | ⟨3, _⟩ => show win0_2.index t 3 * 768 ≤ (i 3).val ∧ (i 3).val < win0_2.index t 3 * 768 + 768; rw [(index0_2 t).2.2.2]; omega

/-- The second launch finds the tables in their array. -/
theorem tables_final (c : Dev nD) : V7 m ρ c main_v25 = tables (m ((c : Thread nD τ).loc main_arg1)) :=
  (tables_eq m ρ c).trans ((dat0 (V6 m ρ) c).arrAt_eq_of_cover 2 (tables (m ((c : Thread nD τ).loc main_arg1)))
    (fun t _ => flushed0_eq m ρ c t) cover0)

end Cert.AttIdeal.Attention
end
-- ==== Proof.AttMath.lean ====
/- Softmax taken two ways: with powers of two over many keys, some of no weight, and with the exponential over the keys that have one. -/
module

public import Idealize.ShloMosaic.Lib.Pointwise

@[expose] public section

noncomputable section

namespace Cert.AttMath

open Idealize.ShloMosaic

/-- The weight a score has at base two. -/
def wt2 (x : EReal) : ℝ := (Ideal.exp2 x).toReal

/-- The weight a score has at base e. -/
def wt (x : EReal) : ℝ := (Ideal.exp x).toReal

theorem wt2_bot : wt2 ⊥ = 0 := by simp [wt2]
theorem wt_bot : wt ⊥ = 0 := by simp [wt]
theorem wt2_coe (r : ℝ) : wt2 (r : EReal) = (2 : ℝ) ^ r := by simp [wt2]
theorem wt_coe (r : ℝ) : wt (r : EReal) = Real.exp r := by simp [wt]

theorem wt2_nonneg (x : EReal) (hx : x < ⊤) : 0 ≤ wt2 x := by
  induction x with
  | bot => rw [wt2_bot]
  | top => exact absurd hx (lt_irrefl _)
  | coe r => rw [wt2_coe]; positivity

theorem wt_nonneg (x : EReal) (hx : x < ⊤) : 0 ≤ wt x := by
  induction x with
  | bot => rw [wt_bot]
  | top => exact absurd hx (lt_irrefl _)
  | coe r => rw [wt_coe]; positivity

/-- Taking a number off a score takes a factor out of its weight. -/
theorem exp2_sub (x : EReal) (hx : x < ⊤) (M : ℝ) : Ideal.exp2 (x - (M : EReal)) = (((2 : ℝ) ^ (-M) * wt2 x : ℝ) : EReal) := by
  induction x with
  | bot => rw [wt2_bot, mul_zero, EReal.bot_sub]; simp
  | top => exact absurd hx (lt_irrefl _)
  | coe r =>
    rw [wt2_coe, ← EReal.coe_sub, Ideal.exp2_coe]
    congr 1
    show (2 : ℝ) ^ (r - M) = _
    rw [← Real.rpow_add (by norm_num)]
    congr 1; ring

theorem exp_sub (x : EReal) (hx : x < ⊤) (M : ℝ) : Ideal.exp (x - (M : EReal)) = ((Real.exp (-M) * wt x : ℝ) : EReal) := by
  induction x with
  | bot => rw [wt_bot, mul_zero, EReal.bot_sub]; simp
  | top => exact absurd hx (lt_irrefl _)
  | coe r =>
    rw [wt_coe, ← EReal.coe_sub, Ideal.exp_coe]
    congr 1
    rw [← Real.exp_add]
    congr 1; ring

/-- A score scaled by the logarithm has the same weight. -/
theorem wt2_scaled (a : ℝ) (b : EReal) (hb : b < ⊤) :
    wt2 (((a * (Real.log 2)⁻¹ : ℝ) : EReal) + b * (((Real.log 2)⁻¹ : ℝ) : EReal)) = wt ((a : EReal) + b) := by
  have hl : 0 < (Real.log 2)⁻¹ := inv_pos.2 (Real.log_pos (by norm_num))
  induction b with
  | bot => rw [EReal.bot_mul_coe_of_pos hl, EReal.add_bot, EReal.add_bot, wt2_bot, wt_bot]
  | top => exact absurd hb (lt_irrefl _)
  | coe r =>
    rw [← EReal.coe_mul, ← EReal.coe_add, ← EReal.coe_add, wt2_coe, wt_coe, Real.rpow_def_of_pos (by norm_num)]
    congr 1
    have : Real.log 2 ≠ 0 := ne_of_gt (Real.log_pos (by norm_num))
    field_simp

theorem wt2_scaled_coe (a : ℝ) : wt2 ((a * (Real.log 2)⁻¹ : ℝ) : EReal) = wt (a : EReal) := by
  rw [wt2_coe, wt_coe, Real.rpow_def_of_pos (by norm_num)]
  congr 1
  have : Real.log 2 ≠ 0 := ne_of_gt (Real.log_pos (by norm_num))
  field_simp

/-- A sum's real factor. -/
theorem mul_sum_ereal {ι : Type*} (s : Finset ι) (K : ℝ) (hK : 0 ≤ K) (f : ι → EReal) :
    ∑ i ∈ s, (K : EReal) * f i = (K : EReal) * ∑ i ∈ s, f i := by
  classical
  induction s using Finset.induction_on with
  | empty => simp
  | insert a t ha ih =>
    rw [Finset.sum_insert ha, Finset.sum_insert ha, ih]
    exact (EReal.left_distrib_of_nonneg_of_ne_top (EReal.coe_nonneg.2 hK) (EReal.coe_ne_top K) _ _).symm

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a t ha ih => rw [Finset.sum_insert ha, Finset.sum_insert ha, EReal.coe_add, ih]

theorem div_coe (x : EReal) (D : ℝ) (hD : D ≠ 0) : Ideal.div x (D : EReal) = ((D⁻¹ : ℝ) : EReal) * x := by
  unfold Ideal.div
  rw [if_neg (by simpa using hD), mul_comm, EReal.coe_inv]

/-- A greatest score is a number when no score is infinite above and one is a number. -/
theorem fold_max_real {ι : Type*} [Fintype ι] (f : ι → EReal) (hf : ∀ i, f i < ⊤) (i : ι) (hi : ⊥ < f i) :
    ∃ M : ℝ, Finset.fold max ⊥ f Finset.univ = (M : EReal) := by
  have h1 : Finset.fold max ⊥ f Finset.univ < ⊤ := (Finset.fold_max_lt _).2 ⟨bot_lt_top, fun x _ => hf x⟩
  have h2 : ⊥ < Finset.fold max ⊥ f Finset.univ := (Finset.lt_fold_max _).2 (.inr ⟨i, Finset.mem_univ _, hi⟩)
  exact ⟨_, (EReal.coe_toReal h1.ne h2.ne').symm⟩

theorem fold_max_lt_top {ι : Type*} [Fintype ι] (f : ι → EReal) (hf : ∀ i, f i < ⊤) : Finset.fold max ⊥ f Finset.univ < ⊤ :=
  (Finset.fold_max_lt _).2 ⟨bot_lt_top, fun x _ => hf x⟩

/-- The greatest of two families of scores is a number. -/
theorem max_fold_real {ι κ : Type*} [Fintype ι] [Fintype κ] (f : ι → EReal) (g : κ → EReal) (hf : ∀ i, f i < ⊤) (hg : ∀ i, g i < ⊤)
    (i : κ) (hi : ⊥ < g i) : ∃ M : ℝ, max (Finset.fold max ⊥ f Finset.univ) (Finset.fold max ⊥ g Finset.univ) = (M : EReal) := by
  have h1 : max (Finset.fold max ⊥ f Finset.univ) (Finset.fold max ⊥ g Finset.univ) < ⊤ :=
    max_lt (fold_max_lt_top f hf) (fold_max_lt_top g hg)
  obtain ⟨M, hM⟩ := fold_max_real g hg i hi
  have h2 : ⊥ < max (Finset.fold max ⊥ f Finset.univ) (Finset.fold max ⊥ g Finset.univ) :=
    lt_max_of_lt_right (by rw [hM]; exact EReal.bot_lt_coe M)
  exact ⟨_, (EReal.coe_toReal h1.ne h2.ne').symm⟩

/-- The values of two families of keys, each with its share of the weights. -/
def mix {ι κ : Type*} [Fintype ι] [Fintype κ] (u : ι → ℝ) (w : κ → ℝ) (V : ι → EReal) (Vc : κ → EReal) : EReal :=
  ∑ i, ((u i / (∑ i, u i + ∑ j, w j) : ℝ) : EReal) * V i + ∑ j, ((w j / (∑ i, u i + ∑ j, w j) : ℝ) : EReal) * Vc j

/-- The weighted values and the weights' sum, each with one factor: their quotient is the mix. -/
theorem quotient_eq_mix {ι κ : Type*} [Fintype ι] [Fintype κ] (u : ι → ℝ) (w : κ → ℝ) (V : ι → EReal) (Vc : κ → EReal) (K : ℝ) (hK : 0 < K)
    (hD : 0 < ∑ i, u i + ∑ j, w j) :
    Ideal.div (∑ i, ((K * u i : ℝ) : EReal) * V i + ∑ j, ((K * w j : ℝ) : EReal) * Vc j)
        (∑ i, ((K * u i : ℝ) : EReal) * 1 + ∑ j, ((K * w j : ℝ) : EReal) * 1) = mix u w V Vc := by
  have hden : (∑ i, ((K * u i : ℝ) : EReal) * 1 + ∑ j, ((K * w j : ℝ) : EReal) * 1)
      = ((K * (∑ i, u i + ∑ j, w j) : ℝ) : EReal) := by
    simp only [mul_one]
    rw [← coe_sum, ← coe_sum, ← EReal.coe_add, ← Finset.mul_sum, ← Finset.mul_sum, mul_add]
  have hK' : (K * (∑ i, u i + ∑ j, w j)) ≠ 0 := (mul_pos hK hD).ne'
  have hp : 0 ≤ (K * (∑ i, u i + ∑ j, w j))⁻¹ := (inv_pos.2 (mul_pos hK hD)).le
  rw [hden, div_coe _ _ hK', EReal.left_distrib_of_nonneg_of_ne_top (EReal.coe_nonneg.2 hp) (EReal.coe_ne_top _),
    ← mul_sum_ereal _ _ hp, ← mul_sum_ereal _ _ hp]
  unfold mix
  congr 1 <;> refine Finset.sum_congr rfl fun i _ => ?_
  · rw [← mul_assoc, ← EReal.coe_mul]
    congr 2
    field_simp
  · rw [← mul_assoc, ← EReal.coe_mul]
    congr 2
    field_simp

/-- The quotient a kernel's row takes, with powers of two. -/
def quot2 {ι κ : Type*} [Fintype ι] [Fintype κ] (S : ι → EReal) (C : κ → EReal) (V : ι → EReal) (Vc : κ → EReal) : EReal :=
  Ideal.div
    (∑ i, Ideal.exp2 (S i - max (Finset.fold max ⊥ S Finset.univ) (Finset.fold max ⊥ C Finset.univ)) * V i
      + ∑ j, Ideal.exp2 (C j - max (Finset.fold max ⊥ S Finset.univ) (Finset.fold max ⊥ C Finset.univ)) * Vc j)
    (∑ i, Ideal.exp2 (S i - max (Finset.fold max ⊥ S Finset.univ) (Finset.fold max ⊥ C Finset.univ)) * 1
      + ∑ j, Ideal.exp2 (C j - max (Finset.fold max ⊥ S Finset.univ) (Finset.fold max ⊥ C Finset.univ)) * 1)

/-- The weights' sum is positive. -/
theorem sum_pos {ι κ : Type*} [Fintype ι] [Fintype κ] (u : ι → ℝ) (w : κ → ℝ) (hu : ∀ i, 0 ≤ u i) (hw : ∀ j, 0 ≤ w j) (j : κ) (hj : 0 < w j) :
    0 < ∑ i, u i + ∑ j, w j :=
  add_pos_of_nonneg_of_pos (Finset.sum_nonneg fun i _ => hu i)
    (Finset.sum_pos' (fun i _ => hw i) ⟨j, Finset.mem_univ _, hj⟩)

theorem quot2_eq_mix {ι κ : Type*} [Fintype ι] [Fintype κ] (S : ι → EReal) (C : κ → EReal) (V : ι → EReal) (Vc : κ → EReal)
    (hS : ∀ i, S i < ⊤) (hC : ∀ j, C j < ⊤) (j : κ) (hj : ⊥ < C j) :
    quot2 S C V Vc = mix (fun i => wt2 (S i)) (fun j => wt2 (C j)) V Vc := by
  obtain ⟨M, hM⟩ := max_fold_real S C hS hC j hj
  unfold quot2
  rw [hM]
  simp only [exp2_sub _ (hS _) M, exp2_sub _ (hC _) M]
  refine quotient_eq_mix _ _ V Vc _ (by positivity) (sum_pos _ _ (fun i => wt2_nonneg _ (hS i)) (fun i => wt2_nonneg _ (hC i)) j ?_)
  have := EReal.coe_toReal (hC j).ne hj.ne'
  rw [← this, wt2_coe]
  positivity

/-- A share as the quotient of an exponential by the exponentials' sum. -/
theorem share_eq {α : Type*} [Fintype α] (T : α → EReal) (hT : ∀ i, T i < ⊤) (M : ℝ) (D : ℝ) (hD : 0 < D) (h : ∑ i, wt (T i) = D) (i : α) :
    Ideal.div (Ideal.exp (T i - (M : EReal))) (∑ i, Ideal.exp (T i - (M : EReal))) = ((wt (T i) / D : ℝ) : EReal) := by
  have hs : ∑ i, Ideal.exp (T i - (M : EReal)) = ((Real.exp (-M) * D : ℝ) : EReal) := by
    simp only [exp_sub _ (hT _) M]
    rw [← coe_sum, ← Finset.mul_sum, h]
  have hp : 0 < Real.exp (-M) * D := mul_pos (Real.exp_pos _) hD
  rw [hs, div_coe _ _ hp.ne', exp_sub _ (hT i) M, ← EReal.coe_mul]
  congr 1
  have := Real.exp_pos (-M)
  field_simp

/-- Keys of no weight may be left out. -/
theorem mix_window {ι κ ω : Type*} [Fintype ι] [Fintype κ] [Fintype ω] (u : ι → ℝ) (u' : ω → ℝ) (w : κ → ℝ) (V : ι → EReal) (V' : ω → EReal)
    (Vc : κ → EReal) (e : ω → ι) (he : Function.Injective e) (h0 : ∀ i, i ∉ Set.range e → u i = 0) (h1 : ∀ x, u (e x) = u' x)
    (hV : ∀ x, V (e x) = V' x) : mix u w V Vc = mix u' w V' Vc := by
  have hs : ∑ i, u i = ∑ x, u' x := (Fintype.sum_of_injective e he u' u h0 (fun x => (h1 x).symm)).symm
  unfold mix
  rw [hs]
  congr 1
  refine (Fintype.sum_of_injective e he _ _ (fun i hi => ?_) (fun x => ?_)).symm
  · rw [h0 i hi, zero_div, EReal.coe_zero, zero_mul]
  · rw [h1, hV]

/-- The gate, with a power of two and with the exponential. -/
theorem gate_eq (x : EReal) : Ideal.exp2 (x * ((-((Real.log 2)⁻¹) : ℝ) : EReal)) = Ideal.exp (-x) := by
  have hl : 0 < (Real.log 2)⁻¹ := inv_pos.2 (Real.log_pos (by norm_num))
  induction x with
  | bot => rw [EReal.bot_mul_coe_of_neg (by linarith), EReal.neg_bot]; simp
  | top => rw [EReal.top_mul_coe_of_neg (by linarith), EReal.neg_top]; simp
  | coe r =>
    rw [← EReal.coe_mul, ← EReal.coe_neg, Ideal.exp2_coe, Ideal.exp_coe]
    congr 1
    show (2 : ℝ) ^ (r * -(Real.log 2)⁻¹) = _
    rw [Real.rpow_def_of_pos (by norm_num)]
    congr 1
    have : Real.log 2 ≠ 0 := ne_of_gt (Real.log_pos (by norm_num))
    field_simp

/-- The projections at a row and a column, nought off the array. -/
def zat (x : FVec Ideal (⟨2, ![16640, 13312]⟩ : Shape) .bf16) (r c : Nat) : EReal :=
  if h : r < 16640 ∧ c < 13312 then x (ValueIdx.ix2 (⟨r, h.1⟩ : Fin 16640) (⟨c, h.2⟩ : Fin 13312)) else 0

theorem zat_of (x : FVec Ideal (⟨2, ![16640, 13312]⟩ : Shape) .bf16) (i : (⟨2, ![16640, 13312]⟩ : Shape).Idx) (r c : Nat) (h0 : (i 0).val = r) (h1 : (i 1).val = c) :
    x i = zat x r c := by
  subst h0 h1
  unfold zat
  rw [dif_pos ⟨(i 0).isLt, (i 1).isLt⟩]
  exact congrArg x (funext fun a => match a with | ⟨0, _⟩ => rfl | ⟨1, _⟩ => rfl)

/-- A bias at a row and a column of its head's table, nought off the table. -/
def bat (b : FVec Ideal (⟨3, ![16, 15, 31]⟩ : Shape) .f32) (h : Fin 16) (r c : Nat) : EReal :=
  if p : r < 15 ∧ c < 31 then b (ValueIdx.ix3 h (⟨r, p.1⟩ : Fin 15) (⟨c, p.2⟩ : Fin 31)) else 0

theorem bat_of (b : FVec Ideal (⟨3, ![16, 15, 31]⟩ : Shape) .f32) (h : Fin 16) (i : Fin 15) (l : Fin 31) (r c : Nat) (h0 : i.val = r) (h1 : l.val = c) :
    b (ValueIdx.ix3 h i l) = bat b h r c := by
  subst h0 h1
  unfold bat
  rw [dif_pos ⟨i.isLt, l.isLt⟩]

end Cert.AttMath
end
-- ==== Proof.AttHead.lean ====
/- One head of the attention's launch: the block a head writes, as one function of what it reads, and its value at an index. -/
module

public import proofs.«01_k».proof.Proof.AttTables
public import proofs.«01_k».proof.Proof.AttMath

@[expose] public section

set_option maxRecDepth 16384

noncomputable section

namespace Cert.AttIdeal.Attention

open Idealize.ShloMosaic Idealize.ShloMosaic.TcCoe Idealize.SL.Sem
open Idealize.ShloMosaic.Pipeline (Dat)
open Cert.AttIdeal Cert.AttIdeal.Gen

theorem cols_inb (n : Nat) : ∀ a : Fin S256x2048.rank, ![0, n % 16 * 128] a + S256x128.size a ≤ S256x2048.size a := fun a => match a with
  | ⟨0, _⟩ => (by show 0 + 256 ≤ 256; omega)
  | ⟨1, _⟩ => (by show n % 16 * 128 + 128 ≤ 2048; omega)

/-- A head's columns of a block. -/
def cols (n : Nat) : Rect S256x2048 := Rect.unit (s := S256x2048) ![0, n % 16 * 128] S256x128.size (cols_inb n)

/-- A head's table. -/
def sheet (n : Nat) : Rect S1x16x256x768 := Rect.unit (s := S1x16x256x768) ![0, n % 16, 0, 0] S1x1x256x768.size (fun a => match a with
  | ⟨0, _⟩ => (by show 0 + 1 ≤ 1; omega)
  | ⟨1, _⟩ => (by show n % 16 + 1 ≤ 16; omega)
  | ⟨2, _⟩ => (by show 0 + 256 ≤ 256; omega)
  | ⟨3, _⟩ => (by show 0 + 768 ≤ 768; omega))

/-- The sums a head takes over its keys: weighted values in the first 128 columns, the weights' sum in the others. -/
def sums (q k0 k1 k2 v0 v1 v2 kc vc : FVec Ideal S256x128 .bf16) (t : FVec Ideal S1x1x256x768 .f32) : FVec Ideal S256x256 .f32 :=
  k1_pay11 (F := Ideal) (k1_pay1 (F := Ideal)) (k1_pay2 (F := Ideal)) (k1_pay4 (F := Ideal) q k0 k1 k2 t) (k1_pay5 (F := Ideal) q kc) v0 v1 v2 vc

/-- A head's block of the result. -/
def head (q k0 k1 k2 v0 v1 v2 kc vc g : FVec Ideal S256x128 .bf16) (t : FVec Ideal S1x1x256x768 .f32) : FVec Ideal S256x128 .bf16 :=
  k1_pay13 (F := Ideal) (sums q k0 k1 k2 v0 v1 v2 kc vc t)
    (extractStridedSlice S256x128 ![0, 0] (sums q k0 k1 k2 v0 v1 v2 kc vc t) slices_S256x256_o0_0_S256x128) g

/-- What a head writes, where. -/
def headPiece (x0 x1 x2 x3 x4 x5 x6 x7 x8 x9 : FVec Ideal S256x2048 .bf16) (x10 : FVec Ideal S1x16x256x768 .f32) (n : Nat) :
    View.Piece (Elt Ideal) S256x2048 .bf16 :=
  ⟨cols n, head (View.ld (Val := Elt Ideal) (e' := .bf16) x0 (cols n)) (View.ld (Val := Elt Ideal) (e' := .bf16) x1 (cols n))
    (View.ld (Val := Elt Ideal) (e' := .bf16) x2 (cols n)) (View.ld (Val := Elt Ideal) (e' := .bf16) x3 (cols n))
    (View.ld (Val := Elt Ideal) (e' := .bf16) x4 (cols n)) (View.ld (Val := Elt Ideal) (e' := .bf16) x5 (cols n))
    (View.ld (Val := Elt Ideal) (e' := .bf16) x6 (cols n)) (View.ld (Val := Elt Ideal) (e' := .bf16) x7 (cols n))
    (View.ld (Val := Elt Ideal) (e' := .bf16) x8 (cols n)) (View.ld (Val := Elt Ideal) (e' := .bf16) x9 (cols n))
    (View.ld (Val := Elt Ideal) (e' := .f32) x10 (sheet n))⟩

set_option maxHeartbeats 1000000 in
/-- The launch's block is its sixteen heads' blocks, the last one first. -/
theorem out1_eq (x0 x1 x2 x3 x4 x5 x6 x7 x8 x9 : FVec Ideal S256x2048 .bf16) (x10 : FVec Ideal S1x16x256x768 .f32) :
    out1_11 (F := Ideal) x0 x1 x2 x3 x4 x5 x6 x7 x8 x9 x10
      = View.canon (Val := Elt Ideal) ((List.range 16).reverse.map (headPiece x0 x1 x2 x3 x4 x5 x6 x7 x8 x9 x10)) := by
  rw [show (List.range 16).reverse = [15, 14, 13, 12, 11, 10, 9, 8, 7, 6, 5, 4, 3, 2, 1, 0] from by decide]
  rfl

/-- Three blocks of rows, one after the other. -/
def stack (a b c : FVec Ideal S256x128 .bf16) (x : Fin 768) (d : Fin 128) : EReal :=
  if h : x.val < 256 then a (ix2 ⟨x.val, h⟩ d)
  else if h' : x.val - 256 < 256 then b (ix2 ⟨x.val - 256, h'⟩ d)
  else c (ix2 ⟨x.val - 256 - 256, by have := x.isLt; omega⟩ d)

/-- The scale of the scores, for powers of two. -/
def scale2 : EReal := (((Real.sqrt 128)⁻¹ * (Real.log 2)⁻¹ : ℝ) : EReal)

theorem scale2_named : (Named.named (F := Ideal) (φ := .f32) κ "scale_log2_e" 0x3E0293EE#32 : EReal) = scale2 := rfl
theorem minus_log2_named : (Named.named (F := Ideal) (φ := .f32) κ "minus_log2_e" 0xBFB8AA3B#32 : EReal) = ((-((Real.log 2)⁻¹) : ℝ) : EReal) := rfl
theorem least : Ideal.ofBits .f32 0xFF800000#32 = ⊥ := by simp [Ideal.ofBits, Ideal.ieee]

theorem query_apply (q : FVec Ideal S256x128 .bf16) (r : Fin 256) (d : Fin 128) :
    k1_pay3 (F := Ideal) q (ix2 r d) = q (ix2 r d) * scale2 := by
  rw [← scale2_named]
  pointwise [k1_pay3]

theorem near_apply (q k0 k1 k2 : FVec Ideal S256x128 .bf16) (t : FVec Ideal S1x1x256x768 .f32) (r : Fin 256) (x : Fin 768) :
    k1_pay4 (F := Ideal) q k0 k1 k2 t (ix2 r x)
      = (∑ d : Fin 128, q (ix2 r d) * scale2 * stack k0 k1 k2 x d) + t (ix4 (0 : Fin 1) (0 : Fin 1) r x) := by
  simp only [← query_apply]
  pointwise [k1_pay4]
  rfl

theorem far_apply (q kc : FVec Ideal S256x128 .bf16) (r : Fin 256) (x : Fin 256) :
    k1_pay5 (F := Ideal) q kc (ix2 r x) = ∑ d : Fin 128, q (ix2 r d) * scale2 * kc (ix2 x d) := by
  simp only [← query_apply]
  pointwise [k1_pay5]

/-- A sum a head takes: over its two kinds of keys, each with its weight. -/
def total (S : Fin 768 → EReal) (C : Fin 256 → EReal) (V : Fin 768 → EReal) (Vc : Fin 256 → EReal) : EReal :=
  ∑ i, Ideal.exp2 (S i - max (Finset.fold max ⊥ S Finset.univ) (Finset.fold max ⊥ C Finset.univ)) * V i
    + ∑ j, Ideal.exp2 (C j - max (Finset.fold max ⊥ S Finset.univ) (Finset.fold max ⊥ C Finset.univ)) * Vc j

theorem values_apply (S : FVec Ideal S256x768 .f32) (C : FVec Ideal S256x256 .f32) (v0 v1 v2 vc : FVec Ideal S256x128 .bf16) (r : Fin 256) (j : Fin 128) :
    k1_pay11 (F := Ideal) k1_pay1 k1_pay2 S C v0 v1 v2 vc (ix2 r (⟨j.val, by omega⟩ : Fin 256))
      = total (fun x => S (ix2 r x)) (fun x => C (ix2 r x)) (fun x => stack v0 v1 v2 x j) (fun x => vc (ix2 x j)) := by
  have hj : j.val < 128 := j.isLt
  pointwise [k1_pay11, k1_pay1, k1_pay2]
  rw [least]
  rfl

theorem weights_apply (S : FVec Ideal S256x768 .f32) (C : FVec Ideal S256x256 .f32) (v0 v1 v2 vc : FVec Ideal S256x128 .bf16) (r : Fin 256) (j : Fin 128) :
    k1_pay11 (F := Ideal) k1_pay1 k1_pay2 S C v0 v1 v2 vc (ix2 r (⟨128 + j.val, by omega⟩ : Fin 256))
      = total (fun x => S (ix2 r x)) (fun x => C (ix2 r x)) (fun _ => 1) (fun _ => 1) := by
  have hj : ¬ 128 + j.val < 128 := by omega
  pointwise [k1_pay11, k1_pay1, k1_pay2]
  rw [least]
  simp only [total, mul_one]
  rfl

theorem gated_apply (a : FVec Ideal S256x256 .f32) (g : FVec Ideal S256x128 .bf16) (r : Fin 256) (j : Fin 128) :
    k1_pay13 (F := Ideal) a (extractStridedSlice (s := S256x256) S256x128 ![0, 0] a slices_S256x256_o0_0_S256x128) g (ix2 r j)
      = Ideal.div (a (ix2 r (⟨j.val, by omega⟩ : Fin 256))) (a (ix2 r (⟨128 + j.val, by omega⟩ : Fin 256)))
        * (g (ix2 r j) * Ideal.div 1 (1 + Ideal.exp2 (g (ix2 r j) * ((-((Real.log 2)⁻¹) : ℝ) : EReal)))) := by
  rw [← minus_log2_named]
  pointwise [k1_pay13]
  rfl

/-- A head's block at an index. -/
theorem head_apply (q k0 k1 k2 v0 v1 v2 kc vc g : FVec Ideal S256x128 .bf16) (t : FVec Ideal S1x1x256x768 .f32) (r : Fin 256) (j : Fin 128) :
    head q k0 k1 k2 v0 v1 v2 kc vc g t (ix2 r j)
      = Cert.AttMath.quot2 (fun x : Fin 768 => (∑ d : Fin 128, q (ix2 r d) * scale2 * stack k0 k1 k2 x d) + t (ix4 (0 : Fin 1) (0 : Fin 1) r x))
          (fun x : Fin 256 => ∑ d : Fin 128, q (ix2 r d) * scale2 * kc (ix2 x d)) (fun x => stack v0 v1 v2 x j) (fun x => vc (ix2 x j))
        * (g (ix2 r j) * Ideal.div 1 (1 + Ideal.exp2 (g (ix2 r j) * ((-((Real.log 2)⁻¹) : ℝ) : EReal)))) := by
  unfold head
  rw [gated_apply]
  unfold sums
  rw [values_apply, weights_apply]
  simp only [near_apply, far_apply]
  rfl

end Cert.AttIdeal.Attention
end
-- ==== Proof.AttBlocks.lean ====
/- The attention's result: what its launch reads at each point of its grid, and the array it leaves. -/
module

public import proofs.«01_k».proof.Proof.AttHead

@[expose] public section

set_option maxRecDepth 16384

noncomputable section

namespace Cert.AttIdeal.Attention

open Idealize.ShloMosaic Idealize.ShloMosaic.TcCoe Idealize.SL.Sem
open Idealize.ShloMosaic.Pipeline (Dat)
open Cert.AttIdeal Cert.AttIdeal.Gen Cert.AttMath

variable (m : (ℓ : Loc nD τ sig) → Buf (Elt Ideal) ℓ) (ρ : Dev nD → PrngReg)

/-- The block of keys beside a block of queries: the one before, its own, the one after, none past the ends. -/
def blockRow (t i : Nat) : Nat := min (max (t + i - 1) 1) 64

/-- The row a block's key has. -/
def keyRow (t x : Nat) : Nat := 256 * blockRow t (x / 256) + x % 256

/-- The variant of the tables a block of queries takes. -/
def variant (t : Nat) : Nat := if t = 0 then 3 else if t = 1 then 0 else if t = 64 then 2 else 1

theorem variant_lt (t : Nat) : variant t < 4 := by unfold variant; split_ifs <;> omega

/-- One element of the attention. -/
def element (x : FVec Ideal S16640x13312 .bf16) (b : FVec Ideal S16x15x31 .f32) (t : Nat) (r : Fin 256) (h : Fin 16) (j : Fin 128) : EReal :=
  Cert.AttMath.quot2
      (fun k : Fin 768 => (∑ d : Fin 128, zat x (256 * t + r.val) (128 * h.val + d.val) * scale2 * zat x (keyRow t k.val) (2048 + 128 * h.val + d.val))
        + bias b (⟨variant t, variant_lt t⟩ : Fin 4) h r k)
      (fun k : Fin 256 => ∑ d : Fin 128, zat x (256 * t + r.val) (128 * h.val + d.val) * scale2 * zat x k.val (2048 + 128 * h.val + d.val))
      (fun k : Fin 768 => zat x (keyRow t k.val) (4096 + 128 * h.val + j.val))
      (fun k : Fin 256 => zat x k.val (4096 + 128 * h.val + j.val))
    * (zat x (256 * t + r.val) (6144 + 128 * h.val + j.val)
      * Ideal.div 1 (1 + Ideal.exp2 (zat x (256 * t + r.val) (6144 + 128 * h.val + j.val) * ((-((Real.log 2)⁻¹) : ℝ) : EReal))))

/-- The attention. -/
def attention (x : FVec Ideal S16640x13312 .bf16) (b : FVec Ideal S16x15x31 .f32) : FVec Ideal S16640x2048 .bf16 := fun i =>
  element x b ((i 0).val / 256) (⟨(i 0).val % 256, Nat.mod_lt _ (by omega)⟩ : Fin 256)
    (⟨(i 1).val / 128, Nat.div_lt_of_lt_mul (i 1).isLt⟩ : Fin 16) (⟨(i 1).val % 128, Nat.mod_lt _ (by omega)⟩ : Fin 128)

/-- Where each window of the launch stands. -/
theorem index1_0 : ∀ t : Fin grid1.N, win1_0.index t 0 = t.val ∧ win1_0.index t 1 = 0 := by decide +kernel
theorem index1_1 : ∀ t : Fin grid1.N, win1_1.index t 0 = blockRow t.val 0 ∧ win1_1.index t 1 = 1 := by decide +kernel
theorem index1_2 : ∀ t : Fin grid1.N, win1_2.index t 0 = blockRow t.val 1 ∧ win1_2.index t 1 = 1 := by decide +kernel
theorem index1_3 : ∀ t : Fin grid1.N, win1_3.index t 0 = blockRow t.val 2 ∧ win1_3.index t 1 = 1 := by decide +kernel
theorem index1_4 : ∀ t : Fin grid1.N, win1_4.index t 0 = blockRow t.val 0 ∧ win1_4.index t 1 = 2 := by decide +kernel
theorem index1_5 : ∀ t : Fin grid1.N, win1_5.index t 0 = blockRow t.val 1 ∧ win1_5.index t 1 = 2 := by decide +kernel
theorem index1_6 : ∀ t : Fin grid1.N, win1_6.index t 0 = blockRow t.val 2 ∧ win1_6.index t 1 = 2 := by decide +kernel
theorem index1_7 : ∀ t : Fin grid1.N, win1_7.index t 0 = 0 ∧ win1_7.index t 1 = 1 := by decide +kernel
theorem index1_8 : ∀ t : Fin grid1.N, win1_8.index t 0 = 0 ∧ win1_8.index t 1 = 2 := by decide +kernel
theorem index1_9 : ∀ t : Fin grid1.N, win1_9.index t 0 = t.val ∧ win1_9.index t 1 = 3 := by decide +kernel
theorem index1_10 : ∀ t : Fin grid1.N, win1_10.index t 0 = variant t.val ∧ win1_10.index t 1 = 0 ∧ win1_10.index t 2 = 0 ∧ win1_10.index t 3 = 0 := by decide +kernel
theorem index1_11 : ∀ t : Fin grid1.N, win1_11.index t 0 = t.val ∧ win1_11.index t 1 = 0 := by decide +kernel

/-- The projections' columns the launch reads. -/
theorem read_z (c : Dev nD) (i : S16640x8192.Idx) (a b y0 y1 : Nat) (h0 : (i 0).val = a * 256 + 1 * y0) (h1 : (i 1).val = b * 2048 + 1 * y1) :
    V7 m ρ c main_v0 i = zat (m ((c : Thread nD τ).loc main_arg0)) (256 * a + y0) (2048 * b + y1) := by
  rw [z_eq m ρ c]
  refine zat_of _ _ _ _ ?_ ?_
  · show 0 + (i 0).val = _; omega
  · show 0 + (i 1).val = _; omega

/-- A block of 256 rows and 2048 columns of the projections. -/
def zblock (x : FVec Ideal S16640x13312 .bf16) (a b : Nat) : FVec Ideal S256x2048 .bf16 := fun y =>
  zat x (256 * a + (y 0).val) (2048 * b + (y 1).val)

theorem block1_0 (c : Dev nD) (t : Fin cfg1.N) : (iblk1 (V7 m ρ) c 0 t : FVec Ideal S256x2048 .bf16) = zblock (m ((c : Thread nD τ).loc main_arg0)) t.val 0 := by
  funext y; unfold iblk1; rw [View.read_apply]
  exact (read_z m ρ c _ (win1_0.index t 0) (win1_0.index t 1) (y 0).val (y 1).val rfl rfl).trans (by rw [(index1_0 t).1, (index1_0 t).2]; rfl)
theorem block1_1 (c : Dev nD) (t : Fin cfg1.N) : (iblk1 (V7 m ρ) c 1 t : FVec Ideal S256x2048 .bf16) = zblock (m ((c : Thread nD τ).loc main_arg0)) (blockRow t.val 0) 1 := by
  funext y; unfold iblk1; rw [View.read_apply]
  exact (read_z m ρ c _ (win1_1.index t 0) (win1_1.index t 1) (y 0).val (y 1).val rfl rfl).trans (by rw [(index1_1 t).1, (index1_1 t).2]; rfl)
theorem block1_2 (c : Dev nD) (t : Fin cfg1.N) : (iblk1 (V7 m ρ) c 2 t : FVec Ideal S256x2048 .bf16) = zblock (m ((c : Thread nD τ).loc main_arg0)) (blockRow t.val 1) 1 := by
  funext y; unfold iblk1; rw [View.read_apply]
  exact (read_z m ρ c _ (win1_2.index t 0) (win1_2.index t 1) (y 0).val (y 1).val rfl rfl).trans (by rw [(index1_2 t).1, (index1_2 t).2]; rfl)
theorem block1_3 (c : Dev nD) (t : Fin cfg1.N) : (iblk1 (V7 m ρ) c 3 t : FVec Ideal S256x2048 .bf16) = zblock (m ((c : Thread nD τ).loc main_arg0)) (blockRow t.val 2) 1 := by
  funext y; unfold iblk1; rw [View.read_apply]
  exact (read_z m ρ c _ (win1_3.index t 0) (win1_3.index t 1) (y 0).val (y 1).val rfl rfl).trans (by rw [(index1_3 t).1, (index1_3 t).2]; rfl)
theorem block1_4 (c : Dev nD) (t : Fin cfg1.N) : (iblk1 (V7 m ρ) c 4 t : FVec Ideal S256x2048 .bf16) = zblock (m ((c : Thread nD τ).loc main_arg0)) (blockRow t.val 0) 2 := by
  funext y; unfold iblk1; rw [View.read_apply]
  exact (read_z m ρ c _ (win1_4.index t 0) (win1_4.index t 1) (y 0).val (y 1).val rfl rfl).trans (by rw [(index1_4 t).1, (index1_4 t).2]; rfl)
theorem block1_5 (c : Dev nD) (t : Fin cfg1.N) : (iblk1 (V7 m ρ) c 5 t : FVec Ideal S256x2048 .bf16) = zblock (m ((c : Thread nD τ).loc main_arg0)) (blockRow t.val 1) 2 := by
  funext y; unfold iblk1; rw [View.read_apply]
  exact (read_z m ρ c _ (win1_5.index t 0) (win1_5.index t 1) (y 0).val (y 1).val rfl rfl).trans (by rw [(index1_5 t).1, (index1_5 t).2]; rfl)
theorem block1_6 (c : Dev nD) (t : Fin cfg1.N) : (iblk1 (V7 m ρ) c 6 t : FVec Ideal S256x2048 .bf16) = zblock (m ((c : Thread nD τ).loc main_arg0)) (blockRow t.val 2) 2 := by
  funext y; unfold iblk1; rw [View.read_apply]
  exact (read_z m ρ c _ (win1_6.index t 0) (win1_6.index t 1) (y 0).val (y 1).val rfl rfl).trans (by rw [(index1_6 t).1, (index1_6 t).2]; rfl)
theorem block1_7 (c : Dev nD) (t : Fin cfg1.N) : (iblk1 (V7 m ρ) c 7 t : FVec Ideal S256x2048 .bf16) = zblock (m ((c : Thread nD τ).loc main_arg0)) 0 1 := by
  funext y; unfold iblk1; rw [View.read_apply]
  exact (read_z m ρ c _ (win1_7.index t 0) (win1_7.index t 1) (y 0).val (y 1).val rfl rfl).trans (by rw [(index1_7 t).1, (index1_7 t).2]; rfl)
theorem block1_8 (c : Dev nD) (t : Fin cfg1.N) : (iblk1 (V7 m ρ) c 8 t : FVec Ideal S256x2048 .bf16) = zblock (m ((c : Thread nD τ).loc main_arg0)) 0 2 := by
  funext y; unfold iblk1; rw [View.read_apply]
  exact (read_z m ρ c _ (win1_8.index t 0) (win1_8.index t 1) (y 0).val (y 1).val rfl rfl).trans (by rw [(index1_8 t).1, (index1_8 t).2]; rfl)
theorem block1_9 (c : Dev nD) (t : Fin cfg1.N) : (iblk1 (V7 m ρ) c 9 t : FVec Ideal S256x2048 .bf16) = zblock (m ((c : Thread nD τ).loc main_arg0)) t.val 3 := by
  funext y; unfold iblk1; rw [View.read_apply]
  exact (read_z m ρ c _ (win1_9.index t 0) (win1_9.index t 1) (y 0).val (y 1).val rfl rfl).trans (by rw [(index1_9 t).1, (index1_9 t).2]; rfl)

/-- The tables of a variant. -/
def tblock (b : FVec Ideal S16x15x31 .f32) (v : Fin 4) : FVec Ideal S1x16x256x768 .f32 := fun y => bias b v (y 1) (y 2) (y 3)

theorem block1_10 (c : Dev nD) (t : Fin cfg1.N) :
    (iblk1 (V7 m ρ) c 10 t : FVec Ideal S1x16x256x768 .f32) = tblock (m ((c : Thread nD τ).loc main_arg1)) (⟨variant t.val, variant_lt t.val⟩ : Fin 4) := by
  funext y
  have hy : (y 0).val < 1 := (y 0).isLt
  unfold iblk1
  rw [View.read_apply]
  have e : (win1_10.rect t).emb y = ix4 (⟨variant t.val, variant_lt t.val⟩ : Fin 4) (y 1) (y 2) (y 3) := by
    funext a
    apply Fin.ext
    match a with
    | ⟨0, _⟩ => show win1_10.index t 0 * 1 + 1 * (y 0).val = variant t.val; rw [(index1_10 t).1]; omega
    | ⟨1, _⟩ => show win1_10.index t 1 * 16 + 1 * (y 1).val = (y 1).val; rw [(index1_10 t).2.1]; omega
    | ⟨2, _⟩ => show win1_10.index t 2 * 256 + 1 * (y 2).val = (y 2).val; rw [(index1_10 t).2.2.1]; omega
    | ⟨3, _⟩ => show win1_10.index t 3 * 768 + 1 * (y 3).val = (y 3).val; rw [(index1_10 t).2.2.2]; omega
  refine Eq.trans (congrFun (tables_final m ρ c) _) ?_
  exact congrArg (tables (m ((c : Thread nD τ).loc main_arg1))) e

/-- A head's columns of a block of the projections. -/
theorem ld_apply (x : FVec Ideal S16640x13312 .bf16) (a b n : Nat) (hn : n < 16) (i : Fin 256) (d : Fin 128) :
    (View.ld (Val := Elt Ideal) (e' := .bf16) (zblock x a b) (cols n) : FVec Ideal S256x128 .bf16) (ix2 i d)
      = zat x (256 * a + i.val) (2048 * b + 128 * n + d.val) := by
  show zat x (256 * a + (0 + 1 * i.val)) (2048 * b + (n % 16 * 128 + 1 * d.val)) = _
  congr 1 <;> omega

/-- A head's columns of three blocks of the projections. -/
theorem stack_apply (x : FVec Ideal S16640x13312 .bf16) (t b n : Nat) (hn : n < 16) (k : Fin 768) (d : Fin 128) :
    stack (View.ld (Val := Elt Ideal) (e' := .bf16) (zblock x (blockRow t 0) b) (cols n)) (View.ld (Val := Elt Ideal) (e' := .bf16) (zblock x (blockRow t 1) b) (cols n))
      (View.ld (Val := Elt Ideal) (e' := .bf16) (zblock x (blockRow t 2) b) (cols n)) k d = zat x (keyRow t k.val) (2048 * b + 128 * n + d.val) := by
  have hk := k.isLt
  unfold stack keyRow
  split_ifs with h h'
  · refine (ld_apply x _ b n hn _ d).trans ?_
    rw [show k.val / 256 = 0 by omega, show k.val % 256 = k.val by omega]
  · refine (ld_apply x _ b n hn _ d).trans ?_
    rw [show k.val / 256 = 1 by omega, show k.val % 256 = k.val - 256 by omega]
  · refine (ld_apply x _ b n hn _ d).trans ?_
    rw [show k.val / 256 = 2 by omega, show k.val % 256 = k.val - 256 - 256 by omega]

/-- What a head writes is its part of the attention. -/
theorem headPiece_apply (x : FVec Ideal S16640x13312 .bf16) (b : FVec Ideal S16x15x31 .f32) (t n : Nat) (hn : n < 16) (r : Fin 256) (j : Fin 128) :
    (headPiece (zblock x t 0) (zblock x (blockRow t 0) 1) (zblock x (blockRow t 1) 1) (zblock x (blockRow t 2) 1) (zblock x (blockRow t 0) 2)
      (zblock x (blockRow t 1) 2) (zblock x (blockRow t 2) 2) (zblock x 0 1) (zblock x 0 2) (zblock x t 3) (tblock b (⟨variant t, variant_lt t⟩ : Fin 4)) n).2 (ix2 r j)
      = element x b t r (⟨n, hn⟩ : Fin 16) j := by
  refine (head_apply _ _ _ _ _ _ _ _ _ _ _ r j).trans ?_
  have ht : ∀ k : Fin 768, (View.ld (Val := Elt Ideal) (e' := .f32) (tblock b (⟨variant t, variant_lt t⟩ : Fin 4)) (sheet n) : FVec Ideal S1x1x256x768 .f32) (ix4 (0 : Fin 1) (0 : Fin 1) r k)
      = bias b (⟨variant t, variant_lt t⟩ : Fin 4) (⟨n, hn⟩ : Fin 16) r k := fun k => by
    show bias b _ _ _ _ = _
    congr 1 <;> refine Fin.ext ?_
    · show n % 16 + 1 * 0 = n; omega
    · show 0 + 1 * r.val = r.val; omega
    · show 0 + 1 * k.val = k.val; omega
  simp only [ht, stack_apply x t _ n hn, ld_apply x _ _ n hn]
  unfold element
  simp only [Nat.mul_zero, Nat.zero_add]

/-- The block the launch writes at a point. -/
theorem out1_apply (x : FVec Ideal S16640x13312 .bf16) (b : FVec Ideal S16x15x31 .f32) (t : Nat) (y : S256x2048.Idx) :
    out1_11 (F := Ideal) (zblock x t 0) (zblock x (blockRow t 0) 1) (zblock x (blockRow t 1) 1) (zblock x (blockRow t 2) 1) (zblock x (blockRow t 0) 2)
      (zblock x (blockRow t 1) 2) (zblock x (blockRow t 2) 2) (zblock x 0 1) (zblock x 0 2) (zblock x t 3) (tblock b (⟨variant t, variant_lt t⟩ : Fin 4)) y
      = element x b t (y 0) (⟨(y 1).val / 128, Nat.div_lt_of_lt_mul (y 1).isLt⟩ : Fin 16) (⟨(y 1).val % 128, Nat.mod_lt _ (by omega)⟩ : Fin 128) := by
  rw [out1_eq]
  refine View.canon_apply_of_pieces (Val := Elt Ideal) (S := S256x2048) (e := .bf16)
    (fun y => element x b t (y 0) (⟨(y 1).val / 128, Nat.div_lt_of_lt_mul (y 1).isLt⟩ : Fin 16) (⟨(y 1).val % 128, Nat.mod_lt _ (by omega)⟩ : Fin 128)) _ ?_ y ?_
  · intro p hp u
    obtain ⟨n, hn, rfl⟩ := List.mem_map.mp hp
    have hn' : n < 16 := List.mem_range.mp (List.mem_reverse.mp hn)
    change S256x128.Idx at u
    have hu : (u 1).val < 128 := (u 1).isLt
    rw [show u = ix2 (u 0) (u 1) from funext fun a => match a with | ⟨0, _⟩ => rfl | ⟨1, _⟩ => rfl]
    refine (headPiece_apply x b t n hn' (u 0) (u 1)).trans ?_
    congr 1 <;> refine Fin.ext ?_
    · show (u 0).val = 0 + 1 * (u 0).val; omega
    · show n = (n % 16 * 128 + 1 * (u 1).val) / 128; omega
    · show (u 1).val = (n % 16 * 128 + 1 * (u 1).val) % 128; omega
  · have h0 : (y 0).val < 256 := (y 0).isLt
    have h1 : (y 1).val < 2048 := (y 1).isLt
    refine ⟨_, List.mem_map.mpr ⟨(y 1).val / 128, List.mem_reverse.mpr (List.mem_range.mpr (by omega)), rfl⟩, ?_⟩
    refine (Rect.mem_set_unit (inb := cols_inb ((y 1).val / 128))).mpr fun a => ?_
    match a with
    | ⟨0, _⟩ => (show 0 ≤ (y 0).val ∧ (y 0).val < 0 + 256; omega)
    | ⟨1, _⟩ => (show (y 1).val / 128 % 16 * 128 ≤ (y 1).val ∧ (y 1).val < (y 1).val / 128 % 16 * 128 + 128; omega)

theorem point1_lt (t : Fin cfg1.N) : t.val < 65 := by have := t.isLt; have hN : cfg1.N = 65 := N_1; omega

theorem flushed1_eq (c : Dev nD) (t : Fin cfg1.N) :
    (dat1 (V7 m ρ) c).flushed 11 t
      = ((cfg1.win 11).blk t).view.read (Elt Ideal) (attention (m ((c : Thread nD τ).loc main_arg0)) (m ((c : Thread nD τ).loc main_arg1))) := by
  show (cfg1.win 11).cut (grid1.coords t) ((dat1 (V7 m ρ) c).after 11 t) = _
  rw [after1_11, block1_0, block1_1, block1_2, block1_3, block1_4, block1_5, block1_6, block1_7, block1_8, block1_9, block1_10]
  funext y
  change S256x2048.Idx at y
  have h0 : (y 0).val < 256 := (y 0).isLt
  have h1 : (y 1).val < 2048 := (y 1).isLt
  rw [View.read_apply]
  have e0 : ((win1_11.rect t).emb y 0).val = 256 * t.val + (y 0).val := by
    show win1_11.index t 0 * 256 + 1 * (y 0).val = _; rw [(index1_11 t).1]; omega
  have e1 : ((win1_11.rect t).emb y 1).val = (y 1).val := by
    show win1_11.index t 1 * 2048 + 1 * (y 1).val = _; rw [(index1_11 t).2]; omega
  refine (out1_apply (m ((c : Thread nD τ).loc main_arg0)) (m ((c : Thread nD τ).loc main_arg1)) t.val y).trans ?_
  show _ = attention _ _ ((win1_11.rect t).emb y)
  unfold attention
  congr 1
  · omega
  · refine Fin.ext ?_; show _ = ((win1_11.rect t).emb y 0).val % 256; omega
  · refine Fin.ext ?_; show _ = ((win1_11.rect t).emb y 1).val / 128; rw [e1]
  · refine Fin.ext ?_; show _ = ((win1_11.rect t).emb y 1).val % 128; rw [e1]

theorem cover1 (i : S16640x2048.Idx) :
    ∃ t : Fin cfg1.N, (cfg1.win 11).flush t = true ∧ i ∈ ((cfg1.win 11).blk t).view.set := by
  have h0 : (i 0).val < 16640 := (i 0).isLt
  have h1 : (i 1).val < 2048 := (i 1).isLt
  have hN : cfg1.N = 65 := N_1
  refine ⟨⟨(i 0).val / 256, by omega⟩, flush1_11 _, ?_⟩
  generalize ht : (⟨(i 0).val / 256, _⟩ : Fin cfg1.N) = t
  have hv : t.val = (i 0).val / 256 := by rw [← ht]
  show i ∈ ((View.whole main_v26).slice (win1_11.rect t)).set
  rw [View.set_slice_whole, Rect.mem_set_unit]
  intro a
  match a with
  | ⟨0, _⟩ => show win1_11.index t 0 * 256 ≤ (i 0).val ∧ (i 0).val < win1_11.index t 0 * 256 + 256; rw [(index1_11 t).1]; omega
  | ⟨1, _⟩ => show win1_11.index t 1 * 2048 ≤ (i 1).val ∧ (i 1).val < win1_11.index t 1 * 2048 + 2048; rw [(index1_11 t).2]; omega

/-- The array the attention leaves. -/
theorem result (c : Dev nD) : (dat1 (V7 m ρ) c).arrAt 11 cfg1.N
    = attention (m ((c : Thread nD τ).loc main_arg0)) (m ((c : Thread nD τ).loc main_arg1)) :=
  (dat1 (V7 m ρ) c).arrAt_eq_of_cover 11 (attention (m ((c : Thread nD τ).loc main_arg0)) (m ((c : Thread nD τ).loc main_arg1)))
    (fun t _ => flushed1_eq m ρ c t) cover1

end Cert.AttIdeal.Attention
end
-- ==== Proof.AttReference.lean ====
/- The attention's reference at an index: which keys a query's window holds, and the weights it gives them. -/
module

public import proofs.«01_k».proof.Proof.Gen.AttReferenceIdeal.Read
public import proofs.«01_k».proof.Proof.AttMath
@[expose] public section

set_option maxRecDepth 16384

noncomputable section
namespace Cert.AttReferenceIdeal.Attention

open Idealize.ShloMosaic Idealize.ShloMosaic.TcCoe Idealize.SL.Sem
open Cert.AttReferenceIdeal Cert.AttReferenceIdeal.Gen Cert.AttReferenceIdeal.Read Cert.AttMath

/-- The gather of keys and of values reads, for each pair, the row and the column its indices name. -/
theorem gather_apply {α : Type} (x : S256x64x16x128.Idx → α) (idx : IVec S256x64x8x16x2 32) (r : Fin 256) (c : Fin 64) (k : Fin 8) (w h : Fin 16) (j : Fin 128) :
    Host.gather gather_S256x64x16x128_S256x64x8x16x2_S256x64x8x16x16x128_45_01_n_n_01_4_1116128 x idx (ix6 r c k w h j)
      = x (ix4 (⟨min (idx (ix5 r c k w (0 : Fin 2))).toInt.toNat 255, by omega⟩ : Fin 256) (⟨min (idx (ix5 r c k w (1 : Fin 2))).toInt.toNat 63, by omega⟩ : Fin 64) h j) := by
  have h0 : ∀ p, gather_S256x64x16x128_S256x64x8x16x2_S256x64x8x16x16x128_45_01_n_n_01_4_1116128.siIdx (ix6 r c k w h j) ⟨0, p⟩ = ix5 r c k w (0 : Fin 2) := fun p => by
    funext b
    refine Fin.ext ?_
    match b with
    | ⟨0, _⟩ => rfl
    | ⟨1, _⟩ => rfl
    | ⟨2, _⟩ => rfl
    | ⟨3, _⟩ => rfl
    | ⟨4, _⟩ => rfl
  have h1 : ∀ p, gather_S256x64x16x128_S256x64x8x16x2_S256x64x8x16x16x128_45_01_n_n_01_4_1116128.siIdx (ix6 r c k w h j) ⟨1, p⟩ = ix5 r c k w (1 : Fin 2) := fun p => by
    funext b
    refine Fin.ext ?_
    match b with
    | ⟨0, _⟩ => rfl
    | ⟨1, _⟩ => rfl
    | ⟨2, _⟩ => rfl
    | ⟨3, _⟩ => rfl
    | ⟨4, _⟩ => rfl
  unfold Host.gather
  congr 1
  funext a
  refine Fin.ext ?_
  match a with
  | ⟨0, _⟩ =>
    refine Eq.trans ?_ (congrArg (fun z => min (idx z).toInt.toNat 255) (h0 (by decide)))
    rfl
  | ⟨1, _⟩ =>
    refine Eq.trans ?_ (congrArg (fun z => min (idx z).toInt.toNat 63) (h1 (by decide)))
    rfl
  | ⟨2, _⟩ => show 0 + 0 + h.val = h.val; omega
  | ⟨3, _⟩ => show 0 + 0 + j.val = j.val; omega

/-- The gather of biases. -/
theorem gather_bias_apply {α : Type} (x : S16x15x31.Idx → α) (idx : IVec S256x64x8x16x2 32) (r : Fin 256) (c : Fin 64) (k : Fin 8) (w h : Fin 16) :
    Host.gather gather_S16x15x31_S256x64x8x16x2_S16x256x64x8x16_0_12_n_n_12_4_1611 x idx (ix5 h r c k w)
      = x (ix3 h (⟨min (idx (ix5 r c k w (0 : Fin 2))).toInt.toNat 14, by omega⟩ : Fin 15) (⟨min (idx (ix5 r c k w (1 : Fin 2))).toInt.toNat 30, by omega⟩ : Fin 31)) := by
  have h0 : ∀ p, gather_S16x15x31_S256x64x8x16x2_S16x256x64x8x16_0_12_n_n_12_4_1611.siIdx (ix5 h r c k w) ⟨0, p⟩ = ix5 r c k w (0 : Fin 2) := fun p => by
    funext b
    refine Fin.ext ?_
    match b with
    | ⟨0, _⟩ => rfl
    | ⟨1, _⟩ => rfl
    | ⟨2, _⟩ => rfl
    | ⟨3, _⟩ => rfl
    | ⟨4, _⟩ => rfl
  have h1 : ∀ p, gather_S16x15x31_S256x64x8x16x2_S16x256x64x8x16_0_12_n_n_12_4_1611.siIdx (ix5 h r c k w) ⟨1, p⟩ = ix5 r c k w (1 : Fin 2) := fun p => by
    funext b
    refine Fin.ext ?_
    match b with
    | ⟨0, _⟩ => rfl
    | ⟨1, _⟩ => rfl
    | ⟨2, _⟩ => rfl
    | ⟨3, _⟩ => rfl
    | ⟨4, _⟩ => rfl
  unfold Host.gather
  congr 1
  funext a
  refine Fin.ext ?_
  match a with
  | ⟨0, _⟩ => show 0 + 0 + h.val = h.val; omega
  | ⟨1, _⟩ =>
    refine Eq.trans ?_ (congrArg (fun z => min (idx z).toInt.toNat 14) (h0 (by decide)))
    rfl
  | ⟨2, _⟩ =>
    refine Eq.trans ?_ (congrArg (fun z => min (idx z).toInt.toNat 30) (h1 (by decide)))
    rfl

/-- The first row of the window of a query's row, and the first column. -/
def top (r : Nat) : Nat := min (r - 4) 248
def left (c : Nat) : Nat := min (c - 8) 48

theorem row_word (r : Fin 256) (k : Fin 8) : val_main_v47 (F := Ideal) (ix2 r k) = BitVec.ofNat 32 (top r.val + k.val) := by
  pointwise [val_main_v47, val_main_v45, val_main_v46, val_main_v44, val_main_v43, val_main_v42, val_main_v41, val_main_v40, val_main_v39, val_main_v37, val_main_c, val_main_call0_v4, val_main_call0_v2, val_main_call0_v3, val_main_call0_v1, val_main_call0_v0, val_main_c_4, val_main_c_5]
  revert r k
  decide +kernel

theorem col_word (c : Fin 64) (w : Fin 16) : val_main_v56 (F := Ideal) (ix2 c w) = BitVec.ofNat 32 (left c.val + w.val) := by
  pointwise [val_main_v56, val_main_v54, val_main_v55, val_main_v53, val_main_v52, val_main_v51, val_main_v50, val_main_v49, val_main_v48, val_main_v38, val_main_c_6, val_main_call1_v4, val_main_call1_v2, val_main_call1_v3, val_main_call1_v1, val_main_call1_v0, val_main_c_7, val_main_c_8]
  revert c w
  decide +kernel

theorem key_row (r : Fin 256) (k : Fin 8) : min (val_main_v63 (F := Ideal) (ix4 r (0 : Fin 1) k (0 : Fin 1))).toInt.toNat 255 = top r.val + k.val := by
  pointwise [val_main_v63, val_main_v60, val_main_v59, val_main_v61, val_main_v62, val_main_c_9, val_main_c_10, val_main_v57]
  simp only [row_word]
  revert r k
  decide +kernel

theorem key_col (c : Fin 64) (w : Fin 16) : min (val_main_v68 (F := Ideal) (ix4 (0 : Fin 1) c (0 : Fin 1) w)).toInt.toNat 63 = left c.val + w.val := by
  pointwise [val_main_v68, val_main_v65, val_main_v64, val_main_v66, val_main_v67, val_main_c_11, val_main_c_12, val_main_v58]
  simp only [col_word]
  revert c w
  decide +kernel

theorem value_row (r : Fin 256) (k : Fin 8) : min (val_main_v79 (F := Ideal) (ix4 r (0 : Fin 1) k (0 : Fin 1))).toInt.toNat 255 = top r.val + k.val := by
  pointwise [val_main_v79, val_main_v76, val_main_v75, val_main_v77, val_main_v78, val_main_c_13, val_main_c_14, val_main_v57]
  simp only [row_word]
  revert r k
  decide +kernel

theorem value_col (c : Fin 64) (w : Fin 16) : min (val_main_v84 (F := Ideal) (ix4 (0 : Fin 1) c (0 : Fin 1) w)).toInt.toNat 63 = left c.val + w.val := by
  pointwise [val_main_v84, val_main_v81, val_main_v80, val_main_v82, val_main_v83, val_main_c_15, val_main_c_16, val_main_v58]
  simp only [col_word]
  revert c w
  decide +kernel

theorem bias_row (r : Fin 256) (k : Fin 8) : min (val_main_v107 (F := Ideal) (ix4 r (0 : Fin 1) k (0 : Fin 1))).toInt.toNat 14 = top r.val + k.val + 7 - r.val := by
  pointwise [val_main_v107, val_main_v104, val_main_v103, val_main_v105, val_main_v106, val_main_c_19, val_main_c_20, val_main_v101, val_main_v95, val_main_v94, val_main_c_17, val_main_v93, val_main_v92, val_main_v91, val_main_v37]
  simp only [row_word]
  revert r k
  decide +kernel

theorem bias_col (c : Fin 64) (w : Fin 16) : min (val_main_v112 (F := Ideal) (ix4 (0 : Fin 1) c (0 : Fin 1) w)).toInt.toNat 30 = left c.val + w.val + 15 - c.val := by
  pointwise [val_main_v112, val_main_v109, val_main_v108, val_main_v110, val_main_v111, val_main_c_21, val_main_c_22, val_main_v102, val_main_v100, val_main_v99, val_main_c_18, val_main_v98, val_main_v97, val_main_v96, val_main_v38]
  simp only [col_word]
  revert c w
  decide +kernel

variable (x0 : (⟨S16640x13312, .bf16⟩ : BufTy).Contents (Elt Ideal)) (x1 : (⟨S16x15x31, .f32⟩ : BufTy).Contents (Elt Ideal))

theorem key_starts (r : Fin 256) (c : Fin 64) (k : Fin 8) (w : Fin 16) :
    val_main_v73 (F := Ideal) (ix5 r c k w (0 : Fin 2)) = val_main_v63 (F := Ideal) (ix4 r (0 : Fin 1) k (0 : Fin 1))
    ∧ val_main_v73 (F := Ideal) (ix5 r c k w (1 : Fin 2)) = val_main_v68 (F := Ideal) (ix4 (0 : Fin 1) c (0 : Fin 1) w) := by
  constructor <;> pointwise [val_main_v73, val_main_v71, val_main_v69, val_main_v72, val_main_v70]

theorem value_starts (r : Fin 256) (c : Fin 64) (k : Fin 8) (w : Fin 16) :
    val_main_v89 (F := Ideal) (ix5 r c k w (0 : Fin 2)) = val_main_v79 (F := Ideal) (ix4 r (0 : Fin 1) k (0 : Fin 1))
    ∧ val_main_v89 (F := Ideal) (ix5 r c k w (1 : Fin 2)) = val_main_v84 (F := Ideal) (ix4 (0 : Fin 1) c (0 : Fin 1) w) := by
  constructor <;> pointwise [val_main_v89, val_main_v87, val_main_v88, val_main_v85, val_main_v86]

theorem bias_starts (r : Fin 256) (c : Fin 64) (k : Fin 8) (w : Fin 16) :
    val_main_v117 (F := Ideal) (ix5 r c k w (0 : Fin 2)) = val_main_v107 (F := Ideal) (ix4 r (0 : Fin 1) k (0 : Fin 1))
    ∧ val_main_v117 (F := Ideal) (ix5 r c k w (1 : Fin 2)) = val_main_v112 (F := Ideal) (ix4 (0 : Fin 1) c (0 : Fin 1) w) := by
  constructor <;> pointwise [val_main_v117, val_main_v115, val_main_v116, val_main_v113, val_main_v114]

theorem query_at (r : Fin 256) (c : Fin 64) (h : Fin 16) (j : Fin 128) :
    val_main_v34 (F := Ideal) x0 (ix4 r c h j) = zat x0 (256 + 64 * r.val + c.val) (128 * h.val + j.val) := by
  pointwise [val_main_v34, val_main_v28, val_main_v2, val_main_v1, val_main_v0]
  refine zat_of x0 _ _ _ ?_ ?_
  · show 256 + (r.val * 64 + c.val) = _; omega
  · show h.val * 128 + j.val = _; omega

theorem keys_at (r : Fin 256) (c : Fin 64) (h : Fin 16) (j : Fin 128) :
    val_main_v35 (F := Ideal) x0 (ix4 r c h j) = zat x0 (256 + 64 * r.val + c.val) (2048 + 128 * h.val + j.val) := by
  pointwise [val_main_v35, val_main_v29, val_main_v4, val_main_v3, val_main_v0]
  refine zat_of x0 _ _ _ ?_ ?_
  · show 256 + (r.val * 64 + c.val) = _; omega
  · show 2048 + (h.val * 128 + j.val) = _; omega

theorem values_at (r : Fin 256) (c : Fin 64) (h : Fin 16) (j : Fin 128) :
    val_main_v36 (F := Ideal) x0 (ix4 r c h j) = zat x0 (256 + 64 * r.val + c.val) (4096 + 128 * h.val + j.val) := by
  pointwise [val_main_v36, val_main_v30, val_main_v6, val_main_v5, val_main_v0]
  refine zat_of x0 _ _ _ ?_ ?_
  · show 256 + (r.val * 64 + c.val) = _; omega
  · show 4096 + (h.val * 128 + j.val) = _; omega

/-- The rows before the grid: queries, keys and values. -/
theorem first_query_at (r : Fin 256) (h : Fin 16) (j : Fin 128) :
    val_main_v8 (F := Ideal) x0 (ix3 r h j) = zat x0 r.val (128 * h.val + j.val) := by
  pointwise [val_main_v8, val_main_v2, val_main_v1, val_main_v0]
  refine zat_of x0 _ _ _ ?_ ?_
  · show r.val = _; omega
  · show h.val * 128 + j.val = _; omega

theorem first_key_at (r : Fin 256) (h : Fin 16) (j : Fin 128) :
    val_main_v9 (F := Ideal) x0 (ix3 r h j) = zat x0 r.val (2048 + 128 * h.val + j.val)
    ∧ val_main_v31 (F := Ideal) x0 (ix3 r h j) = zat x0 r.val (2048 + 128 * h.val + j.val) := by
  constructor <;> pointwise [val_main_v9, val_main_v31, val_main_v4, val_main_v3, val_main_v0] <;> refine zat_of x0 _ _ _ rfl ?_ <;>
    (show 2048 + (h.val * 128 + j.val) = _; omega)

theorem first_value_at (r : Fin 256) (h : Fin 16) (j : Fin 128) :
    val_main_v10 (F := Ideal) x0 (ix3 r h j) = zat x0 r.val (4096 + 128 * h.val + j.val)
    ∧ val_main_v32 (F := Ideal) x0 (ix3 r h j) = zat x0 r.val (4096 + 128 * h.val + j.val) := by
  constructor <;> pointwise [val_main_v10, val_main_v32, val_main_v6, val_main_v5, val_main_v0] <;> refine zat_of x0 _ _ _ rfl ?_ <;>
    (show 4096 + (h.val * 128 + j.val) = _; omega)

/-- A gather at a window's rows and columns. -/
theorem gather_at (y : S256x64x16x128.Idx → EReal) (idx : IVec S256x64x8x16x2 32) (r : Fin 256) (c : Fin 64) (k : Fin 8) (w h : Fin 16) (j : Fin 128)
    (a b : Nat) (z : Nat → EReal) (u v : BitVec 32) (hu : idx (ix5 r c k w (0 : Fin 2)) = u) (hv : idx (ix5 r c k w (1 : Fin 2)) = v)
    (ha : min u.toInt.toNat 255 = a) (hb : min v.toInt.toNat 63 = b)
    (hy : ∀ (r' : Fin 256) (c' : Fin 64), y (ix4 r' c' h j) = z (256 + 64 * r'.val + c'.val)) :
    Host.gather gather_S256x64x16x128_S256x64x8x16x2_S256x64x8x16x16x128_45_01_n_n_01_4_1116128 y idx (ix6 r c k w h j) = z (256 + 64 * a + b) := by
  subst hu hv ha hb
  rw [gather_apply]
  exact hy _ _

/-- The window's keys, values and biases. -/
theorem key_at (r : Fin 256) (c : Fin 64) (k : Fin 8) (w h : Fin 16) (j : Fin 128) :
    val_main_v74 (F := Ideal) x0 (ix6 r c k w h j) = zat x0 (256 + 64 * (top r.val + k.val) + (left c.val + w.val)) (2048 + 128 * h.val + j.val) := by
  unfold val_main_v74
  exact gather_at (val_main_v35 (F := Ideal) x0) (val_main_v73 (F := Ideal)) r c k w h j _ _ (fun n => zat x0 n (2048 + 128 * h.val + j.val)) _ _
    (key_starts r c k w).1 (key_starts r c k w).2 (key_row r k) (key_col c w) (fun r' c' => keys_at x0 r' c' h j)

theorem value_at (r : Fin 256) (c : Fin 64) (k : Fin 8) (w h : Fin 16) (j : Fin 128) :
    val_main_v90 (F := Ideal) x0 (ix6 r c k w h j) = zat x0 (256 + 64 * (top r.val + k.val) + (left c.val + w.val)) (4096 + 128 * h.val + j.val) := by
  unfold val_main_v90
  exact gather_at (val_main_v36 (F := Ideal) x0) (val_main_v89 (F := Ideal)) r c k w h j _ _ (fun n => zat x0 n (4096 + 128 * h.val + j.val)) _ _
    (value_starts r c k w).1 (value_starts r c k w).2 (value_row r k) (value_col c w) (fun r' c' => values_at x0 r' c' h j)

theorem bias_at (r : Fin 256) (c : Fin 64) (k : Fin 8) (w h : Fin 16) :
    val_main_v118 (F := Ideal) x1 (ix5 h r c k w) = bat x1 h (top r.val + k.val + 7 - r.val) (left c.val + w.val + 15 - c.val) := by
  unfold val_main_v118
  rw [gather_bias_apply]
  refine bat_of x1 h _ _ _ _ ?_ ?_
  · show min _ 14 = _
    rw [(bias_starts r c k w).1, bias_row]
  · show min _ 30 = _
    rw [(bias_starts r c k w).2, bias_col]

/-- The scale of the scores. -/
def scale : EReal := (((Real.sqrt 128)⁻¹ : ℝ) : EReal)

theorem scale_at : val_main_v33 (F := Ideal) ix0 = scale ∧ val_main_v12 (F := Ideal) ix0 = scale := by
  have h : Ideal.rsqrt (Ideal.ofBits .f32 0x43000000#32) = scale := by
    have : Ideal.ofBits .f32 0x43000000#32 = ((128 : ℝ) : EReal) := by simp [Ideal.ofBits, Ideal.ieee]; rw [← EReal.coe_mul]; norm_num
    rw [this]
    show (if (128 : ℝ) < 0 then (⊥ : EReal) else if (128 : ℝ) = 0 then ⊤ else (((Real.sqrt 128)⁻¹ : ℝ) : EReal)) = scale
    rw [if_neg (by norm_num), if_neg (by norm_num)]
    rfl
  exact ⟨h, h⟩

theorem local_score_at (r : Fin 256) (c : Fin 64) (k : Fin 8) (w h : Fin 16) :
    val_main_v122 (F := Ideal) x0 x1 (ix5 h r c k w)
      = (∑ d : Fin 128, zat x0 (256 + 64 * r.val + c.val) (128 * h.val + d.val) * zat x0 (256 + 64 * (top r.val + k.val) + (left c.val + w.val)) (2048 + 128 * h.val + d.val)) * scale
        + bat x1 h (top r.val + k.val + 7 - r.val) (left c.val + w.val + 15 - c.val) := by
  pointwise [val_main_v122, val_main_v121, val_main_v120, val_main_v119]
  rw [bias_at, scale_at.1]
  simp only [key_at, query_at]

theorem far_score_at (r : Fin 256) (c : Fin 64) (h : Fin 16) (y : Fin 256) :
    val_main_v125 (F := Ideal) x0 (ix4 h r c y)
      = (∑ d : Fin 128, zat x0 (256 + 64 * r.val + c.val) (128 * h.val + d.val) * zat x0 y.val (2048 + 128 * h.val + d.val)) * scale := by
  pointwise [val_main_v125, val_main_v124, val_main_v123]
  rw [scale_at.1]
  simp only [query_at, (first_key_at x0 _ _ _).2]

theorem first_score_at (r : Fin 256) (h : Fin 16) (y : Fin 256) :
    val_main_v14 (F := Ideal) x0 (ix3 h r y)
      = (∑ d : Fin 128, zat x0 r.val (128 * h.val + d.val) * zat x0 y.val (2048 + 128 * h.val + d.val)) * scale := by
  pointwise [val_main_v14, val_main_v13, val_main_v11]
  rw [scale_at.2]
  simp only [first_query_at, (first_key_at x0 _ _ _).1]

end Cert.AttReferenceIdeal.Attention
end
-- ==== Proof.AttReference2.lean ====
/- The attention's reference: the weights of a query's keys and the sums it takes with them. -/
module

public import proofs.«01_k».proof.Proof.AttReference

@[expose] public section

set_option maxRecDepth 16384

noncomputable section
namespace Cert.AttReferenceIdeal.Attention

open Idealize.ShloMosaic Idealize.ShloMosaic.TcCoe Idealize.SL.Sem
open Cert.AttReferenceIdeal Cert.AttReferenceIdeal.Gen Cert.AttReferenceIdeal.Read Cert.AttMath

variable (x0 : (⟨S16640x13312, .bf16⟩ : BufTy).Contents (Elt Ideal)) (x1 : (⟨S16x15x31, .f32⟩ : BufTy).Contents (Elt Ideal))

theorem least (i : S_.Idx) : val_main_cst_23 (F := Ideal) i = (⊥ : EReal) ∧ val_main_cst_24 (F := Ideal) i = (⊥ : EReal) ∧ val_main_cst_0 (F := Ideal) i = (⊥ : EReal) ∧ val_main_cst_1 (F := Ideal) i = (⊥ : EReal) := by
  have h : Ideal.ofBits .f32 0xFF800000#32 = ⊥ := by simp [Ideal.ofBits, Ideal.ieee]
  exact ⟨h, h, h, h⟩
theorem nought (i : S_.Idx) : val_main_cst_25 (F := Ideal) i = (0 : EReal) ∧ val_main_cst_2 (F := Ideal) i = (0 : EReal) := by
  have h : Ideal.ofBits .f32 0x00000000#32 = 0 := by simp [Ideal.ofBits, Ideal.ieee]
  exact ⟨h, h⟩
theorem one (i : S_.Idx) : val_main_call2_cst (F := Ideal) i = (1 : EReal) ∧ val_main_call2_cst_0 (F := Ideal) i = (1 : EReal) := by
  have h : Ideal.ofBits .f32 0x3F800000#32 = 1 := by
    simp [Ideal.ofBits, Ideal.ieee]
    rw [← EReal.coe_mul]
    norm_num
  exact ⟨h, h⟩

theorem max_at (r : Fin 256) (c : Fin 64) (h : Fin 16) : val_main_v130 (F := Ideal) x0 x1 (ix3 h r c)
    = max ⊥ (Finset.fold max ⊥ (fun y : Fin 384 => val_main_v127 (F := Ideal) x0 x1 (ix4 h r c y)) Finset.univ) := by
  have h1 : val_main_v128 (F := Ideal) x0 x1 (ix3 h r c)
      = Finset.fold max (val_main_cst_23 (F := Ideal) (Shape.Idx.first h_S_)) (fun y : Fin 384 => val_main_v127 (F := Ideal) x0 x1 (ix4 h r c y)) Finset.univ := by
    pointwise [val_main_v128]
  have h2 : val_main_v129 (F := Ideal) (ix3 h r c) = val_main_cst_24 (F := Ideal) ix0 := by
    pointwise [val_main_v129]
  rw [val_main_v130_apply, h1, h2, (least _).1, (least _).2.1]
  rfl

theorem exp_at (r : Fin 256) (c : Fin 64) (h : Fin 16) (y : Fin 384) : val_main_v134 (F := Ideal) x0 x1 (ix4 h r c y)
    = Ideal.exp (val_main_v127 (F := Ideal) x0 x1 (ix4 h r c y) - val_main_v130 (F := Ideal) x0 x1 (ix3 h r c)) := by
  pointwise [val_main_v134, val_main_v133, val_main_v132, val_main_v131]

theorem sum_at (r : Fin 256) (c : Fin 64) (h : Fin 16) : val_main_v135 (F := Ideal) x0 x1 (ix3 h r c)
    = ∑ y : Fin 384, val_main_v134 (F := Ideal) x0 x1 (ix4 h r c y) := by
  pointwise [val_main_v135]
  rw [(nought _).1, zero_add]

theorem share_at (r : Fin 256) (c : Fin 64) (h : Fin 16) (y : Fin 384) : val_main_v138 (F := Ideal) x0 x1 (ix4 h r c y)
    = Ideal.div (val_main_v134 (F := Ideal) x0 x1 (ix4 h r c y)) (val_main_v135 (F := Ideal) x0 x1 (ix3 h r c)) := by
  pointwise [val_main_v138, val_main_v137, val_main_v136]

theorem first_max_at (r : Fin 256) (h : Fin 16) : val_main_v17 (F := Ideal) x0 (ix2 h r)
    = max ⊥ (Finset.fold max ⊥ (fun y : Fin 256 => val_main_v14 (F := Ideal) x0 (ix3 h r y)) Finset.univ) := by
  have h1 : val_main_v15 (F := Ideal) x0 (ix2 h r)
      = Finset.fold max (val_main_cst_0 (F := Ideal) (Shape.Idx.first h_S_)) (fun y : Fin 256 => val_main_v14 (F := Ideal) x0 (ix3 h r y)) Finset.univ := by
    pointwise [val_main_v15]
  have h2 : val_main_v16 (F := Ideal) (ix2 h r) = val_main_cst_1 (F := Ideal) ix0 := by
    pointwise [val_main_v16]
  rw [val_main_v17_apply, h1, h2, (least _).2.2.1, (least _).2.2.2]
  rfl

theorem first_exp_at (r : Fin 256) (h : Fin 16) (y : Fin 256) : val_main_v21 (F := Ideal) x0 (ix3 h r y)
    = Ideal.exp (val_main_v14 (F := Ideal) x0 (ix3 h r y) - val_main_v17 (F := Ideal) x0 (ix2 h r)) := by
  pointwise [val_main_v21, val_main_v20, val_main_v19, val_main_v18]

theorem first_sum_at (r : Fin 256) (h : Fin 16) : val_main_v22 (F := Ideal) x0 (ix2 h r)
    = ∑ y : Fin 256, val_main_v21 (F := Ideal) x0 (ix3 h r y) := by
  pointwise [val_main_v22]
  rw [(nought _).2, zero_add]

theorem first_share_at (r : Fin 256) (h : Fin 16) (y : Fin 256) : val_main_v25 (F := Ideal) x0 (ix3 h r y)
    = Ideal.div (val_main_v21 (F := Ideal) x0 (ix3 h r y)) (val_main_v22 (F := Ideal) x0 (ix2 h r)) := by
  pointwise [val_main_v25, val_main_v24, val_main_v23]

theorem first_at (r : Fin 256) (h : Fin 16) (j : Fin 128) : val_main_v27 (F := Ideal) x0 (ix3 r h j)
    = ∑ y : Fin 256, zat x0 y.val (4096 + 128 * h.val + j.val) * val_main_v25 (F := Ideal) x0 (ix3 h r y) := by
  pointwise [val_main_v27, val_main_v26]
  simp only [(first_value_at x0 _ _ _).1]

theorem score_at (r : Fin 256) (c : Fin 64) (h : Fin 16) (y : Fin 384) : val_main_v127 (F := Ideal) x0 x1 (ix4 h r c y)
    = if p : y.val < 128 then val_main_v122 (F := Ideal) x0 x1 (ix5 h r c (⟨y.val / 16, by omega⟩ : Fin 8) (⟨y.val % 16, by omega⟩ : Fin 16))
      else val_main_v125 (F := Ideal) x0 (ix4 h r c (⟨y.val - 128, by omega⟩ : Fin 256)) := by
  pointwise [val_main_v127, val_main_v126]

theorem local_at (r : Fin 256) (c : Fin 64) (h : Fin 16) (j : Fin 128) : val_main_v145 (F := Ideal) x0 x1 (ix4 r c h j)
    = (∑ w : Fin 16, ∑ k : Fin 8, val_main_v138 (F := Ideal) x0 x1 (ix4 h r c (⟨k.val * 16 + w.val, by omega⟩ : Fin 384))
          * zat x0 (256 + 64 * (top r.val + k.val) + (left c.val + w.val)) (4096 + 128 * h.val + j.val))
      + ∑ y : Fin 256, zat x0 y.val (4096 + 128 * h.val + j.val) * val_main_v138 (F := Ideal) x0 x1 (ix4 h r c (⟨128 + y.val, by omega⟩ : Fin 384)) := by
  have h1 : val_main_v142 (F := Ideal) x0 x1 (ix4 r c h j) = ∑ w : Fin 16, ∑ k : Fin 8, val_main_v140 (F := Ideal) x0 x1 (ix5 h r c k w) * val_main_v90 (F := Ideal) x0 (ix6 r c k w h j) := by
    pointwise [val_main_v142]
  have h2 : ∀ (k : Fin 8) (w : Fin 16), val_main_v140 (F := Ideal) x0 x1 (ix5 h r c k w) = val_main_v138 (F := Ideal) x0 x1 (ix4 h r c (⟨k.val * 16 + w.val, by omega⟩ : Fin 384)) := fun k w => by
    pointwise [val_main_v140, val_main_v139]
  have h3 : val_main_v144 (F := Ideal) x0 x1 (ix4 r c h j) = ∑ y : Fin 256, val_main_v32 (F := Ideal) x0 (ix3 y h j) * val_main_v141 (F := Ideal) x0 x1 (ix4 h r c y) := by
    pointwise [val_main_v144, val_main_v143]
  have h4 : ∀ (y : Fin 256), val_main_v141 (F := Ideal) x0 x1 (ix4 h r c y) = val_main_v138 (F := Ideal) x0 x1 (ix4 h r c (⟨128 + y.val, by omega⟩ : Fin 384)) := fun y => by
    pointwise [val_main_v141]
  rw [val_main_v145_apply, h1, h3]
  simp only [h2, h4, value_at, (first_value_at x0 _ _ _).2]
  rfl

theorem result_at (r : Fin 16640) (l : Fin 2048) : val_main_v151 (F := Ideal) x0 x1 (ix2 r l)
    = (if p : r.val < 256 then val_main_v27 (F := Ideal) x0 (ix3 (⟨r.val, p⟩ : Fin 256) (⟨l.val / 128, by omega⟩ : Fin 16) (⟨l.val % 128, by omega⟩ : Fin 128))
      else val_main_v145 (F := Ideal) x0 x1 (ix4 (⟨(r.val - 256) / 64, by omega⟩ : Fin 256) (⟨(r.val - 256) % 64, by omega⟩ : Fin 64) (⟨l.val / 128, by omega⟩ : Fin 16) (⟨l.val % 128, by omega⟩ : Fin 128)))
      * (zat x0 r.val (6144 + l.val) * Ideal.div 1 (1 + Ideal.exp (-zat x0 r.val (6144 + l.val)))) := by
  have hz : zat x0 r.val (6144 + l.val) = x0 (ix2 r (⟨6144 + l.val, by omega⟩ : Fin 13312)) := (zat_of x0 (ix2 r (⟨6144 + l.val, by omega⟩ : Fin 13312)) _ _ rfl rfl).symm
  rw [hz]
  pointwise [val_main_v151, val_main_v150, val_main_v149, val_main_v148, val_main_v147, val_main_v146, val_main_v7, val_main_v0, val_main_call2_v5, val_main_call2_v4, val_main_call2_v3, val_main_call2_v2, val_main_call2_v1, val_main_call2_v0]
  rw [(one _).1, (one _).2]

end Cert.AttReferenceIdeal.Attention
end
-- ==== Proof.AttShares.lean ====
/- The attention as a mix of values: a reference row's shares, and a kernel row's keys outside the window left out. -/
module

public import proofs.«01_k».proof.Proof.AttBlocks
public import proofs.«01_k».proof.Proof.AttReference2

@[expose] public section

set_option maxRecDepth 16384

noncomputable section

namespace Cert.AttMath

open Idealize.ShloMosaic

/-- A sum over the window's keys and the context's. -/
theorem sum_keys (f : Fin 384 → ℝ) : ∑ y, f y
    = ∑ p : Fin 8 × Fin 16, f (⟨p.1.val * 16 + p.2.val, by omega⟩ : Fin 384) + ∑ y : Fin 256, f (⟨128 + y.val, by omega⟩ : Fin 384) := by
  rw [show ∑ y, f y = ∑ y : Fin (8 * 16 + 256), f y from rfl, Fin.sum_univ_add]
  refine congrArg₂ (· + ·) ?_ rfl
  rw [← finProdFinEquiv.sum_comp]
  refine Finset.sum_congr rfl fun p _ => congrArg f (Fin.ext ?_)
  show p.2.val + 16 * p.1.val = p.1.val * 16 + p.2.val
  omega

/-- A row's shares of its greatest score and its sum. -/
theorem shares {α : Type*} [Fintype α] (T : α → EReal) (hT : ∀ i, T i < ⊤) (j : α) (hj : ⊥ < T j) (E : α → EReal) (P : α → EReal) (M D : EReal)
    (hM : M = max ⊥ (Finset.fold max ⊥ T Finset.univ)) (hE : ∀ i, E i = Ideal.exp (T i - M)) (hD : D = ∑ i, E i) (hP : ∀ i, P i = Ideal.div (E i) D) (i : α) :
    P i = ((wt (T i) / ∑ y, wt (T y) : ℝ) : EReal) := by
  obtain ⟨R, hR⟩ := fold_max_real T hT j hj
  rw [hR, max_eq_right (EReal.bot_lt_coe R).le] at hM
  subst hM
  have hp : 0 < ∑ y, wt (T y) := by
    refine Finset.sum_pos' (fun i _ => wt_nonneg _ (hT i)) ⟨j, Finset.mem_univ _, ?_⟩
    rw [← EReal.coe_toReal (hT j).ne hj.ne', wt_coe]
    positivity
  rw [hP, hD]
  simp only [hE]
  exact share_eq T hT R _ hp rfl i

/-- An image row of the reference. -/
theorem image_mix (T : Fin 384 → EReal) (P : Fin 384 → EReal) (V : Fin 8 → Fin 16 → EReal) (Vc : Fin 256 → EReal)
    (hP : ∀ i, P i = ((wt (T i) / ∑ y, wt (T y) : ℝ) : EReal)) :
    (∑ w : Fin 16, ∑ k : Fin 8, P (⟨k.val * 16 + w.val, by omega⟩ : Fin 384) * V k w) + ∑ y : Fin 256, Vc y * P (⟨128 + y.val, by omega⟩ : Fin 384)
      = mix (fun p : Fin 8 × Fin 16 => wt (T (⟨p.1.val * 16 + p.2.val, by omega⟩ : Fin 384))) (fun y : Fin 256 => wt (T (⟨128 + y.val, by omega⟩ : Fin 384)))
          (fun p => V p.1 p.2) Vc := by
  unfold mix
  rw [← sum_keys (fun y => wt (T y)), Finset.sum_comm, Fintype.sum_prod_type]
  simp only [hP]
  refine congrArg₂ (· + ·) rfl (Finset.sum_congr rfl fun y _ => mul_comm _ _)

/-- A context row of the reference. -/
theorem context_mix (T : Fin 256 → EReal) (P : Fin 256 → EReal) (Vc : Fin 256 → EReal)
    (hP : ∀ i, P i = ((wt (T i) / ∑ y, wt (T y) : ℝ) : EReal)) :
    ∑ y : Fin 256, Vc y * P y = mix (fun _ : Fin 0 => (0 : ℝ)) (fun y : Fin 256 => wt (T y)) (fun _ => 0) Vc := by
  unfold mix
  simp only [hP, Finset.univ_eq_empty, Finset.sum_empty, zero_add]
  exact Finset.sum_congr rfl fun y _ => mul_comm _ _

end Cert.AttMath

namespace Cert.AttIdeal.Attention

open Idealize.ShloMosaic
open Cert.AttIdeal Cert.AttIdeal.Gen Cert.AttMath
open Cert.AttReferenceIdeal.Attention (top left scale)

/-- The window of a grid row, said of the three blocks of keys. -/
theorem okRow_iff : ∀ (r : Fin 256) (j : Fin 12), okRow (variant (1 + r.val / 4)) (r.val % 4) j.val = true
    ↔ top r.val + 4 ≤ j.val + 4 * (r.val / 4) ∧ j.val + 4 * (r.val / 4) < top r.val + 12 := by decide +kernel

theorem okRow_context (rq jr : Nat) : okRow (variant 0) rq jr = false := rfl

/-- The row of a key of the window. -/
theorem keyRow_eq (r k c' : Nat) (hr : r < 256) (hk : k < 8) (hc : c' < 64) :
    keyRow (1 + r / 4) ((top r + k + 4 - 4 * (r / 4)) * 64 + c') = 256 + 64 * (top r + k) + c' := by
  unfold keyRow blockRow top
  omega

variable (x : FVec Ideal S16640x13312 .bf16) (b : FVec Ideal S16x15x31 .f32)

/-- A query's product with a key. -/
def dot (R Y h : Nat) : ℝ := ∑ d : Fin 128, (zat x R (128 * h + d.val)).toReal * (zat x Y (2048 + 128 * h + d.val)).toReal

variable (hz : ∀ r c, c < 4096 → zat x r c = ((zat x r c).toReal : EReal)) (hb : ∀ h r c, bat b h r c < ⊤)

include hz in
theorem kernel_dot (R Y : Nat) (h : Fin 16) :
    ∑ d : Fin 128, zat x R (128 * h.val + d.val) * scale2 * zat x Y (2048 + 128 * h.val + d.val)
      = ((dot x R Y h.val * (Real.sqrt 128)⁻¹ * (Real.log 2)⁻¹ : ℝ) : EReal) := by
  have e : ∀ d : Fin 128, zat x R (128 * h.val + d.val) * scale2 * zat x Y (2048 + 128 * h.val + d.val)
      = (((zat x R (128 * h.val + d.val)).toReal * (zat x Y (2048 + 128 * h.val + d.val)).toReal * ((Real.sqrt 128)⁻¹ * (Real.log 2)⁻¹) : ℝ) : EReal) := fun d => by
    rw [hz R (128 * h.val + d.val) (by omega), hz Y (2048 + 128 * h.val + d.val) (by omega)]
    unfold scale2
    rw [← EReal.coe_mul, ← EReal.coe_mul, EReal.toReal_coe, EReal.toReal_coe]
    congr 1; ring
  simp only [e]
  rw [← coe_sum, ← Finset.sum_mul, mul_assoc]
  rfl

include hz in
theorem reference_dot (R Y : Nat) (h : Fin 16) :
    (∑ d : Fin 128, zat x R (128 * h.val + d.val) * zat x Y (2048 + 128 * h.val + d.val)) * scale
      = ((dot x R Y h.val * (Real.sqrt 128)⁻¹ : ℝ) : EReal) := by
  have e : ∀ d : Fin 128, zat x R (128 * h.val + d.val) * zat x Y (2048 + 128 * h.val + d.val)
      = (((zat x R (128 * h.val + d.val)).toReal * (zat x Y (2048 + 128 * h.val + d.val)).toReal : ℝ) : EReal) := fun d => by
    rw [hz R (128 * h.val + d.val) (by omega), hz Y (2048 + 128 * h.val + d.val) (by omega), ← EReal.coe_mul, EReal.toReal_coe, EReal.toReal_coe]
  simp only [e]
  rw [← coe_sum]
  unfold scale
  rw [← EReal.coe_mul]
  rfl

theorem scaled_lt (a : EReal) (ha : a < ⊤) : a * (((Real.log 2)⁻¹ : ℝ) : EReal) < ⊤ := by
  have hl : 0 < (Real.log 2)⁻¹ := inv_pos.2 (Real.log_pos (by norm_num))
  induction a with
  | bot => rw [EReal.bot_mul_coe_of_pos hl]; exact bot_lt_top
  | top => exact absurd ha (lt_irrefl _)
  | coe r => rw [← EReal.coe_mul]; exact EReal.coe_lt_top _

theorem real_add_lt (r : ℝ) (a : EReal) (ha : a < ⊤) : (r : EReal) + a < ⊤ := EReal.add_lt_top (EReal.coe_ne_top r) ha.ne

/-- The bias of a key in the window. -/
theorem bias_in (v : Fin 4) (h : Fin 16) (q : Fin 256) (l : Fin 768) (r c : Nat)
    (h1 : okRow v.val (q.val / 64) (l.val / 64) = true) (h2 : okCol (q.val % 64) (l.val % 64))
    (h3 : (l.val / 64 + 3 - q.val / 64) % 15 = r) (h4 : (l.val % 64 + 15 - q.val % 64) % 31 = c) :
    bias b v h q l = bat b h r c * (((Real.log 2)⁻¹ : ℝ) : EReal) := by
  unfold bias
  rw [if_pos ⟨h1, h2⟩]
  exact congrArg (· * (((Real.log 2)⁻¹ : ℝ) : EReal)) (bat_of b h _ _ r c h3 h4)

theorem bias_out (v : Fin 4) (h : Fin 16) (q : Fin 256) (l : Fin 768)
    (h1 : ¬(okRow v.val (q.val / 64) (l.val / 64) = true ∧ okCol (q.val % 64) (l.val % 64))) : bias b v h q l = ⊥ := by
  unfold bias
  rw [if_neg h1]

include hb in
theorem bias_lt (v : Fin 4) (h : Fin 16) (q : Fin 256) (l : Fin 768) : bias b v h q l < ⊤ := by
  by_cases p : okRow v.val (q.val / 64) (l.val / 64) = true ∧ okCol (q.val % 64) (l.val % 64)
  · rw [bias_in b v h q l _ _ p.1 p.2 rfl rfl]
    exact scaled_lt _ (hb _ _ _)
  · rw [bias_out b v h q l p]
    exact bot_lt_top

/-- The window's keys among the three blocks'. -/
def windowKey (r c : Nat) (hr : r < 256) (hc : c < 64) (p : Fin 8 × Fin 16) : Fin 768 :=
  ⟨(top r + p.1.val + 4 - 4 * (r / 4)) * 64 + (left c + p.2.val), by unfold top left; omega⟩

theorem windowKey_injective (r c : Nat) (hr : r < 256) (hc : c < 64) : Function.Injective (windowKey r c hr hc) := by
  intro p q e
  have e' : (top r + p.1.val + 4 - 4 * (r / 4)) * 64 + (left c + p.2.val) = (top r + q.1.val + 4 - 4 * (r / 4)) * 64 + (left c + q.2.val) := congrArg Fin.val e
  have h1 : 4 * (r / 4) ≤ top r + 4 := by unfold top; omega
  have h2 : left c ≤ 48 := by unfold left; omega
  exact Prod.ext (Fin.ext (by omega)) (Fin.ext (by omega))

/-- A key with a row and a column in the window is one of its keys. -/
theorem mem_windowKey (r : Fin 256) (c : Fin 64) (l : Fin 768)
    (h1 : okRow (variant (1 + r.val / 4)) (r.val % 4) (l.val / 64) = true) (h2 : okCol c.val (l.val % 64)) :
    l ∈ Set.range (windowKey r.val c.val r.isLt c.isLt) := by
  have h3 := (okRow_iff r (⟨l.val / 64, by omega⟩ : Fin 12)).1 h1
  have h4 : left c.val ≤ l.val % 64 ∧ l.val % 64 < left c.val + 16 := h2
  dsimp only at h3
  refine ⟨(⟨l.val / 64 + 4 * (r.val / 4) - (top r.val + 4), by omega⟩, ⟨l.val % 64 - left c.val, by omega⟩), Fin.ext ?_⟩
  show (top r.val + (l.val / 64 + 4 * (r.val / 4) - (top r.val + 4)) + 4 - 4 * (r.val / 4)) * 64 + (left c.val + (l.val % 64 - left c.val)) = l.val
  omega

end Cert.AttIdeal.Attention
end
-- ==== Proof.Attention.lean ====
/- The attention's equation: the array the kernel leaves is the reference's, the queries and keys numbers and no bias infinite above. -/
module

public import proofs.«01_k».proof.Proof.AttShares
public import proofs.«01_k».proof.Proof.Gen.AttReferenceIdeal.Run
public import proofs.«01_k».proof.Proof.Gen.Pre_finite
public import Idealize.ShloMosaic.Lib.ReduceAll

@[expose] public section

set_option maxRecDepth 16384

noncomputable section

namespace Cert.AttIdeal.Attention

open Idealize.ShloMosaic Idealize.ShloMosaic.TcCoe
open Cert.AttIdeal Cert.AttIdeal.Gen Cert.AttMath
open Cert.AttReferenceIdeal.Attention Cert.AttReferenceIdeal.Read

variable (x : FVec Ideal S16640x13312 .bf16) (b : FVec Ideal S16x15x31 .f32)
variable (hz : ∀ r c, c < 4096 → zat x r c = ((zat x r c).toReal : EReal)) (hb : ∀ h r c, bat b h r c < ⊤)

include hz hb in
/-- A row of the image. -/
theorem image_row (r : Fin 256) (c : Fin 64) (h : Fin 16) (j : Fin 128) (q : Fin 256) (t : Nat) (ht : t = 1 + r.val / 4) (hq : q.val = 64 * (r.val % 4) + c.val) :
    quot2
      (fun k : Fin 768 => (∑ d : Fin 128, zat x (256 * t + q.val) (128 * h.val + d.val) * scale2 * zat x (keyRow t k.val) (2048 + 128 * h.val + d.val))
        + bias b (⟨variant t, variant_lt _⟩ : Fin 4) h q k)
      (fun k : Fin 256 => ∑ d : Fin 128, zat x (256 * t + q.val) (128 * h.val + d.val) * scale2 * zat x k.val (2048 + 128 * h.val + d.val))
      (fun k : Fin 768 => zat x (keyRow t k.val) (4096 + 128 * h.val + j.val))
      (fun k : Fin 256 => zat x k.val (4096 + 128 * h.val + j.val))
      = val_main_v145 (F := Ideal) x b (ix4 r c h j) := by
  subst ht
  have hR : 256 * (1 + r.val / 4) + q.val = 256 + 64 * r.val + c.val := by omega
  have q1 : q.val / 64 = r.val % 4 := by omega
  have q2 : q.val % 64 = c.val := by omega
  simp only [hR, kernel_dot x hz]
  -- the reference's scores
  have sl : ∀ p : Fin 8 × Fin 16, val_main_v127 (F := Ideal) x b (ix4 h r c (⟨p.1.val * 16 + p.2.val, by omega⟩ : Fin 384))
      = ((dot x (256 + 64 * r.val + c.val) (256 + 64 * (top r.val + p.1.val) + (left c.val + p.2.val)) h.val * (Real.sqrt 128)⁻¹ : ℝ) : EReal)
        + bat b h (top r.val + p.1.val + 7 - r.val) (left c.val + p.2.val + 15 - c.val) := fun p => by
    rw [score_at, dif_pos (by dsimp only; omega)]
    have e1 : (⟨(p.1.val * 16 + p.2.val) / 16, by omega⟩ : Fin 8) = p.1 := Fin.ext (by dsimp only; omega)
    have e2 : (⟨(p.1.val * 16 + p.2.val) % 16, by omega⟩ : Fin 16) = p.2 := Fin.ext (by dsimp only; omega)
    dsimp only
    rw [e1, e2, local_score_at, reference_dot x hz]
  have sc : ∀ y : Fin 256, val_main_v127 (F := Ideal) x b (ix4 h r c (⟨128 + y.val, by omega⟩ : Fin 384))
      = ((dot x (256 + 64 * r.val + c.val) y.val h.val * (Real.sqrt 128)⁻¹ : ℝ) : EReal) := fun y => by
    rw [score_at, dif_neg (by dsimp only; omega)]
    have e1 : (⟨128 + y.val - 128, by omega⟩ : Fin 256) = y := Fin.ext (by dsimp only; omega)
    dsimp only
    rw [e1, far_score_at, reference_dot x hz]
  have hT : ∀ y : Fin 384, val_main_v127 (F := Ideal) x b (ix4 h r c y) < ⊤ := fun y => by
    by_cases hy : y.val < 128
    · have := sl (⟨y.val / 16, by omega⟩, ⟨y.val % 16, by omega⟩)
      have e : (⟨y.val / 16 * 16 + y.val % 16, by omega⟩ : Fin 384) = y := Fin.ext (by dsimp only; omega)
      dsimp only at this
      rw [e] at this
      rw [this]
      exact real_add_lt _ _ (hb _ _ _)
    · have := sc (⟨y.val - 128, by omega⟩ : Fin 256)
      have e : (⟨128 + (y.val - 128), by omega⟩ : Fin 384) = y := Fin.ext (by dsimp only; omega)
      dsimp only at this
      rw [e] at this
      rw [this]
      exact EReal.coe_lt_top _
  have hj : ⊥ < val_main_v127 (F := Ideal) x b (ix4 h r c (⟨128 + (0 : Fin 256).val, by omega⟩ : Fin 384)) := by
    rw [sc 0]; exact EReal.bot_lt_coe _
  have sh := shares (fun y : Fin 384 => val_main_v127 (F := Ideal) x b (ix4 h r c y)) hT _ hj
    (fun y => val_main_v134 (F := Ideal) x b (ix4 h r c y)) (fun y => val_main_v138 (F := Ideal) x b (ix4 h r c y))
    _ _ (max_at x b r c h) (exp_at x b r c h) (sum_at x b r c h) (share_at x b r c h)
  rw [local_at, image_mix (fun y : Fin 384 => val_main_v127 (F := Ideal) x b (ix4 h r c y)) (fun y => val_main_v138 (F := Ideal) x b (ix4 h r c y))
    (fun k w => zat x (256 + 64 * (top r.val + k.val) + (left c.val + w.val)) (4096 + 128 * h.val + j.val)) (fun y => zat x y.val (4096 + 128 * h.val + j.val)) sh]
  rw [quot2_eq_mix _ _ _ _ (fun i => real_add_lt _ _ (bias_lt b hb _ _ _ _)) (fun _ => EReal.coe_lt_top _) 0 (EReal.bot_lt_coe _)]
  simp only [sl, sc, wt2_scaled_coe]
  refine mix_window _ _ _ _ _ _ (windowKey r.val c.val r.isLt c.isLt) (windowKey_injective _ _ _ _) (fun i hi => ?_) (fun p => ?_) (fun p => ?_)
  · rw [bias_out, EReal.add_bot, wt2_bot]
    rw [q1, q2]
    exact fun k => hi (mem_windowKey r c i k.1 k.2)
  · have k2 := p.2.isLt
    have t1 : 4 * (r.val / 4) ≤ top r.val + 4 := by unfold top; omega
    have t2 : left c.val ≤ 48 := by unfold left; omega
    have t3 : top r.val + p.1.val + 4 - 4 * (r.val / 4) < 12 := by unfold top; omega
    have w1 : (windowKey r.val c.val r.isLt c.isLt p).val / 64 = top r.val + p.1.val + 4 - 4 * (r.val / 4) := by
      show ((top r.val + p.1.val + 4 - 4 * (r.val / 4)) * 64 + (left c.val + p.2.val)) / 64 = _
      omega
    have w2 : (windowKey r.val c.val r.isLt c.isLt p).val % 64 = left c.val + p.2.val := by
      show ((top r.val + p.1.val + 4 - 4 * (r.val / 4)) * 64 + (left c.val + p.2.val)) % 64 = _
      omega
    rw [bias_in b _ h q _ (top r.val + p.1.val + 7 - r.val) (left c.val + p.2.val + 15 - c.val)
      (by rw [q1, w1]; exact (okRow_iff r ⟨_, t3⟩).2 ⟨by dsimp only; omega, by dsimp only; omega⟩)
      (by rw [q2, w2]; exact ⟨Nat.le_add_right _ _, Nat.add_lt_add_left k2 _⟩)
      (by rw [q1, w1]; unfold top at *; omega) (by rw [q2, w2]; unfold left at *; omega),
      show (windowKey r.val c.val r.isLt c.isLt p).val = (top r.val + p.1.val + 4 - 4 * (r.val / 4)) * 64 + (left c.val + p.2.val) from rfl,
      keyRow_eq r.val p.1.val _ r.isLt p.1.isLt (by omega)]
    exact wt2_scaled _ _ (hb _ _ _)
  · have k2 := p.2.isLt
    have t2 : left c.val ≤ 48 := by unfold left; omega
    show zat x (keyRow (1 + r.val / 4) ((top r.val + p.1.val + 4 - 4 * (r.val / 4)) * 64 + (left c.val + p.2.val))) _ = _
    rw [keyRow_eq r.val p.1.val _ r.isLt p.1.isLt (by omega)]

include hz hb in
/-- A row of the context. -/
theorem context_row (q : Fin 256) (h : Fin 16) (j : Fin 128) (t : Nat) (ht : t = 0) :
    quot2
      (fun k : Fin 768 => (∑ d : Fin 128, zat x (256 * t + q.val) (128 * h.val + d.val) * scale2 * zat x (keyRow t k.val) (2048 + 128 * h.val + d.val))
        + bias b (⟨variant t, variant_lt _⟩ : Fin 4) h q k)
      (fun k : Fin 256 => ∑ d : Fin 128, zat x (256 * t + q.val) (128 * h.val + d.val) * scale2 * zat x k.val (2048 + 128 * h.val + d.val))
      (fun k : Fin 768 => zat x (keyRow t k.val) (4096 + 128 * h.val + j.val))
      (fun k : Fin 256 => zat x k.val (4096 + 128 * h.val + j.val))
      = val_main_v27 (F := Ideal) x (ix3 q h j) := by
  subst ht
  have hR : 256 * 0 + q.val = q.val := by omega
  simp only [hR, kernel_dot x hz]
  have sc : ∀ y : Fin 256, val_main_v14 (F := Ideal) x (ix3 h q y) = ((dot x q.val y.val h.val * (Real.sqrt 128)⁻¹ : ℝ) : EReal) := fun y => by
    rw [first_score_at, reference_dot x hz]
  have hT : ∀ y : Fin 256, val_main_v14 (F := Ideal) x (ix3 h q y) < ⊤ := fun y => by
    rw [sc]; exact EReal.coe_lt_top _
  have hj : ⊥ < val_main_v14 (F := Ideal) x (ix3 h q (0 : Fin 256)) := by
    rw [sc]; exact EReal.bot_lt_coe _
  have sh := shares (fun y : Fin 256 => val_main_v14 (F := Ideal) x (ix3 h q y)) hT _ hj
    (fun y => val_main_v21 (F := Ideal) x (ix3 h q y)) (fun y => val_main_v25 (F := Ideal) x (ix3 h q y))
    _ _ (first_max_at x q h) (first_exp_at x q h) (first_sum_at x q h) (first_share_at x q h)
  rw [first_at, context_mix (fun y : Fin 256 => val_main_v14 (F := Ideal) x (ix3 h q y)) (fun y => val_main_v25 (F := Ideal) x (ix3 h q y))
    (fun y => zat x y.val (4096 + 128 * h.val + j.val)) sh]
  rw [quot2_eq_mix _ _ _ _ (fun i => real_add_lt _ _ (bias_lt b hb _ _ _ _)) (fun _ => EReal.coe_lt_top _) 0 (EReal.bot_lt_coe _)]
  simp only [sc, wt2_scaled_coe]
  refine mix_window _ _ _ _ _ _ (fun p : Fin 0 => p.elim0) (fun p => p.elim0) (fun i hi => ?_) (fun p => p.elim0) (fun p => p.elim0)
  rw [bias_out, EReal.add_bot, wt2_bot]
  exact fun k => Bool.false_ne_true ((okRow_context _ _).symm.trans k.1)

include hz hb in
/-- The attention is the reference's composed value. -/
theorem attention_eq : attention x b = val_main_v151 (F := Ideal) x b := by
  funext i
  obtain ⟨r, l, rfl⟩ : ∃ (r : Fin 16640) (l : Fin 2048), i = ix2 r l := ⟨i 0, i 1, funext fun a => match a with | ⟨0, _⟩ => rfl | ⟨1, _⟩ => rfl⟩
  rw [result_at]
  show element x b (r.val / 256) (⟨r.val % 256, _⟩ : Fin 256) (⟨l.val / 128, _⟩ : Fin 16) (⟨l.val % 128, _⟩ : Fin 128) = _
  unfold element
  have e1 : 256 * (r.val / 256) + r.val % 256 = r.val := Nat.div_add_mod _ _
  have e2 : 6144 + 128 * (l.val / 128) + l.val % 128 = 6144 + l.val := by omega
  refine congrArg₂ (· * ·) ?_ ?_
  · by_cases p : r.val < 256
    · rw [dif_pos p]
      have e3 : r.val / 256 = 0 := by omega
      have e4 : (⟨r.val, p⟩ : Fin 256) = ⟨r.val % 256, Nat.mod_lt _ (by omega)⟩ := Fin.ext (by dsimp only; omega)
      rw [e4]
      exact context_row x b hz hb _ _ _ _ e3
    · rw [dif_neg p]
      have e3 : r.val / 256 = 1 + (r.val - 256) / 64 / 4 := by omega
      exact image_row x b hz hb (⟨(r.val - 256) / 64, by omega⟩ : Fin 256) (⟨(r.val - 256) % 64, by omega⟩ : Fin 64)
        (⟨l.val / 128, by omega⟩ : Fin 16) (⟨l.val % 128, by omega⟩ : Fin 128) (⟨r.val % 256, Nat.mod_lt _ (by omega)⟩ : Fin 256) _ e3 (by dsimp only; omega)
  · show zat x (256 * (r.val / 256) + r.val % 256) (6144 + 128 * (l.val / 128) + l.val % 128) * Ideal.div 1 (1 + Ideal.exp2
      (zat x (256 * (r.val / 256) + r.val % 256) (6144 + 128 * (l.val / 128) + l.val % 128) * ((-((Real.log 2)⁻¹) : ℝ) : EReal))) = _
    rw [e1, e2, gate_eq]

theorem infinity : Ideal.ofBits .f32 0x7F800000#32 = ⊤ := by simp [Ideal.ofBits, Ideal.ieee]

theorem lt_of_cmp (a c : EReal) (h : Ideal.cmp .olt a c = 1#1) : a < c := by
  by_contra hn
  simp [Ideal.cmp, hn] at h

instance : Subsingleton Cert.Pre_finite.S_.Idx := ⟨fun a c => funext fun i => i.elim0⟩

variable (h : Cert.Pre_finite.fn (F := Ideal) x b = fun _ => 1#1)

include h in
/-- The queries and keys are numbers. -/
theorem finite_arg0 (r c : Nat) (hc : c < 4096) : zat x r c = ((zat x r c).toReal : EReal) := by
  by_cases hr : r < 16640
  · have e := Host.reduce_andi_all _ _ _ _ ix0 (IntOp.andi_eq_one.1 (congrFun h ix0)).1 (ix2 (⟨r, hr⟩ : Fin 16640) (⟨c, hc⟩ : Fin 4096))
    have e1 : max (zat x r c) (-zat x r c) < ⊤ := by
      rw [← infinity]
      refine lt_of_cmp _ _ (Eq.trans ?_ e)
      rw [← zat_of x (ix2 (⟨r, hr⟩ : Fin 16640) (⟨c, by omega⟩ : Fin 13312)) r c rfl rfl]
      pointwise []
      rfl
    have e2 := max_lt_iff.1 e1
    refine (EReal.coe_toReal e2.1.ne fun k => ?_).symm
    rw [k, EReal.neg_bot] at e2
    exact lt_irrefl _ e2.2
  · unfold zat
    rw [dif_neg fun k => hr k.1, EReal.toReal_zero, EReal.coe_zero]

include h in
/-- No bias is infinite above. -/
theorem finite_arg1 (i : Fin 16) (r c : Nat) : bat b i r c < ⊤ := by
  by_cases p : r < 15 ∧ c < 31
  · have e := Host.reduce_andi_all _ _ _ _ ix0 (IntOp.andi_eq_one.1 (congrFun h ix0)).2 (ix3 i (⟨r, p.1⟩ : Fin 15) (⟨c, p.2⟩ : Fin 31))
    rw [← bat_of b i ⟨r, p.1⟩ ⟨c, p.2⟩ r c rfl rfl, ← infinity]
    exact lt_of_cmp _ _ e
  · unfold bat
    rw [dif_neg p]
    exact EReal.zero_lt_top

end Cert.AttIdeal.Attention

namespace Cert.Proof.AttentionClaims

open Idealize.ShloMosaic Idealize.SL.Sem

theorem algebraic : Cert.algebraic_AttIdeal_AttReferenceIdeal_pre_finite := by
  intro m g m' g' hpre hargs
  refine ⟨fun c => Cert.AttIdeal.Attention.attention (m ((c.tc : Thread Cert.AttIdeal.nD Cert.AttIdeal.τ).loc Cert.AttIdeal.main_arg0))
    (m ((c.tc : Thread Cert.AttIdeal.nD Cert.AttIdeal.τ).loc Cert.AttIdeal.main_arg1)), ?_, ?_⟩
  · exact (θ_run _ _ _).mono (fun r h c => ⟨(h c).1.trans (Cert.AttIdeal.Attention.result m g c), (h c).2⟩) (Cert.AttIdeal.Attention.run m g)
  · refine (θ_run _ _ _).mono (fun r h c => ⟨(h c).1.trans ?_, (h c).2⟩) (Cert.AttReferenceIdeal.Value.run m' g')
    refine (Cert.AttReferenceIdeal.Read.val_main_v151_eq (StableHlo.launchContents m' c)).trans ?_
    refine Eq.trans ?_ (Cert.AttIdeal.Attention.attention_eq _ _ (Cert.AttIdeal.Attention.finite_arg0 _ _ (hpre c)) (Cert.AttIdeal.Attention.finite_arg1 _ _ (hpre c))).symm
    exact congrArg₂ Cert.AttReferenceIdeal.Read.val_main_v151 (hargs c).1 (hargs c).2

end Cert.Proof.AttentionClaims

end
-- ==== Proof.Ada.lean ====
/- The layers' modulations: each point writes a block of columns of one layer's product of the gated conditions with that
   layer's weights, plus its bias; the reference's composed term is the same function of the arguments. -/
module

public import proofs.«01_k».proof.Defs
public import proofs.«01_k».proof.Proof.AttMath
public import proofs.«01_k».proof.Proof.Gen.Ada.Frame
public import proofs.«01_k».proof.Proof.Gen.AdaIdeal.Value
public import proofs.«01_k».proof.Proof.Gen.AdaReferenceIdeal.Run
public import Idealize.ShloMosaic.Lib.Pipeline.Value
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdaIdeal.Modulation

open Cert.AdaIdeal Cert.AdaIdeal.Gen

variable (m : (ℓ : Loc nD τ sig) → Buf (Elt Ideal) ℓ) (ρ : Dev nD → PrngReg)

/-- The gate of a condition: `x` times its logistic. -/
def silu (x : EReal) : EReal := x * Ideal.div (Ideal.ofBits .f32 0x3F800000#32) (Ideal.ofBits .f32 0x3F800000#32 + Ideal.exp (-x))

/-- The modulation at one element: condition `i 1`, gated, against column `i 2` of layer `i 0`, plus the bias. -/
def modulation (x : FVec Ideal S8x4096 .f32) (w : FVec Ideal S4x4096x12288 .f32) (b : FVec Ideal S4x12288 .f32) :
    FVec Ideal S4x8x12288 .f32 :=
  fun i => (∑ k : Fin 4096, silu (x (ix2 (i 1) k)) * w (ix3 (i 0) k (i 2))) + b (ix2 (i 0) (i 2))

theorem index0 : ∀ t : Fin grid0.N, win0_0.index t 0 = 0 ∧ win0_0.index t 1 = 0 := by decide +kernel
theorem index1 : ∀ t : Fin grid0.N, win0_1.index t 0 = t.val / 24 ∧ win0_1.index t 1 = 0 ∧ win0_1.index t 2 = t.val % 24 := by
  decide +kernel
theorem index2 : ∀ t : Fin grid0.N, win0_2.index t 0 = t.val / 24 ∧ win0_2.index t 1 = 0 ∧ win0_2.index t 2 = t.val % 24 := by
  decide +kernel
theorem index3 : ∀ t : Fin grid0.N, win0_3.index t 0 = t.val / 24 ∧ win0_3.index t 1 = 0 ∧ win0_3.index t 2 = t.val % 24 := by
  decide +kernel

theorem point_lt (t : Fin cfg0.N) : t.val < 96 := by have := t.isLt; have hN : cfg0.N = 96 := N_0; omega

/-- The point's layer. -/
abbrev layer (t : Fin cfg0.N) : Fin 4 := ⟨t.val / 24, by have := point_lt t; omega⟩
/-- Column `l` of the point's block of columns, in the whole array. -/
abbrev col (t : Fin cfg0.N) (l : Fin 512) : Fin 12288 := ⟨t.val % 24 * 512 + l.val, by omega⟩

theorem conditions_apply (c : Dev nD) (t : Fin cfg0.N) (r : Fin 8) (k : Fin 4096) :
    (iblk m c 0 t : FVec Ideal S8x4096 .f32) (ix2 r k) = m ((c : Thread nD τ).loc main_arg0) (ix2 r k) := by
  unfold iblk
  rw [View.read_apply]
  show V m c main_arg0 _ = m (c.tc.loc main_arg0) _
  rw [V_main_arg0]
  congr 1
  funext a
  apply Fin.ext
  match a with
  | ⟨0, _⟩ => show win0_0.index t 0 * 8 + 1 * r.val = r.val; rw [(index0 t).1]; omega
  | ⟨1, _⟩ => show win0_0.index t 1 * 4096 + 1 * k.val = k.val; rw [(index0 t).2]; omega

theorem weights_apply (c : Dev nD) (t : Fin cfg0.N) (k : Fin 4096) (l : Fin 512) :
    (iblk m c 1 t : FVec Ideal S1x4096x512 .f32) (ix3 (0 : Fin 1) k l)
      = m ((c : Thread nD τ).loc main_arg1) (ix3 (layer t) k (col t l)) := by
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 24; rw [(index1 t).1]; omega
  | ⟨1, _⟩ => show win0_1.index t 1 * 4096 + 1 * k.val = k.val; rw [(index1 t).2.1]; omega
  | ⟨2, _⟩ => show win0_1.index t 2 * 512 + 1 * l.val = t.val % 24 * 512 + l.val; rw [(index1 t).2.2]; omega

/-- The host lays each layer's bias out as one row. -/
theorem bias_entry (c : Dev nD) :
    V m c main_v0 = shapeCast S4x1x12288 (m ((c : Thread nD τ).loc main_arg2)) shapeCasts_S4x12288_S4x1x12288 := by
  unfold V
  after_results <;> rfl

/-- The layers' biases laid out as rows, at an index. -/
theorem bias_rows (b : FVec Ideal S4x12288 .f32) (l : Fin 4) (k : Fin 12288) :
    shapeCast S4x1x12288 b shapeCasts_S4x12288_S4x1x12288 (ix3 l (0 : Fin 1) k) = b (ix2 l k) := by
  pointwise

theorem bias_apply (c : Dev nD) (t : Fin cfg0.N) (l : Fin 512) :
    (iblk m c 2 t : FVec Ideal S1x1x512 .f32) (ix3 (0 : Fin 1) (0 : Fin 1) l)
      = m ((c : Thread nD τ).loc main_arg2) (ix2 (layer t) (col t l)) := by
  have e : (iblk m c 2 t : FVec Ideal S1x1x512 .f32) (ix3 (0 : Fin 1) (0 : Fin 1) l)
      = (V m c main_v0 : FVec Ideal S4x1x12288 .f32) (ix3 (layer t) (0 : Fin 1) (col t l)) := by
    unfold iblk
    rw [View.read_apply]
    show V m c main_v0 _ = V m c main_v0 _
    congr 1
    funext a
    apply Fin.ext
    match a with
    | ⟨0, _⟩ => show win0_2.index t 0 * 1 + 1 * 0 = t.val / 24; rw [(index2 t).1]; omega
    | ⟨1, _⟩ => show win0_2.index t 1 * 1 + 1 * 0 = 0; rw [(index2 t).2.1]
    | ⟨2, _⟩ => show win0_2.index t 2 * 512 + 1 * l.val = t.val % 24 * 512 + l.val; rw [(index2 t).2.2]; omega
  rw [e, bias_entry]
  exact bias_rows _ _ _

/-- What the body computes of the three blocks, at an index. -/
theorem payload_read (x : FVec Ideal S8x4096 .f32) (w : FVec Ideal S1x4096x512 .f32) (b : FVec Ideal S1x1x512 .f32) (r : Fin 8) (l : Fin 512) :
    k0_pay1 (F := Ideal) x w b (ix3 (0 : Fin 1) r l)
      = (∑ k : Fin 4096, x (ix2 r k) * Ideal.div (Ideal.ofBits .f32 0x3F800000#32) (Ideal.ofBits .f32 0x3F800000#32
          + Ideal.exp2 (x (ix2 r k) * Named.named (F := Ideal) (φ := .f32) κ "minus_log2_e" 0xBFB8AA3B#32)) * w (ix3 (0 : Fin 1) k l))
        + b (ix3 (0 : Fin 1) (0 : Fin 1) l) := by
  pointwise [k0_pay1]
  rfl

/-- The body's gate, by powers of two, is the gate. -/
theorem gate_eq (x : EReal) :
    x * Ideal.div (Ideal.ofBits .f32 0x3F800000#32) (Ideal.ofBits .f32 0x3F800000#32
        + Ideal.exp2 (x * Named.named (F := Ideal) (φ := .f32) κ "minus_log2_e" 0xBFB8AA3B#32)) = silu x :=
  congrArg (fun e => x * Ideal.div _ (_ + e)) (Cert.AttMath.gate_eq x)

theorem payload_apply (x : FVec Ideal S8x4096 .f32) (w : FVec Ideal S1x4096x512 .f32) (b : FVec Ideal S1x1x512 .f32) (r : Fin 8) (l : Fin 512) :
    k0_pay1 (F := Ideal) x w b (ix3 (0 : Fin 1) r l)
      = (∑ k : Fin 4096, silu (x (ix2 r k)) * w (ix3 (0 : Fin 1) k l)) + b (ix3 (0 : Fin 1) (0 : Fin 1) l) := by
  rw [payload_read]
  exact congrArg (· + _) (Finset.sum_congr rfl fun k _ => congrArg (· * _) (gate_eq _))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The whole-array modulation of device `c`'s arguments. -/
abbrev result (c : Dev nD) : Buf (Elt Ideal) ((c : Thread nD τ).loc main_v1) :=
  modulation (m ((c : Thread nD τ).loc main_arg0)) (m ((c : Thread nD τ).loc main_arg1)) (m ((c : Thread nD τ).loc main_arg2))

/-- Each point writes back its block of the whole modulation. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero zeros3, View.ld_unit_zero zeros2, View.ld_unit_zero zeros3, View.ld_unit_zero zeros3]
  funext y
  obtain ⟨r, l, rfl⟩ : ∃ (r : Fin 8) (l : Fin 512), y = ix3 (0 : Fin 1) r l :=
    ⟨y 1, y 2, funext fun a => by fin_cases a <;> first | rfl | exact Subsingleton.elim (α := Fin 1) _ _⟩
  rw [View.read_apply]
  show k0_pay1 (F := Ideal) (iblk m c 0 t) (iblk m c 1 t) (iblk m c 2 t) (ix3 (0 : Fin 1) r l)
    = result m c ((win0_3.rect t).emb (ix3 (0 : Fin 1) r l))
  have e : (win0_3.rect t).emb (ix3 (0 : Fin 1) r l) = ix3 (layer t) r (col t l) := by
    funext a
    apply Fin.ext
    match a with
    | ⟨0, _⟩ => show win0_3.index t 0 * 1 + 1 * 0 = t.val / 24; rw [(index3 t).1]; omega
    | ⟨1, _⟩ => show win0_3.index t 1 * 8 + 1 * r.val = r.val; rw [(index3 t).2.1]; omega
    | ⟨2, _⟩ => show win0_3.index t 2 * 512 + 1 * l.val = t.val % 24 * 512 + l.val; rw [(index3 t).2.2]; omega
  refine (payload_apply _ _ _ r l).trans (Eq.trans ?_ (congrArg (result m c) e).symm)
  exact congrArg₂ (· + ·) (Finset.sum_congr rfl fun k _ =>
    congrArg₂ (· * ·) (congrArg silu (conditions_apply m c t r k)) (weights_apply m c t k l)) (bias_apply m c t l)

/-- The blocks tile the result. -/
theorem cover (i : S4x8x12288.Idx) :
    ∃ t : Fin cfg0.N, (cfg0.win 3).flush t = true ∧ i ∈ ((cfg0.win 3).blk t).view.set := by
  have h0 : (i 0 : Nat) < 4 := (i 0).isLt
  have h1 : (i 1 : Nat) < 8 := (i 1).isLt
  have h2 : (i 2 : Nat) < 12288 := (i 2).isLt
  have hN : cfg0.N = 96 := N_0
  refine ⟨⟨(i 0 : Nat) * 24 + (i 2 : Nat) / 512, by omega⟩, flush0_3 _, ?_⟩
  generalize ht : (⟨(i 0 : Nat) * 24 + (i 2 : Nat) / 512, _⟩ : Fin cfg0.N) = t
  have hv : t.val = (i 0 : Nat) * 24 + (i 2 : Nat) / 512 := by rw [← ht]
  show i ∈ ((View.whole main_v1).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1
              rw [(index3 t).1]; omega
  | ⟨1, _⟩ => show win0_3.index t 1 * 8 ≤ (i 1 : Nat) ∧ (i 1 : Nat) < win0_3.index t 1 * 8 + 8
              rw [(index3 t).2.1]; omega
  | ⟨2, _⟩ => show win0_3.index t 2 * 512 ≤ (i 2 : Nat) ∧ (i 2 : Nat) < win0_3.index t 2 * 512 + 512
              rw [(index3 t).2.2]; omega

theorem final_result (c : Dev nD) : (dats m 0 c).arrAt 3 cfg0.N = result m c :=
  (dats m 0 c).arrAt_eq_of_cover 3 (result m c) (fun t _ => flushed_eq m c t) cover

end Cert.AdaIdeal.Modulation

namespace Cert.AdaReferenceIdeal.Modulation

open Cert.AdaReferenceIdeal Cert.AdaReferenceIdeal.Gen

/-- The reference's composed term is the modulation. -/
theorem composed (x : FVec Ideal S8x4096 .f32) (w : FVec Ideal S4x4096x12288 .f32) (b : FVec Ideal S4x12288 .f32) :
    (addf (transpose S4x8x12288 [0, 2, 1] (Host.dotGeneral dot_S4x4096x12288_S8x4096_S4x12288x8_1_1_02_0_n_n none w (mulf x (Host.divf (broadcastInDim S8x4096 ![] bcast_S_S8x4096 (constant S_ .f32 0x3F800000#32)) (addf (broadcastInDim S8x4096 ![] bcast_S_S8x4096 (constant S_ .f32 0x3F800000#32)) (Host.exp (Host.negf x)))))) transposes_S4x12288x8_S4x8x12288_0_2_1) (broadcastInDim S4x8x12288 ![0, 1, 2] bcast_S4x1x12288_S4x8x12288_0_1_2 (broadcastInDim S4x1x12288 ![0, 2] bcast_S4x12288_S4x1x12288_0_2 b)) : FVec Ideal S4x8x12288 .f32)
      = Cert.AdaIdeal.Modulation.modulation x w b := by
  funext j
  idx_vars j
  pointwise [Cert.AdaIdeal.Modulation.modulation, Cert.AdaIdeal.Modulation.silu]
  exact congrArg (· + _) (Finset.sum_congr rfl fun k _ => mul_comm _ _)

end Cert.AdaReferenceIdeal.Modulation

namespace Cert.Proof.AdaClaims

theorem algebraic : Cert.algebraic_AdaIdeal_AdaReferenceIdeal := by
  intro m g m' g' _ hargs
  refine ⟨fun c => Cert.AdaIdeal.Modulation.result m c, ?_, ?_⟩
  · exact (θ_run _ _ _).mono (fun r h c => ⟨(h c).1.trans (Cert.AdaIdeal.Modulation.final_result m c), (h c).2⟩)
      (Cert.AdaIdeal.Value.run_blocks m g)
  · refine (θ_run _ _ _).mono (fun r h c => ⟨(h c).1.trans ?_, (h c).2⟩) (Cert.AdaReferenceIdeal.Value.run m' g')
    rw [(hargs c).1, (hargs c).2.1, (hargs c).2.2]
    exact Cert.AdaReferenceIdeal.Modulation.composed _ _ _

end Cert.Proof.AdaClaims

end
-- ==== Proof.Norm.lean ====
/- The modulated norm: each point writes its block of rows, sixteen rows a trip, of the RMSNorm of the residual stream, scaled and
   shifted by the modulation of the row's stream; the reference's composed term is the same function of the arguments. -/
module

public import proofs.«01_k».proof.Defs
public import proofs.«01_k».proof.Proof.Gen.Norm.Frame
public import proofs.«01_k».proof.Proof.Gen.NormIdeal.Value
public import proofs.«01_k».proof.Proof.Gen.NormReferenceIdeal.Run
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormIdeal.ModNorm

open Cert.NormIdeal Cert.NormIdeal.Gen

variable (m : (ℓ : Loc nD τ sig) → Buf (Elt Ideal) ℓ) (ρ : Dev nD → PrngReg)

/-- The stream whose modulation a row of a point's block takes: 1 for the context's rows, the first 256 of all, 0 for the others. -/
def stream (i : grid0.Coords) (r : ℕ) : Fin 2 := if (i 0).val = 0 ∧ r < 256 then 1 else 0

/-- The modulation's column with the scale of a channel, and with its shift. -/
abbrev scaleCol (l : Fin 4096) : Fin 12288 := ⟨4096 + l.val, by omega⟩
abbrev shiftCol (l : Fin 4096) : Fin 12288 := ⟨l.val, by omega⟩

/-- What a point leaves in its block, of the blocks it reads. -/
def block (i : grid0.Coords) (x : FVec Ideal S640x4096 .f32) (g : FVec Ideal S1x4096 .f32) (md : FVec Ideal S2x1x12288 .f32) :
    FVec Ideal S640x4096 .bf16 :=
  fun y => x (ix2 (y 0) (y 1))
    * Ideal.rsqrt (Ideal.div (∑ k : Fin 4096, x (ix2 (y 0) k) * x (ix2 (y 0) k)) (Ideal.ofBits .f32 0x45800000#32)
        + Ideal.ofBits .f32 0x358637BD#32)
    * (g (ix2 (0 : Fin 1) (y 1)) * (Ideal.ofBits .f32 0x3F800000#32 + md (ix3 (stream i (y 0).val) (0 : Fin 1) (scaleCol (y 1)))))
    + md (ix3 (stream i (y 0).val) (0 : Fin 1) (shiftCol (y 1)))

/-- What a trip computes of the rows it loads and of the scale and the shift it finds in the two scratch buffers. -/
theorem trip_apply (x x' : FVec Ideal S16x4096 .f32) (sc sh : FVec Ideal S1x4096 .f32) (r : Fin 16) (l : Fin 4096) :
    k0_pay7 (F := Ideal) x x' sc sh (ix2 r l) = x' (ix2 r l)
      * Ideal.rsqrt (Ideal.div (∑ k : Fin 4096, x (ix2 r k) * x (ix2 r k)) (Ideal.ofBits .f32 0x45800000#32)
          + Ideal.ofBits .f32 0x358637BD#32)
      * sc (ix2 (0 : Fin 1) l) + sh (ix2 (0 : Fin 1) l) := by
  pointwise [k0_pay7]

theorem scale0_apply (md : FVec Ideal S1x1x12288 .f32) (g : FVec Ideal S1x4096 .f32) (l : Fin 4096) :
    k0_pay2 (F := Ideal) md g (ix2 (0 : Fin 1) l)
      = g (ix2 (0 : Fin 1) l) * (Ideal.ofBits .f32 0x3F800000#32 + md (ix3 (0 : Fin 1) (0 : Fin 1) (scaleCol l))) := by
  pointwise [k0_pay2, k0_pay1]
theorem scale1_apply (md : FVec Ideal S1x1x12288 .f32) (g : FVec Ideal S1x4096 .f32) (l : Fin 4096) :
    k0_pay5 (F := Ideal) md g (ix2 (0 : Fin 1) l)
      = g (ix2 (0 : Fin 1) l) * (Ideal.ofBits .f32 0x3F800000#32 + md (ix3 (0 : Fin 1) (0 : Fin 1) (scaleCol l))) := by
  pointwise [k0_pay5, k0_pay4]
theorem shift0_apply (md : FVec Ideal S1x1x12288 .f32) (l : Fin 4096) :
    k0_pay3 (F := Ideal) md (ix2 (0 : Fin 1) l) = md (ix3 (0 : Fin 1) (0 : Fin 1) (shiftCol l)) := by
  pointwise [k0_pay3, k0_pay1]
theorem shift1_apply (md : FVec Ideal S1x1x12288 .f32) (l : Fin 4096) :
    k0_pay6 (F := Ideal) md (ix2 (0 : Fin 1) l) = md (ix3 (0 : Fin 1) (0 : Fin 1) (shiftCol l)) := by
  pointwise [k0_pay6, k0_pay4]

/-- Two rows, each stored on its own, cover a buffer of two rows. -/
theorem rows_cover (w0 w1 : FVec Ideal S1x4096 .f32) (s : Fin 2) (l : Fin 4096) :
    ∃ p ∈ ([⟨Rect.unit ![1, 0] S1x4096.size inb_S2x4096_S1x4096_1_0, w1⟩, ⟨Rect.unit ![0, 0] S1x4096.size inb_S2x4096_S1x4096_0_0, w0⟩]
      : List (View.Piece (Elt Ideal) S2x4096 .f32)), ix2 s l ∈ p.1.set := by
  match s with
  | ⟨0, _⟩ =>
    refine ⟨_, List.mem_cons_of_mem _ List.mem_cons_self, ?_⟩
    rw [Rect.mem_set_unit]
    intro a
    match a with
    | ⟨0, _⟩ => exact ⟨Nat.le_refl _, Nat.lt_succ_self _⟩
    | ⟨1, _⟩ => show 0 ≤ l.val ∧ l.val < 0 + 4096; omega
  | ⟨1, _⟩ =>
    refine ⟨_, List.mem_cons_self, ?_⟩
    rw [Rect.mem_set_unit]
    intro a
    match a with
    | ⟨0, _⟩ => exact ⟨Nat.le_refl _, Nat.lt_succ_self _⟩
    | ⟨1, _⟩ => show 0 ≤ l.val ∧ l.val < 0 + 4096; omega

/-- A buffer of two rows, each stored on its own, at an index. -/
theorem rows_read (v : View sig .tc .vmem S2x4096 .f32) (w0 w1 : FVec Ideal S1x4096 .f32) (G : Fin 2 → Fin 4096 → EReal)
    (h0 : ∀ l, w0 (ix2 (0 : Fin 1) l) = G 0 l) (h1 : ∀ l, w1 (ix2 (0 : Fin 1) l) = G 1 l) (s : Fin 2) (l : Fin 4096) :
    v.read (Elt Ideal) (v.writes (Elt Ideal) v.junk [⟨Rect.unit ![1, 0] S1x4096.size inb_S2x4096_S1x4096_1_0, w1⟩,
      ⟨Rect.unit ![0, 0] S1x4096.size inb_S2x4096_S1x4096_0_0, w0⟩]) (ix2 s l) = G s l := by
  refine (View.read_writes_apply_of_pieces v _ (fun y => G (y 0) (y 1)) _ ?_ (ix2 s l) (rows_cover w0 w1 s l))
  have hx : ∀ x : S1x4096.Idx, ∃ l : Fin 4096, x = ix2 (0 : Fin 1) l := fun x =>
    ⟨x 1, funext fun a => by fin_cases a <;> first | rfl | exact Subsingleton.elim (α := Fin 1) _ _⟩
  intro p hp x
  rcases List.mem_cons.mp hp with rfl | hp
  · obtain ⟨l, rfl⟩ := hx x
    exact (h1 l).trans (congrArg₂ G (Fin.ext rfl) (Fin.ext (by show l.val = 0 + 1 * l.val; omega)))
  · obtain rfl := List.mem_singleton.mp hp
    obtain ⟨l, rfl⟩ := hx x
    exact (h0 l).trans (congrArg₂ G (Fin.ext rfl) (Fin.ext (by show l.val = 0 + 1 * l.val; omega)))

/-- Trip `k` writes its sixteen rows. -/
theorem trip_pieces (c : Dev nD) (i : grid0.Coords) (arg1 : Memref sig .tc .vmem S640x4096 .f32) (harg1 : arg1.IsWhole) (arg2 : Memref sig .tc .vmem S1x4096 .f32) (harg2 : arg2.IsWhole) (arg3 : Memref sig .tc .vmem S2x1x12288 .f32) (harg3 : arg3.IsWhole) (arg4 : Memref sig .tc .vmem S640x4096 .bf16) (harg4 : arg4.IsWhole) (arg5 : Memref sig .tc .vmem S2x4096 .f32) (harg5 : arg5.IsWhole) (arg6 : Memref sig .tc .vmem S2x4096 .f32) (harg6 : arg6.IsWhole)
    (X1 : BufTy.Contents (Elt Ideal) arg1.view.ty) (X5 : BufTy.Contents (Elt Ideal) arg5.view.ty) (X6 : BufTy.Contents (Elt Ideal) arg6.view.ty)
    (k : Fin k0_t1_loop.trips) :
    tripL_k0_t1 (F := Ideal) Variants.none c none i arg1 harg1 arg2 harg2 arg3 harg3 arg4 harg4 arg5 harg5 arg6 harg6 X1 X5 X6 k
      = [⟨Rect.unit (s := S640x4096) (k0_off1 k) S16x4096.size (k0_off1_inb k),
          k0_pay7 (F := Ideal)
            (View.readAt (Elt Ideal) arg1.view (Rect.unit (s := S640x4096) (k0_off1 k) S16x4096.size (k0_off1_inb k)).toLoadRect X1)
            (View.readAt (Elt Ideal) arg1.view (Rect.unit (s := S640x4096) (k0_off1 k) S16x4096.size (k0_off1_inb k)).toLoadRect X1)
            (View.readAt (Elt Ideal) arg5.view (Rect.unit (s := S2x4096) (k0_off2 i k) S1x4096.size (k0_off2_inb i k)).toLoadRect X5)
            (View.readAt (Elt Ideal) arg6.view (Rect.unit (s := S2x4096) (k0_off2 i k) S1x4096.size (k0_off2_inb i k)).toLoadRect X6)⟩] := by
  unfold tripL_k0_t1 trip_k0_t1
  dsimp only

/-- If every trip's payload is the block's, read at the trip's rows, then so is every piece of the trips before `n`. -/
theorem pieces_block (c : Dev nD) (i : grid0.Coords) (arg1 : Memref sig .tc .vmem S640x4096 .f32) (harg1 : arg1.IsWhole) (arg2 : Memref sig .tc .vmem S1x4096 .f32) (harg2 : arg2.IsWhole) (arg3 : Memref sig .tc .vmem S2x1x12288 .f32) (harg3 : arg3.IsWhole) (arg4 : Memref sig .tc .vmem S640x4096 .bf16) (harg4 : arg4.IsWhole) (arg5 : Memref sig .tc .vmem S2x4096 .f32) (harg5 : arg5.IsWhole) (arg6 : Memref sig .tc .vmem S2x4096 .f32) (harg6 : arg6.IsWhole)
    (X1 : BufTy.Contents (Elt Ideal) arg1.view.ty) (X5 : BufTy.Contents (Elt Ideal) arg5.view.ty) (X6 : BufTy.Contents (Elt Ideal) arg6.view.ty)
    (G : FVec Ideal S640x4096 .bf16)
    (h : ∀ k, ∀ p ∈ tripL_k0_t1 (F := Ideal) Variants.none c none i arg1 harg1 arg2 harg2 arg3 harg3 arg4 harg4 arg5 harg5 arg6 harg6 X1 X5 X6 k,
      ∀ x : p.1.shape.Idx, p.2 x = G (p.1.emb x)) (n : ℕ) (hn : n ≤ k0_t1_loop.trips) :
    ∀ p ∈ pb_k0_t1 (F := Ideal) Variants.none c none i arg1 harg1 arg2 harg2 arg3 harg3 arg4 harg4 arg5 harg5 arg6 harg6 X1 X5 X6 n,
      ∀ x : p.1.shape.Idx, p.2 x = G (p.1.emb x) := by
  induction n with
  | zero => intro p hp; rw [pb_k0_t1.eq_1] at hp; exact absurd hp List.not_mem_nil
  | succ n ih =>
    intro p hp
    rw [pb_k0_t1_succ (F := Ideal) Variants.none c none i arg1 harg1 arg2 harg2 arg3 harg3 arg4 harg4 arg5 harg5 arg6 harg6 X1 X5 X6 ⟨n, hn⟩] at hp
    rcases List.mem_append.mp hp with hp | hp
    · exact h _ p hp
    · exact ih (Nat.le_of_succ_le hn) p hp

/-- A load of one row of a buffer of two, at an index. -/
theorem row_load (v : View sig .tc .vmem S2x4096 .f32) (i : grid0.Coords) (k : Fin k0_t1_loop.trips) (X : v.ty.Contents (Elt Ideal))
    (l : Fin 4096) :
    View.readAt (Elt Ideal) v (Rect.unit (s := S2x4096) (k0_off2 i k) S1x4096.size (k0_off2_inb i k)).toLoadRect X (ix2 (0 : Fin 1) l)
      = v.read (Elt Ideal) X (ix2 (stream i (16 * k.val)) l) := by
  refine congrArg (v.read (Elt Ideal) X) (funext fun a => Fin.ext ?_)
  match a with
  | ⟨0, _⟩ =>
    show k0_off2 i k 0 + 1 * 0 = (stream i (16 * k.val)).val
    rw [k0_off2_eq]
    unfold stream
    by_cases h : (i 0).val = 0 ∧ k.val < 16
    · rw [if_pos (⟨h.1, by omega⟩ : (i 0).val = 0 ∧ 16 * k.val < 256)]
      show (if _ then 1 else 0) + 1 * 0 = 1
      rw [if_pos h]
    · rw [if_neg (fun h' => h ⟨h'.1, by omega⟩ : ¬ ((i 0).val = 0 ∧ 16 * k.val < 256))]
      show (if _ then 1 else 0) + 1 * 0 = 0
      rw [if_neg h]
  | ⟨1, _⟩ => show k0_off2 i k 1 + 1 * l.val = l.val; rw [k0_off2_eq]; show 0 + 1 * l.val = l.val; omega

/-- Row `r` of trip `k`'s sixteen, in the block. -/
abbrev tripRow (k : Fin k0_t1_loop.trips) (r : Fin 16) : Fin 640 := ⟨16 * k.val + r.val, by have : k.val < 40 := k.isLt; omega⟩

theorem trip_emb (k : Fin k0_t1_loop.trips) (r : Fin 16) (l : Fin 4096) :
    (Rect.unit (s := S640x4096) (k0_off1 k) S16x4096.size (k0_off1_inb k)).emb (ix2 r l) = ix2 (tripRow k r) l := by
  funext a
  apply Fin.ext
  match a with
  | ⟨0, _⟩ => show k0_off1 k 0 + 1 * r.val = 16 * k.val + r.val; rw [k0_off1_eq]; show 16 * k.val + 1 * r.val = _; omega
  | ⟨1, _⟩ => show k0_off1 k 1 + 1 * l.val = l.val; rw [k0_off1_eq]; show 0 + 1 * l.val = _; omega

/-- Sixteen rows are of one stream. -/
theorem stream_trip (i : grid0.Coords) (k : Fin k0_t1_loop.trips) (r : Fin 16) : stream i (tripRow k r).val = stream i (16 * k.val) := by
  have := r.isLt
  unfold stream
  refine if_congr (and_congr_right fun _ => ?_) rfl rfl
  show 16 * k.val + r.val < 256 ↔ _
  omega

/-- What the body leaves in the point's block. -/
theorem out_eq (c : Dev nD) (i : grid0.Coords) (arg1 : Memref sig .tc .vmem S640x4096 .f32) (harg1 : arg1.IsWhole) (arg2 : Memref sig .tc .vmem S1x4096 .f32) (harg2 : arg2.IsWhole) (arg3 : Memref sig .tc .vmem S2x1x12288 .f32) (harg3 : arg3.IsWhole) (arg4 : Memref sig .tc .vmem S640x4096 .bf16) (harg4 : arg4.IsWhole) (arg5 : Memref sig .tc .vmem S2x4096 .f32) (harg5 : arg5.IsWhole) (arg6 : Memref sig .tc .vmem S2x4096 .f32) (harg6 : arg6.IsWhole)
    (x0 : Vec Ideal S640x4096 .f32) (x1 : Vec Ideal S1x4096 .f32) (x2 : Vec Ideal S2x1x12288 .f32) :
    out0_A_3 c i arg1 harg1 arg2 harg2 arg3 harg3 arg4 harg4 arg5 harg5 arg6 harg6 x0 x1 x2 = block i x0 x1 x2 := by
  funext y
  unfold out0_A_3
  refine View.read_writes_apply_of_pieces _ _ (block i x0 x1 x2) _ ?_ y (cover0_A_3 c i arg1 harg1 arg2 harg2 arg3 harg3 arg4 harg4 arg5 harg5 arg6 harg6 x0 x1 x2 y)
  unfold kernelRun0_A
  dsimp only
  sl_unfold_words
  refine pieces_block c i arg1 harg1 arg2 harg2 arg3 harg3 arg4 harg4 arg5 harg5 arg6 harg6 _ _ _ _ (fun k p hp x => ?_) _ (le_refl _)
  rw [trip_pieces] at hp
  obtain rfl := List.mem_singleton.mp hp
  obtain ⟨r, l, rfl⟩ : ∃ (r : Fin 16) (l : Fin 4096), x = (ix2 r l : S16x4096.Idx) := ⟨x 0, x 1, funext fun a => by fin_cases a <;> rfl⟩
  refine (trip_apply _ _ _ _ r l).trans (Eq.trans ?_ (congrArg (block i x0 x1 x2) (trip_emb k r l)).symm)
  have hx : ∀ k' : Fin 4096, View.readAt (Elt Ideal) arg1.view (Rect.unit (s := S640x4096) (k0_off1 k) S16x4096.size (k0_off1_inb k)).toLoadRect
      (harg1.unread x0) (ix2 r k') = x0 (ix2 (tripRow k r) k') := fun k' =>
    (congrFun (harg1.read_unread x0) _).trans (congrArg x0 (trip_emb k r k'))
  have hg : ∀ l : Fin 4096, View.readAt (Elt Ideal) arg2.view (Rect.unit ![0, 0] S1x4096.size inb_S1x4096_S1x4096_0_0).toLoadRect (harg2.unread x1)
      (ix2 (0 : Fin 1) l) = x1 (ix2 (0 : Fin 1) l) := fun l =>
    (congrFun (harg2.read_unread x1) _).trans (congrArg x1 (funext fun a => Fin.ext (by
      match a with
      | ⟨0, _⟩ => rfl
      | ⟨1, _⟩ => show 0 + 1 * l.val = l.val; omega)))
  have hm0 : ∀ l : Fin 12288, View.readAt (Elt Ideal) arg3.view (Rect.unit (s := S2x1x12288) ![0, 0, 0] S1x1x12288.size inb_S2x1x12288_S1x1x12288_0_0_0).toLoadRect
      (harg3.unread x2) (ix3 (0 : Fin 1) (0 : Fin 1) l) = x2 (ix3 (0 : Fin 2) (0 : Fin 1) l) := fun l =>
    (congrFun (harg3.read_unread x2) _).trans (congrArg x2 (funext fun a => Fin.ext (by
      match a with
      | ⟨0, _⟩ => rfl
      | ⟨1, _⟩ => rfl
      | ⟨2, _⟩ => show 0 + 1 * l.val = l.val; omega)))
  have hm1 : ∀ l : Fin 12288, View.readAt (Elt Ideal) arg3.view (Rect.unit (s := S2x1x12288) ![1, 0, 0] S1x1x12288.size inb_S2x1x12288_S1x1x12288_1_0_0).toLoadRect
      (harg3.unread x2) (ix3 (0 : Fin 1) (0 : Fin 1) l) = x2 (ix3 (1 : Fin 2) (0 : Fin 1) l) := fun l =>
    (congrFun (harg3.read_unread x2) _).trans (congrArg x2 (funext fun a => Fin.ext (by
      match a with
      | ⟨0, _⟩ => rfl
      | ⟨1, _⟩ => rfl
      | ⟨2, _⟩ => show 0 + 1 * l.val = l.val; omega)))
  refine congrArg₂ (· + ·) (congrArg₂ (· * ·) (congrArg₂ (· * ·) (hx l) (congrArg Ideal.rsqrt (congrArg (· + _) (congrArg (Ideal.div · _)
    (Finset.sum_congr rfl fun k' _ => congrArg₂ (· * ·) (hx k') (hx k')))))) ?_) ?_
  · refine (row_load arg5.view i k _ l).trans ((rows_read arg5.view _ _
      (fun s l => x1 (ix2 (0 : Fin 1) l) * (Ideal.ofBits .f32 0x3F800000#32 + x2 (ix3 s (0 : Fin 1) (scaleCol l)))) (fun l => ?_) (fun l => ?_) _ l).trans ?_)
    · exact (scale0_apply _ _ l).trans (congrArg₂ (· * ·) (hg l) (congrArg (_ + ·) (hm0 _)))
    · exact (scale1_apply _ _ l).trans (congrArg₂ (· * ·) (hg l) (congrArg (_ + ·) (hm1 _)))
    · rw [← stream_trip i k r]; rfl
  · refine (row_load arg6.view i k _ l).trans ((rows_read arg6.view _ _ (fun s l => x2 (ix3 s (0 : Fin 1) (shiftCol l))) (fun l => ?_) (fun l => ?_) _ l).trans ?_)
    · exact (shift0_apply _ l).trans (hm0 _)
    · exact (shift1_apply _ l).trans (hm1 _)
    · rw [← stream_trip i k r]; rfl

/-- The stream of a row of the residual stream. -/
def side (r : ℕ) : Fin 2 := if r < 256 then 1 else 0

/-- The modulation's row for a stream. -/
abbrev sideRow (s : Fin 2) : Fin 8 := ⟨s.val, by omega⟩

/-- The modulated norm at one element: the row's RMSNorm, scaled and shifted by the modulation of the row's stream. -/
def norm (x : FVec Ideal S16640x4096 .f32) (g : FVec Ideal S4096 .f32) (md : FVec Ideal S8x12288 .f32) : FVec Ideal S16640x4096 .bf16 :=
  fun i => x (ix2 (i 0) (i 1))
    * Ideal.rsqrt (Ideal.div (∑ k : Fin 4096, x (ix2 (i 0) k) * x (ix2 (i 0) k)) (Ideal.ofBits .f32 0x45800000#32)
        + Ideal.ofBits .f32 0x358637BD#32)
    * (g (ix1 (i 1)) * (Ideal.ofBits .f32 0x3F800000#32 + md (ix2 (sideRow (side (i 0).val)) (scaleCol (i 1)))))
    + md (ix2 (sideRow (side (i 0).val)) (shiftCol (i 1)))

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = t.val ∧ win0_3.index t 1 = 0 := by decide +kernel
theorem coord : ∀ t : Fin grid0.N, (grid0.coords t 0).val = t.val := by decide +kernel

theorem point_lt (t : Fin cfg0.N) : t.val < 26 := by have := t.isLt; have hN : cfg0.N = 26 := N_0; omega

/-- Row `r` of the point's block, in the whole array. -/
abbrev row (t : Fin cfg0.N) (r : Fin 640) : Fin 16640 := ⟨t.val * 640 + r.val, by have := point_lt t; omega⟩

theorem stream_row (t : Fin cfg0.N) (r : Fin 640) : stream (grid0.coords t) r.val = side (row t r).val := by
  have := r.isLt
  unfold stream side
  refine if_congr ?_ rfl rfl
  rw [coord]
  show t.val = 0 ∧ r.val < 256 ↔ t.val * 640 + r.val < 256
  omega

theorem rows_apply (c : Dev nD) (t : Fin cfg0.N) (r : Fin 640) (k : Fin 4096) :
    (iblk m c 0 t : FVec Ideal S640x4096 .f32) (ix2 r k) = m ((c : Thread nD τ).loc main_arg0) (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 640 + 1 * r.val = t.val * 640 + r.val; rw [(index0 t).1]; omega
  | ⟨1, _⟩ => show win0_0.index t 1 * 4096 + 1 * k.val = k.val; rw [(index0 t).2]; omega

/-- The host lays the gain out as one row, and each of the modulation's rows as a row of its own. -/
theorem gain_entry (c : Dev nD) :
    V m c main_v1 = shapeCast S1x4096 (m ((c : Thread nD τ).loc main_arg1)) shapeCasts_S4096_S1x4096 := by
  unfold V
  after_results <;> rfl
theorem mod_entry (c : Dev nD) :
    V m c main_v0 = shapeCast S8x1x12288 (m ((c : Thread nD τ).loc main_arg2)) shapeCasts_S8x12288_S8x1x12288 := by
  unfold V
  after_results <;> rfl

theorem gain_row (g : FVec Ideal S4096 .f32) (l : Fin 4096) :
    shapeCast S1x4096 g shapeCasts_S4096_S1x4096 (ix2 (0 : Fin 1) l) = g (ix1 l) := by
  pointwise
theorem mod_rows (md : FVec Ideal S8x12288 .f32) (s : Fin 8) (l : Fin 12288) :
    shapeCast S8x1x12288 md shapeCasts_S8x12288_S8x1x12288 (ix3 s (0 : Fin 1) l) = md (ix2 s l) := by
  pointwise

theorem gain_apply (c : Dev nD) (t : Fin cfg0.N) (l : Fin 4096) :
    (iblk m c 1 t : FVec Ideal S1x4096 .f32) (ix2 (0 : Fin 1) l) = m ((c : Thread nD τ).loc main_arg1) (ix1 l) := by
  have e : (iblk m c 1 t : FVec Ideal S1x4096 .f32) (ix2 (0 : Fin 1) l) = (V m c main_v1 : FVec Ideal S1x4096 .f32) (ix2 (0 : Fin 1) l) := by
    unfold iblk
    rw [View.read_apply]
    show V m c main_v1 _ = V m c main_v1 _
    congr 1
    funext a
    apply Fin.ext
    match a with
    | ⟨0, _⟩ => show win0_1.index t 0 * 1 + 1 * 0 = 0; rw [(index1 t).1]
    | ⟨1, _⟩ => show win0_1.index t 1 * 4096 + 1 * l.val = l.val; rw [(index1 t).2]; omega
  rw [e, gain_entry]
  exact gain_row _ _

theorem mod_apply (c : Dev nD) (t : Fin cfg0.N) (s : Fin 2) (l : Fin 12288) :
    (iblk m c 2 t : FVec Ideal S2x1x12288 .f32) (ix3 s (0 : Fin 1) l) = m ((c : Thread nD τ).loc main_arg2) (ix2 (sideRow s) l) := by
  have e : (iblk m c 2 t : FVec Ideal S2x1x12288 .f32) (ix3 s (0 : Fin 1) l)
      = (V m c main_v0 : FVec Ideal S8x1x12288 .f32) (ix3 (sideRow s) (0 : Fin 1) l) := by
    unfold iblk
    rw [View.read_apply]
    show V m c main_v0 _ = V m c main_v0 _
    congr 1
    funext a
    apply Fin.ext
    match a with
    | ⟨0, _⟩ => show win0_2.index t 0 * 2 + 1 * s.val = s.val; rw [(index2 t).1]; omega
    | ⟨1, _⟩ => show win0_2.index t 1 * 1 + 1 * 0 = 0; rw [(index2 t).2.1]
    | ⟨2, _⟩ => show win0_2.index t 2 * 12288 + 1 * l.val = l.val; rw [(index2 t).2.2]; omega
  rw [e, mod_entry]
  exact mod_rows _ _ _

/-- The whole-array norm of device `c`'s arguments. -/
abbrev result (c : Dev nD) : Buf (Elt Ideal) ((c : Thread nD τ).loc main_v2) :=
  norm (m ((c : Thread nD τ).loc main_arg0)) (m ((c : Thread nD τ).loc main_arg1)) (m ((c : Thread nD τ).loc main_arg2))

/-- Each point writes back its block of the whole norm. -/
theorem flushed_eq (c : Dev nD) (t : Fin cfg0.N) :
    (dats m 0 c).flushed 3 t = ((cfg0.win 3).blk t).view.read (Elt Ideal) (result m c) := by
  rw [Cert.NormIdeal.Value.flushed3_A, out_eq]
  funext y
  obtain ⟨r, l, rfl⟩ : ∃ (r : Fin 640) (l : Fin 4096), y = ix2 r l := ⟨y 0, y 1, funext fun a => by fin_cases a <;> rfl⟩
  rw [View.read_apply]
  show block (grid0.coords t) (iblk m c 0 t) (iblk m c 1 t) (iblk m c 2 t) (ix2 r l) = result m c ((win0_3.rect t).emb (ix2 r l))
  have e : (win0_3.rect t).emb (ix2 r l) = ix2 (row t r) l := by
    funext a
    apply Fin.ext
    match a with
    | ⟨0, _⟩ => show win0_3.index t 0 * 640 + 1 * r.val = t.val * 640 + r.val; rw [(index3 t).1]; omega
    | ⟨1, _⟩ => show win0_3.index t 1 * 4096 + 1 * l.val = l.val; rw [(index3 t).2]; omega
  refine Eq.trans ?_ (congrArg (result m c) e).symm
  have hm : ∀ k : Fin 12288, (iblk m c 2 t : FVec Ideal S2x1x12288 .f32) (ix3 (stream (grid0.coords t) r.val) (0 : Fin 1) k)
      = m ((c : Thread nD τ).loc main_arg2) (ix2 (sideRow (side (row t r).val)) k) := fun k => by
    rw [stream_row]; exact mod_apply m c t _ k
  exact congrArg₂ (· + ·) (congrArg₂ (· * ·) (congrArg₂ (· * ·) (rows_apply m c t r l) (congrArg Ideal.rsqrt (congrArg (· + _)
    (congrArg (Ideal.div · _) (Finset.sum_congr rfl fun k _ => congrArg₂ (· * ·) (rows_apply m c t r k) (rows_apply m c t r k))))))
    (congrArg₂ (· * ·) (gain_apply m c t l) (congrArg (_ + ·) (hm _)))) (hm _)

/-- The blocks tile the result. -/
theorem cover (i : S16640x4096.Idx) :
    ∃ t : Fin cfg0.N, (cfg0.win 3).flush t = true ∧ i ∈ ((cfg0.win 3).blk t).view.set := by
  have h0 : (i 0 : Nat) < 16640 := (i 0).isLt
  have h1 : (i 1 : Nat) < 4096 := (i 1).isLt
  have hN : cfg0.N = 26 := N_0
  refine ⟨⟨(i 0 : Nat) / 640, by omega⟩, flush0_3 _, ?_⟩
  generalize ht : (⟨(i 0 : Nat) / 640, _⟩ : Fin cfg0.N) = t
  have hv : t.val = (i 0 : Nat) / 640 := by rw [← ht]
  show i ∈ ((View.whole main_v2).slice (win0_3.rect t)).set
  rw [View.set_slice_whole, Rect.mem_set_unit]
  intro a
  match a with
  | ⟨0, _⟩ => show win0_3.index t 0 * 640 ≤ (i 0 : Nat) ∧ (i 0 : Nat) < win0_3.index t 0 * 640 + 640
              rw [(index3 t).1]; omega
  | ⟨1, _⟩ => show win0_3.index t 1 * 4096 ≤ (i 1 : Nat) ∧ (i 1 : Nat) < win0_3.index t 1 * 4096 + 4096
              rw [(index3 t).2]; omega

theorem final_result (c : Dev nD) : (dats m 0 c).arrAt 3 cfg0.N = result m c :=
  (dats m 0 c).arrAt_eq_of_cover 3 (result m c) (fun t _ => flushed_eq m c t) cover

end Cert.NormIdeal.ModNorm

namespace Cert.NormReferenceIdeal.ModNorm

open Cert.NormReferenceIdeal Cert.NormReferenceIdeal.Gen

/-- The reference's composed term is the norm. -/
theorem composed (x : FVec Ideal S16640x4096 .f32) (g : FVec Ideal S4096 .f32) (md : FVec Ideal S8x12288 .f32) :
    (truncf .bf16 (concatenate S16640x4096 0 [⟨S256x4096, (addf (mulf (mulf (mulf (extractStridedSlice S256x4096 ![0, 0] x slices_S16640x4096_S256x4096_0_0) (broadcastInDim S256x4096 ![0, 1] bcast_S256x1_S256x4096_0_1 (Host.rsqrt (addf (Host.divf (broadcastInDim S256x1 ![0] bcast_S256_S256x1_0 (Host.reduceAdd (mulf (extractStridedSlice S256x4096 ![0, 0] x slices_S16640x4096_S256x4096_0_0) (extractStridedSlice S256x4096 ![0, 0] x slices_S16640x4096_S256x4096_0_0)) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 (broadcastInDim S1x4096 ![1] bcast_S4096_S1x4096_1 g))) (broadcastInDim S256x4096 ![0, 1] bcast_S1x4096_S256x4096_0_1 (broadcastInDim S1x4096 ![1] bcast_S4096_S1x4096_1 (addf (broadcastInDim S4096 ![] bcast_S_S4096 (constant S_ .f32 0x3F800000#32)) (extractStridedSlice S4096 ![4096] (shapeCast _ (extractStridedSlice S1x12288 ![1, 0] md slices_S8x12288_S1x12288_1_0) shapeCasts_S1x12288_S12288) slices_S12288_S4096_4096))))) (broadcastInDim S256x4096 ![0, 1] bcast_S1x4096_S256x4096_0_1 (broadcastInDim S1x4096 ![1] bcast_S4096_S1x4096_1 (extractStridedSlice S4096 ![0] (shapeCast _ (extractStridedSlice S1x12288 ![1, 0] md slices_S8x12288_S1x12288_1_0) shapeCasts_S1x12288_S12288) slices_S12288_S4096_0))))⟩, ⟨S16384x4096, (addf (mulf (mulf (mulf (extractStridedSlice S16384x4096 ![256, 0] x slices_S16640x4096_S16384x4096_256_0) (broadcastInDim S16384x4096 ![0, 1] bcast_S16384x1_S16384x4096_0_1 (Host.rsqrt (addf (Host.divf (broadcastInDim S16384x1 ![0] bcast_S16384_S16384x1_0 (Host.reduceAdd (mulf (extractStridedSlice S16384x4096 ![256, 0] x slices_S16640x4096_S16384x4096_256_0) (extractStridedSlice S16384x4096 ![256, 0] x slices_S16640x4096_S16384x4096_256_0)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))) (broadcastInDim S16384x4096 ![0, 1] bcast_S1x4096_S16384x4096_0_1 (broadcastInDim S1x4096 ![1] bcast_S4096_S1x4096_1 (addf (broadcastInDim S4096 ![] bcast_S_S4096 (constant S_ .f32 0x3F800000#32)) (extractStridedSlice S4096 ![4096] (shapeCast _ (extractStridedSlice S1x12288 ![0, 0] md slices_S8x12288_S1x12288_0_0) shapeCasts_S1x12288_S12288) slices_S12288_S4096_4096))))) (broadcastInDim S16384x4096 ![0, 1] bcast_S1x4096_S16384x4096_0_1 (broadcastInDim S1x4096 ![1] bcast_S4096_S1x4096_1 (extractStridedSlice S4096 ![0] (shapeCast _ (extractStridedSlice S1x12288 ![0, 0] md slices_S8x12288_S1x12288_0_0) shapeCasts_S1x12288_S12288) slices_S12288_S4096_0))))⟩] concatenates_S256x4096_S16384x4096_S16640x4096_d0) bitsLt_bf16_f32 : FVec Ideal S16640x4096 .bf16)
      = Cert.NormIdeal.ModNorm.norm x g md := by
  funext j
  idx_vars j
  pointwise [Cert.NormIdeal.ModNorm.norm]
  by_cases h : j0.val < 256
  · have hs : Cert.NormIdeal.ModNorm.side j0.val = 1 := if_pos h
    rw [hs]
    exact (dif_pos h).trans (congrArg (· + _) (mul_assoc _ _ _))
  · have hs : Cert.NormIdeal.ModNorm.side j0.val = 0 := if_neg h
    have e : (⟨256 + (j0.val - 256), by omega⟩ : Fin 16640) = j0 := Fin.ext (by show 256 + (j0.val - 256) = j0.val; omega)
    rw [hs]
    refine (dif_neg h).trans ?_
    simp only [e]
    exact congrArg (· + _) (mul_assoc _ _ _)

end Cert.NormReferenceIdeal.ModNorm

namespace Cert.Proof.NormClaims

theorem algebraic : Cert.algebraic_NormIdeal_NormReferenceIdeal := by
  intro m g m' g' _ hargs
  refine ⟨fun c => Cert.NormIdeal.ModNorm.result m c, ?_, ?_⟩
  · exact (θ_run _ _ _).mono (fun r h c => ⟨(h c).1.trans (Cert.NormIdeal.ModNorm.final_result m c), (h c).2⟩)
      (Cert.NormIdeal.Value.run_blocks m g)
  · refine (θ_run _ _ _).mono (fun r h c => ⟨(h c).1.trans ?_, (h c).2⟩) (Cert.NormReferenceIdeal.Value.run m' g')
    rw [(hargs c).1, (hargs c).2.1, (hargs c).2.2]
    exact Cert.NormReferenceIdeal.ModNorm.composed _ _ _

end Cert.Proof.NormClaims

end
-- ==== Proof.ConvTaps.lean ====
/- The convolution's taps, 128 channels at a time: the body groups the 31 taps by the row's residue modulo 8, sums each group on rows
   that start at a multiple of 8, and shifts each group's sum by its residue. At an index that is the sum of the taps. -/
module

public import proofs.«01_k».proof.Proof.Gen.ConvIdeal.Skeleton
public import Idealize.ShloMosaic.Lib.Pointwise

@[expose] public section

set_option maxRecDepth 16384

noncomputable section

open Idealize.ShloMosaic Idealize.SL.Sem

namespace Cert.ConvIdeal.Taps

open Cert.ConvIdeal Cert.ConvIdeal.Gen

/-- One tap: each channel's weight times the channel's rows. -/
def tap (w : FVec Ideal S1x128 .f32) (u : FVec Ideal S264x128 .f32) : FVec Ideal S264x128 .f32 :=
  mulf (broadcastTo S264x128 (shapeCast S1x128 w shapeCasts_S1x128_S1x128) broadcasts_S1x128_S264x128) u

/-- Rows in groups of 8. -/
def grouped (g : FVec Ideal S264x128 .f32) : FVec Ideal S33x8x128 .f32 := shapeCast S33x8x128 g shapeCasts_S264x128_S33x8x128

/-- The first 32 groups. -/
def heads (g : FVec Ideal S264x128 .f32) : FVec Ideal S32x8x128 .f32 :=
  extractStridedSlice S32x8x128 ![0, 0, 0] (grouped g) slices_S33x8x128_o0_0_0_S32x8x128

/-- Each group from its row `d` on, with the next group's first rows behind it. -/
def shifted (d e : BitVec 32) (g : FVec Ideal S264x128 .f32) : FVec Ideal S32x8x128 .f32 :=
  dynamicRotate 1 e none (select (cmpi .sge (iota .tc S32x8x128 32 [1] iota_S32x8x128_d1_w32) (broadcast S32x8x128 d)) (heads g)
    (concatenate S32x8x128 0 [⟨S31x8x128, extractStridedSlice S31x8x128 ![1, 0, 0] (heads g) slices_S32x8x128_o1_0_0_S31x8x128⟩,
      ⟨S1x8x128, shapeCast S1x8x128 (shapeCast S8x128 (extractStridedSlice S1x8x128 ![32, 0, 0] (grouped g) slices_S33x8x128_o32_0_0_S1x8x128)
        shapeCasts_S1x8x128_S8x128) shapeCasts_S8x128_S1x8x128⟩] concatenates_S31x8x128_S1x8x128_S32x8x128_d0)) rotates_S32x8x128_d1

/-- The taps of one residue. -/
def four (w : Fin 31 → FVec Ideal S1x128 .f32) (u : Fin 4 → FVec Ideal S264x128 .f32) (a b c d : Fin 31) : FVec Ideal S264x128 .f32 :=
  addf (addf (addf (tap (w a) (u 0)) (tap (w b) (u 1))) (tap (w c) (u 2))) (tap (w d) (u 3))

/-- All taps of 128 channels, from the rows of the weights and from the rows that start at 0, 8, 16 and 24. -/
def taps (w : Fin 31 → FVec Ideal S1x128 .f32) (u : Fin 4 → FVec Ideal S264x128 .f32) : FVec Ideal S32x8x128 .f32 :=
  addf (addf (addf (addf (addf (addf (addf
    (heads (addf (addf (tap (w 7) (u 1)) (tap (w 15) (u 2))) (tap (w 23) (u 3))))
    (shifted 1#32 7#32 (four w u 0 8 16 24))) (shifted 2#32 6#32 (four w u 1 9 17 25))) (shifted 3#32 5#32 (four w u 2 10 18 26)))
    (shifted 4#32 4#32 (four w u 3 11 19 27))) (shifted 5#32 3#32 (four w u 4 12 20 28))) (shifted 6#32 2#32 (four w u 5 13 21 29)))
    (shifted 7#32 1#32 (four w u 6 14 22 30))

/-- The convolution of 128 channels, with its bias. -/
def laneBlock (w : Fin 31 → FVec Ideal S1x128 .f32) (u : Fin 4 → FVec Ideal S264x128 .f32) (b : FVec Ideal S1x128 .f32) :
    FVec Ideal S256x128 .f32 :=
  addf (shapeCast S256x128 (taps w u) shapeCasts_S32x8x128_S256x128)
    (broadcastTo S256x128 (shapeCast S1x128 b shapeCasts_S1x128_S1x128) broadcasts_S1x128_S256x128)

theorem tap_apply (w : FVec Ideal S1x128 .f32) (u : FVec Ideal S264x128 .f32) (r : Fin 264) (l : Fin 128) :
    tap w u (ix2 r l) = w (ix2 (0 : Fin 1) l) * u (ix2 r l) := by
  pointwise [tap]

theorem heads_apply (g : FVec Ideal S264x128 .f32) (p : Fin 32) (s : Fin 8) (l : Fin 128) :
    heads g (ix3 p s l) = g (ix2 (⟨8 * p.val + s.val + 0, by omega⟩ : Fin 264) l) := by
  pointwise [heads, grouped]
  exact congrArg g (congrArg (ix2 · l) (Fin.ext (by dsimp only; omega)))

/-- A choice by the comparison of two small words. -/
theorem select_ge (k d : ℕ) (hk : k < 8) (hd : d < 8) (a b : EReal) :
    Scalar.select (IntOp.cmpi .sge (BitVec.ofNat 32 k) (BitVec.ofNat 32 d)) a b = if d ≤ k then a else b := by
  interval_cases k <;> interval_cases d <;> rfl

/-- What a shift by `d` picks: in the group where the row is still there, in the next group where it is not. -/
theorem picked (g : FVec Ideal S264x128 .f32) (p : Fin 32) (s : Fin 8) (l : Fin 128) (d : ℕ) (h0 : 0 < d) (h8 : d < 8) :
    Scalar.select (IntOp.cmpi .sge (BitVec.ofNat 32 ((s.val + 8 - (8 - d)) % 8)) (BitVec.ofNat 32 d))
      (g (ix2 (⟨p.val * 8 + (s.val + 8 - (8 - d)) % 8, by omega⟩ : Fin 264) l))
      (if h : p.val < 31 then g (ix2 (⟨(1 + p.val) * 8 + (s.val + 8 - (8 - d)) % 8, by omega⟩ : Fin 264) l)
        else g (ix2 (⟨(32 + (p.val - 31)) * 8 + (s.val + 8 - (8 - d)) % 8, by omega⟩ : Fin 264) l))
      = g (ix2 (⟨8 * p.val + s.val + d, by omega⟩ : Fin 264) l) := by
  refine (select_ge _ d (by omega) h8 _ _).trans ?_
  split
  · exact congrArg g (congrArg (ix2 · l) (Fin.ext (by dsimp only; omega)))
  · split <;> exact congrArg g (congrArg (ix2 · l) (Fin.ext (by dsimp only; omega)))

/-- A group's sum shifted by its residue, at an index. -/
theorem shifted_apply (d : Fin 8) (h0 : d ≠ 0) (g : FVec Ideal S264x128 .f32) (p : Fin 32) (s : Fin 8) (l : Fin 128) :
    shifted (BitVec.ofNat 32 d.val) (BitVec.ofNat 32 (8 - d.val)) g (ix3 p s l) = g (ix2 (⟨8 * p.val + s.val + d.val, by omega⟩ : Fin 264) l) := by
  match d with
  | ⟨0, _⟩ => exact absurd rfl h0
  | ⟨1, _⟩ | ⟨2, _⟩ | ⟨3, _⟩ | ⟨4, _⟩ | ⟨5, _⟩ | ⟨6, _⟩ | ⟨7, _⟩ =>
    dsimp only [Nat.reduceSub]
    pointwise [shifted, heads, grouped]
    exact picked g p s l _ (by decide) (by decide)

theorem four_apply (w : Fin 31 → FVec Ideal S1x128 .f32) (u : Fin 4 → FVec Ideal S264x128 .f32) (a b c d : Fin 31) (r : Fin 264) (l : Fin 128) :
    four w u a b c d (ix2 r l) = w a (ix2 (0 : Fin 1) l) * u 0 (ix2 r l) + w b (ix2 (0 : Fin 1) l) * u 1 (ix2 r l)
      + w c (ix2 (0 : Fin 1) l) * u 2 (ix2 r l) + w d (ix2 (0 : Fin 1) l) * u 3 (ix2 r l) :=
  congrArg₂ (· + ·) (congrArg₂ (· + ·) (congrArg₂ (· + ·) (tap_apply _ _ r l) (tap_apply _ _ r l)) (tap_apply _ _ r l)) (tap_apply _ _ r l)

/-- The taps in the body's order and in their own. -/
theorem regroup (f : Fin 31 → EReal) :
    f 7 + f 15 + f 23 + (f 0 + f 8 + f 16 + f 24) + (f 1 + f 9 + f 17 + f 25) + (f 2 + f 10 + f 18 + f 26) + (f 3 + f 11 + f 19 + f 27)
      + (f 4 + f 12 + f 20 + f 28) + (f 5 + f 13 + f 21 + f 29) + (f 6 + f 14 + f 22 + f 30) = ∑ k : Fin 31, f k := by
  have h : ∑ k : Fin 31, f k = f 0 + (f 1 + (f 2 + (f 3 + (f 4 + (f 5 + (f 6 + (f 7 + (f 8 + (f 9 + (f 10 + (f 11 + (f 12 + (f 13 + (f 14 + (f 15 + (f 16 + (f 17 + (f 18 + (f 19 + (f 20 + (f 21 + (f 22 + (f 23 + (f 24 + (f 25 + (f 26 + (f 27 + (f 28 + (f 29 + (f 30 + 0)))))))))))))))))))))))))))))) := by
    simp only [Fin.sum_univ_succ, Finset.univ_eq_empty, Finset.sum_empty]
    rfl
  rw [h]
  abel

/-- All taps, at an index: row `r` takes tap `k` from row `r + k + 1` of the rows. -/
theorem taps_apply (w : Fin 31 → FVec Ideal S1x128 .f32) (u : Fin 4 → FVec Ideal S264x128 .f32) (U : ℕ → Fin 128 → EReal)
    (hu : ∀ q r l, u q (ix2 r l) = U (8 * q.val + r.val) l) (p : Fin 32) (s : Fin 8) (l : Fin 128) :
    taps w u (ix3 p s l) = ∑ k : Fin 31, w k (ix2 (0 : Fin 1) l) * U (8 * p.val + s.val + k.val + 1) l := by
  have hs : ∀ (d : Fin 8) (h0 : d ≠ 0) (a b c e : Fin 31), shifted (BitVec.ofNat 32 d.val) (BitVec.ofNat 32 (8 - d.val)) (four w u a b c e) (ix3 p s l)
      = w a (ix2 (0 : Fin 1) l) * U (8 * p.val + s.val + d.val) l + w b (ix2 (0 : Fin 1) l) * U (8 * p.val + s.val + (d.val + 8)) l
        + w c (ix2 (0 : Fin 1) l) * U (8 * p.val + s.val + (d.val + 16)) l + w e (ix2 (0 : Fin 1) l) * U (8 * p.val + s.val + (d.val + 24)) l := by
    intro d h0 a b c e
    have h : ∀ (q : Fin 4) (n : ℕ), n = d.val + 8 * q.val →
        u q (ix2 (⟨8 * p.val + s.val + d.val, by omega⟩ : Fin 264) l) = U (8 * p.val + s.val + n) l := fun q n hn =>
      (hu q _ l).trans (congrArg (U · l) (by dsimp only; omega))
    refine (shifted_apply d h0 _ p s l).trans ((four_apply w u a b c e _ l).trans ?_)
    rw [h 0 d.val rfl, h 1 (d.val + 8) rfl, h 2 (d.val + 16) rfl, h 3 (d.val + 24) rfl]
  have h0 : heads (addf (addf (tap (w 7) (u 1)) (tap (w 15) (u 2))) (tap (w 23) (u 3))) (ix3 p s l)
      = w 7 (ix2 (0 : Fin 1) l) * U (8 * p.val + s.val + 8) l + w 15 (ix2 (0 : Fin 1) l) * U (8 * p.val + s.val + 16) l
        + w 23 (ix2 (0 : Fin 1) l) * U (8 * p.val + s.val + 24) l := by
    have h : ∀ (q : Fin 4) (n : ℕ), n = 8 * q.val →
        u q (ix2 (⟨8 * p.val + s.val + 0, by omega⟩ : Fin 264) l) = U (8 * p.val + s.val + n) l := fun q n hn =>
      (hu q _ l).trans (congrArg (U · l) (by dsimp only; omega))
    refine (heads_apply _ p s l).trans (Eq.trans (congrArg₂ (· + ·) (congrArg₂ (· + ·) (tap_apply _ _ _ l) (tap_apply _ _ _ l)) (tap_apply _ _ _ l)) ?_)
    rw [h 1 8 rfl, h 2 16 rfl, h 3 24 rfl]
  have e := congrArg₂ (· + ·) (congrArg₂ (· + ·) (congrArg₂ (· + ·) (congrArg₂ (· + ·) (congrArg₂ (· + ·) (congrArg₂ (· + ·) (congrArg₂ (· + ·)
    h0 (hs 1 (by decide) 0 8 16 24)) (hs 2 (by decide) 1 9 17 25)) (hs 3 (by decide) 2 10 18 26)) (hs 4 (by decide) 3 11 19 27))
    (hs 5 (by decide) 4 12 20 28)) (hs 6 (by decide) 5 13 21 29)) (hs 7 (by decide) 6 14 22 30)
  exact Eq.trans e (regroup fun k => w k (ix2 (0 : Fin 1) l) * U (8 * p.val + s.val + k.val + 1) l)

/-- The convolution of 128 channels at an index. -/
theorem laneBlock_apply (w : Fin 31 → FVec Ideal S1x128 .f32) (u : Fin 4 → FVec Ideal S264x128 .f32) (b : FVec Ideal S1x128 .f32)
    (U : ℕ → Fin 128 → EReal) (hu : ∀ q r l, u q (ix2 r l) = U (8 * q.val + r.val) l) (r : Fin 256) (l : Fin 128) :
    laneBlock w u b (ix2 r l) = (∑ k : Fin 31, w k (ix2 (0 : Fin 1) l) * U (r.val + k.val + 1) l) + b (ix2 (0 : Fin 1) l) := by
  have h : laneBlock w u b (ix2 r l) = taps w u (ix3 (⟨r.val / 8, by omega⟩ : Fin 32) (⟨r.val % 8, by omega⟩ : Fin 8) l) + b (ix2 (0 : Fin 1) l) := by
    pointwise [laneBlock]
  rw [h, taps_apply w u U hu]
  exact congrArg (· + _) (Finset.sum_congr rfl fun k _ => congrArg (_ * U · l) (by dsimp only; omega))

end Cert.ConvIdeal.Taps

end
-- ==== Proof.ConvTail.lean ====
/- What follows the convolution at a point: the layer norm of each row, its gate, the product with the pointwise weights and the gate of
   the row; and the rows the convolution reads, laid out in one buffer. -/
module

public import proofs.«01_k».proof.Proof.AttMath
public import proofs.«01_k».proof.Proof.ConvTaps
public import Idealize.ShloMosaic.Lib.Pipeline.Value
public import Idealize.ShloMosaic.Lib.Pipeline.ValueKit

@[expose] public section

set_option maxRecDepth 16384

noncomputable section

open Idealize.ShloMosaic Idealize.SL.Sem

namespace Cert.ConvIdeal.Conv

open Cert.ConvIdeal Cert.ConvIdeal.Gen

/-- The logistic of an element, and the element times it. -/
def gate (x : EReal) : EReal := Ideal.div 1 (1 + Ideal.exp (-x))
def silu (x : EReal) : EReal := x * gate x

/-- The mean of a row's channels, a channel's distance from it, and the row's layer norm. -/
def mean (A : Fin 1024 → EReal) : EReal := Ideal.div (∑ k : Fin 1024, A k) (Ideal.ofBits .f32 0x44800000#32)
def dist (A : Fin 1024 → EReal) (l : Fin 1024) : EReal := A l - mean A
def normed (A g b : Fin 1024 → EReal) (l : Fin 1024) : EReal :=
  dist A l * Ideal.rsqrt (Ideal.div (∑ k : Fin 1024, dist A k * dist A k) (Ideal.ofBits .f32 0x44800000#32) + Ideal.ofBits .f32 0x358637BD#32)
    * g l + b l

/-- What a row of convolved channels comes to in channel `l`. -/
def mixed (A g b : Fin 1024 → EReal) (w : Fin 1024 → EReal) (pb gt : EReal) : EReal :=
  ((∑ k : Fin 1024, silu (normed A g b k) * w k) + pb) * silu gt

/-- The body's gate, by powers of two, is the gate. -/
theorem gate_eq (x : EReal) :
    Ideal.div 1 (1 + Ideal.exp2 (x * Named.named (F := Ideal) (φ := .f32) κ "minus_log2_e" 0xBFB8AA3B#32)) = gate x :=
  congrArg (fun e => Ideal.div _ (_ + e)) (Cert.AttMath.gate_eq x)

/-- The convolved channels of a block, 128 by 128 side by side. -/
def channels (q : Fin 8 → FVec Ideal S256x128 .f32) : FVec Ideal S256x1024 .f32 :=
  concatenate S256x1024 1 [⟨S256x128, q 0⟩, ⟨S256x128, q 1⟩, ⟨S256x128, q 2⟩, ⟨S256x128, q 3⟩, ⟨S256x128, q 4⟩, ⟨S256x128, q 5⟩, ⟨S256x128, q 6⟩, ⟨S256x128, q 7⟩] concatenates_S256x128_S256x128_S256x128_S256x128_S256x128_S256x128_S256x128_S256x128_S256x1024_d1

theorem channels_apply (q : Fin 8 → FVec Ideal S256x128 .f32) (r : Fin 256) (l : Fin 1024) :
    channels q (ix2 r l) = q (⟨l.val / 128, by omega⟩ : Fin 8) (ix2 r (⟨l.val % 128, by omega⟩ : Fin 128)) := by
  have key : ∀ (n : Fin 8) (x : ℕ) (hx : x < 128), n.val = l.val / 128 → x = l.val % 128 →
      q n (ix2 r (⟨x, hx⟩ : Fin 128)) = q (⟨l.val / 128, by omega⟩ : Fin 8) (ix2 r (⟨l.val % 128, by omega⟩ : Fin 128)) := by
    intro n x hx hn he
    exact congrArg₂ (fun n y => q n (ix2 r y)) (Fin.ext hn) (Fin.ext he)
  have hl := l.isLt
  pointwise [channels]
  by_cases h0 : l.val < 128
  · exact (dif_pos h0).trans (key 0 _ _ (by show 0 = _; omega) (by omega))
  refine (dif_neg h0).trans ?_
  by_cases h1 : l.val - 128 < 128
  · exact (dif_pos h1).trans (key 1 _ _ (by show 1 = _; omega) (by omega))
  refine (dif_neg h1).trans ?_
  by_cases h2 : l.val - 128 - 128 < 128
  · exact (dif_pos h2).trans (key 2 _ _ (by show 2 = _; omega) (by omega))
  refine (dif_neg h2).trans ?_
  by_cases h3 : l.val - 128 - 128 - 128 < 128
  · exact (dif_pos h3).trans (key 3 _ _ (by show 3 = _; omega) (by omega))
  refine (dif_neg h3).trans ?_
  by_cases h4 : l.val - 128 - 128 - 128 - 128 < 128
  · exact (dif_pos h4).trans (key 4 _ _ (by show 4 = _; omega) (by omega))
  refine (dif_neg h4).trans ?_
  by_cases h5 : l.val - 128 - 128 - 128 - 128 - 128 < 128
  · exact (dif_pos h5).trans (key 5 _ _ (by show 5 = _; omega) (by omega))
  refine (dif_neg h5).trans ?_
  by_cases h6 : l.val - 128 - 128 - 128 - 128 - 128 - 128 < 128
  · exact (dif_pos h6).trans (key 6 _ _ (by show 6 = _; omega) (by omega))
  refine (dif_neg h6).trans ?_
  exact key 7 _ _ (by show 7 = _; omega) (by omega)

/-- A row's mean as the body computes it, for all rows. -/
def rowMean (A : FVec Ideal S256x1024 .f32) : FVec Ideal S256x1 .f32 :=
  divf (shapeCast S256x1 (multiReduction .add [1] S256 A 0x00000000#32 reduces_S256x1024_S256 (.inl rfl) rfl) shapeCasts_S256_S256x1)
    (broadcast S256x1 (Scalar.ofBits .f32 0x44800000#32))

def rowDist (A : FVec Ideal S256x1024 .f32) : FVec Ideal S256x1024 .f32 :=
  subf A (broadcastTo S256x1024 (rowMean A) broadcasts_S256x1_S256x1024)

/-- The layer norm of a block's rows. -/
def rowNormed (A : FVec Ideal S256x1024 .f32) (g b : FVec Ideal S1x1024 .f32) : FVec Ideal S256x1024 .f32 :=
  addf (mulf (mulf (rowDist A) (broadcastTo S256x1024 (rsqrt (addf (rowMean (mulf (rowDist A) (rowDist A)))
      (broadcast S256x1 (Scalar.ofBits .f32 0x358637BD#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- An array times its logistic. -/
def gated (x : FVec Ideal S256x1024 .f32) : FVec Ideal S256x1024 .f32 :=
  mulf x (divf (broadcast S256x1024 (Scalar.ofBits .f32 0x3F800000#32)) (addf (broadcast S256x1024 (Scalar.ofBits .f32 0x3F800000#32))
    (exp2 (mulf x (broadcast S256x1024 (Named.named κ "minus_log2_e" 0xBFB8AA3B#32))))))

/-- What the body stores, of the convolved channels. -/
def stored (A : FVec Ideal S256x1024 .f32) (g b : FVec Ideal S1x1024 .f32) (w : FVec Ideal S1024x1024 .bf16) (pb : FVec Ideal S1x1024 .f32)
    (gt : FVec Ideal S256x1024 .bf16) : FVec Ideal S256x1024 .bf16 :=
  truncf .bf16 (mulf (addf (matmul dot_S256x1024_S1024x1024_S256x1024_1_0_0_1_n_n none (truncf .bf16 (gated (rowNormed A g b)) bitsLt_bf16_f32)
    (shapeCast S1024x1024 w shapeCasts_S1024x1024_S1024x1024)
    (constant S256x1024 .f32 0x00000000#32)) (broadcastTo S256x1024 (shapeCast S1x1024 pb shapeCasts_S1x1024_S1x1024) broadcasts_S1x1024_S256x1024))
    (gated (extf .f32 gt bitsLt_bf16_f32))) bitsLt_bf16_f32

theorem gated_apply (x : FVec Ideal S256x1024 .f32) (r : Fin 256) (l : Fin 1024) : gated x (ix2 r l) = silu (x (ix2 r l)) := by
  pointwise [gated]
  exact congrArg (x (ix2 r l) * ·) (gate_eq _)

theorem rowMean_apply (A : FVec Ideal S256x1024 .f32) (r : Fin 256) : rowMean A (ix2 r (0 : Fin 1)) = mean fun k => A (ix2 r k) := by
  pointwise [rowMean, mean]

theorem rowDist_apply (A : FVec Ideal S256x1024 .f32) (r : Fin 256) (l : Fin 1024) : rowDist A (ix2 r l) = dist (fun k => A (ix2 r k)) l := by
  have h : rowDist A (ix2 r l) = A (ix2 r l) - rowMean A (ix2 r (0 : Fin 1)) := by pointwise [rowDist]
  rw [h, rowMean_apply]
  rfl

theorem rowNormed_apply (A : FVec Ideal S256x1024 .f32) (g b : FVec Ideal S1x1024 .f32) (r : Fin 256) (l : Fin 1024) :
    rowNormed A g b (ix2 r l) = normed (fun k => A (ix2 r k)) (fun k => g (ix2 (0 : Fin 1) k)) (fun k => b (ix2 (0 : Fin 1) k)) l := by
  have h : rowNormed A g b (ix2 r l) = rowDist A (ix2 r l) * Ideal.rsqrt (rowMean (mulf (rowDist A) (rowDist A)) (ix2 r (0 : Fin 1))
      + Ideal.ofBits .f32 0x358637BD#32) * g (ix2 (0 : Fin 1) l) + b (ix2 (0 : Fin 1) l) := by pointwise [rowNormed]
  have h2 : mean (fun k => mulf (rowDist A) (rowDist A) (ix2 r k)) = Ideal.div (∑ k : Fin 1024, dist (fun k => A (ix2 r k)) k
      * dist (fun k => A (ix2 r k)) k) (Ideal.ofBits .f32 0x44800000#32) :=
    congrArg (Ideal.div · _) (Finset.sum_congr rfl fun k _ => congrArg₂ (· * ·) (rowDist_apply A r k) (rowDist_apply A r k))
  rw [h, rowMean_apply, h2, rowDist_apply]
  rfl

theorem stored_apply (A : FVec Ideal S256x1024 .f32) (g b : FVec Ideal S1x1024 .f32) (w : FVec Ideal S1024x1024 .bf16)
    (pb : FVec Ideal S1x1024 .f32) (gt : FVec Ideal S256x1024 .bf16) (r : Fin 256) (l : Fin 1024) :
    stored A g b w pb gt (ix2 r l) = mixed (fun k => A (ix2 r k)) (fun k => g (ix2 (0 : Fin 1) k)) (fun k => b (ix2 (0 : Fin 1) k))
      (fun k => w (ix2 k l)) (pb (ix2 (0 : Fin 1) l)) (gt (ix2 r l)) := by
  have h : stored A g b w pb gt (ix2 r l) = ((∑ k : Fin 1024, gated (rowNormed A g b) (ix2 r k) * w (ix2 k l)) + pb (ix2 (0 : Fin 1) l))
      * gated (extf .f32 gt bitsLt_bf16_f32) (ix2 r l) := by pointwise [stored]
  rw [h, gated_apply]
  refine congrArg (fun e => (e + _) * _) (Finset.sum_congr rfl fun k _ => ?_)
  rw [gated_apply, rowNormed_apply]

/-- The gated product of two arrays' elements. -/
def glu (a b : EReal) : EReal := a * gate b

theorem word_before : ∀ n : Fin 65, Scalar.cmpi .sge (BitVec.ofNat 32 n.val) 2#32 = if 2 ≤ n.val then 1#1 else 0#1 := by decide +kernel
theorem word_behind : ∀ n : Fin 65, Scalar.andi (Scalar.cmpi .sge (BitVec.ofNat 32 n.val) 1#32) (Scalar.cmpi .slt (BitVec.ofNat 32 n.val) 64#32)
    = if 1 ≤ n.val ∧ n.val < 64 then 1#1 else 0#1 := by decide +kernel

theorem select_if (p : Prop) [Decidable p] (a : EReal) : Scalar.select (if p then 1#1 else 0#1) a 0 = if p then a else 0 := by
  split <;> rfl

/-- The rows before a point's block count from the third point on; the first two blocks start their sequences. -/
theorem rows_before (i : grid0.Coords) (a b : FVec Ideal S16x1024 .bf16) (r : Fin 16) (l : Fin 1024) :
    k0_pay3 (F := Ideal) i a b (ix2 r l) = if 2 ≤ (i 0).val then glu (a (ix2 r l)) (b (ix2 r l)) else 0 := by
  pointwise [k0_pay3]
  rw [word_before (i 0), select_if]
  exact if_congr Iff.rfl (congrArg (a (ix2 r l) * ·) (gate_eq _)) rfl
theorem rows_main (a b : FVec Ideal S256x1024 .bf16) (r : Fin 256) (l : Fin 1024) :
    k0_pay5 (k0_pay4 (F := Ideal) a b) (ix2 r l) = glu (a (ix2 r l)) (b (ix2 r l)) := by
  pointwise [k0_pay5, k0_pay4]
  exact congrArg (a (ix2 r l) * ·) (gate_eq _)
/-- The rows behind a point's block count except at the first point and the last; their blocks end their sequences. -/
theorem rows_behind (i : grid0.Coords) (a b : FVec Ideal S16x1024 .bf16) (r : Fin 16) (l : Fin 1024) :
    k0_pay6 (k0_pay2 (F := Ideal) i) a b (ix2 r l) = if 1 ≤ (i 0).val ∧ (i 0).val < 64 then glu (a (ix2 r l)) (b (ix2 r l)) else 0 := by
  pointwise [k0_pay6, k0_pay2]
  rw [word_behind (i 0), select_if]
  exact if_congr Iff.rfl (congrArg (a (ix2 r l) * ·) (gate_eq _)) rfl

/-- A buffer of 288 rows, stored as 16 rows, 256 rows and 16 rows. -/
abbrev laid (wb : FVec Ideal S16x1024 .f32) (wm : FVec Ideal S256x1024 .f32) (wa : FVec Ideal S16x1024 .f32) :
    List (View.Piece (Elt Ideal) S288x1024 .f32) :=
  [⟨Rect.unit ![272, 0] S16x1024.size inb_S288x1024_S16x1024_272_0, wa⟩, ⟨Rect.unit ![16, 0] S256x1024.size inb_S288x1024_S256x1024_16_0, wm⟩,
    ⟨Rect.unit ![0, 0] S16x1024.size inb_S288x1024_S16x1024_0_0, wb⟩]

theorem laid_cover (wb : FVec Ideal S16x1024 .f32) (wm : FVec Ideal S256x1024 .f32) (wa : FVec Ideal S16x1024 .f32) (r : Fin 288) (l : Fin 1024) :
    ∃ p ∈ laid wb wm wa, ix2 r l ∈ p.1.set := by
  have hr := r.isLt
  by_cases h : r.val < 16
  · refine ⟨_, List.mem_cons_of_mem _ (List.mem_cons_of_mem _ List.mem_cons_self), ?_⟩
    rw [Rect.mem_set_unit]
    intro a
    match a with
    | ⟨0, _⟩ => show 0 ≤ r.val ∧ r.val < 0 + 16; omega
    | ⟨1, _⟩ => show 0 ≤ l.val ∧ l.val < 0 + 1024; omega
  by_cases h' : r.val < 272
  · refine ⟨_, List.mem_cons_of_mem _ List.mem_cons_self, ?_⟩
    rw [Rect.mem_set_unit]
    intro a
    match a with
    | ⟨0, _⟩ => show 16 ≤ r.val ∧ r.val < 16 + 256; omega
    | ⟨1, _⟩ => show 0 ≤ l.val ∧ l.val < 0 + 1024; omega
  · refine ⟨_, List.mem_cons_self, ?_⟩
    rw [Rect.mem_set_unit]
    intro a
    match a with
    | ⟨0, _⟩ => show 272 ≤ r.val ∧ r.val < 272 + 16; omega
    | ⟨1, _⟩ => show 0 ≤ l.val ∧ l.val < 0 + 1024; omega

/-- The buffer at an index. -/
theorem laid_read (v : View sig .tc .vmem S288x1024 .f32) (wb : FVec Ideal S16x1024 .f32) (wm : FVec Ideal S256x1024 .f32)
    (wa : FVec Ideal S16x1024 .f32) (G : ℕ → Fin 1024 → EReal) (hb : ∀ r l, wb (ix2 r l) = G r.val l)
    (hm : ∀ r l, wm (ix2 r l) = G (16 + r.val) l) (ha : ∀ r l, wa (ix2 r l) = G (272 + r.val) l) (r : Fin 288) (l : Fin 1024) :
    v.read (Elt Ideal) (v.writes (Elt Ideal) v.junk (laid wb wm wa)) (ix2 r l) = G r.val l := by
  refine View.read_writes_apply_of_pieces v _ (fun y : S288x1024.Idx => G (y 0).val (y 1)) _ ?_ (ix2 r l) (laid_cover wb wm wa r l)
  have hx : ∀ x : S16x1024.Idx, ∃ (r : Fin 16) (l : Fin 1024), x = ix2 r l := fun x => ⟨x 0, x 1, funext fun a => by fin_cases a <;> rfl⟩
  have hx' : ∀ x : S256x1024.Idx, ∃ (r : Fin 256) (l : Fin 1024), x = ix2 r l := fun x => ⟨x 0, x 1, funext fun a => by fin_cases a <;> rfl⟩
  intro p hp x
  rcases List.mem_cons.mp hp with rfl | hp
  · obtain ⟨r, l, rfl⟩ := hx x
    exact (ha r l).trans (congrArg₂ G (by show _ = 272 + 1 * r.val; omega) (Fin.ext (by show l.val = 0 + 1 * l.val; omega)))
  rcases List.mem_cons.mp hp with rfl | hp
  · obtain ⟨r, l, rfl⟩ := hx' x
    exact (hm r l).trans (congrArg₂ G (by show _ = 16 + 1 * r.val; omega) (Fin.ext (by show l.val = 0 + 1 * l.val; omega)))
  · obtain rfl := List.mem_singleton.mp hp
    obtain ⟨r, l, rfl⟩ := hx x
    exact (hb r l).trans (congrArg₂ G (by show _ = 0 + 1 * r.val; omega) (Fin.ext (by show l.val = 0 + 1 * l.val; omega)))

end Cert.ConvIdeal.Conv

end
-- ==== Proof.Conv.lean ====
/- The convolution: each point writes its block of rows of the Conformer convolution; the reference's composed term is the same function
   of the arguments. -/
module

public import proofs.«01_k».proof.Defs
public import proofs.«01_k».proof.Proof.ConvTail
public import proofs.«01_k».proof.Proof.Gen.ConvIdeal.Value
public import Idealize.ShloMosaic.Lib.Routing.OpsSet
public import Idealize.ShloMosaic.Lib.Pipeline.Value
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem
open Idealize.ShloMosaic.Pipeline (Dat)

namespace Cert.ConvIdeal.Conv

open Cert.ConvIdeal Cert.ConvIdeal.Gen

theorem weight_inb (q : Fin 8) (k : Fin 31) : ∀ a, ![k.val, 128 * q.val] a + S1x128.size a ≤ S32x1024.size a := fun a =>
  match a with
  | ⟨0, _⟩ => (by omega : k.val + 1 ≤ 32)
  | ⟨1, _⟩ => (by omega : 128 * q.val + 128 ≤ 1024)
theorem bias_inb (q : Fin 8) : ∀ a, ![0, 128 * q.val] a + S1x128.size a ≤ S1x1024.size a := fun a =>
  match a with
  | ⟨0, _⟩ => (by omega : 0 + 1 ≤ 1)
  | ⟨1, _⟩ => (by omega : 128 * q.val + 128 ≤ 1024)
theorem rows_inb (q : Fin 8) (p : Fin 4) : ∀ a, ![8 * p.val, 128 * q.val] a + S264x128.size a ≤ S288x1024.size a := fun a =>
  match a with
  | ⟨0, _⟩ => (by omega : 8 * p.val + 264 ≤ 288)
  | ⟨1, _⟩ => (by omega : 128 * q.val + 128 ≤ 1024)

/-- The body's convolution of a block of 128 channels: the taps' weights, the rows and the bias as it loads them. -/
abbrev loaded (v8 : View sig .tc .vmem S32x1024 .f32) (X8 : v8.ty.Contents (Elt Ideal)) (v9 : View sig .tc .vmem S1x1024 .f32)
    (X9 : v9.ty.Contents (Elt Ideal)) (v15 : View sig .tc .vmem S288x1024 .f32) (L : List (View.Piece (Elt Ideal) S288x1024 .f32)) (q : Fin 8) :
    FVec Ideal S256x128 .f32 :=
  Taps.laneBlock (fun k => View.readAt (Elt Ideal) v8 (Rect.unit (s := S32x1024) ![k.val, 128 * q.val] S1x128.size (weight_inb q k)).toLoadRect X8)
    (fun p => v15.readCov L (Rect.unit (s := S288x1024) ![8 * p.val, 128 * q.val] S264x128.size (rows_inb q p)).toLoadRect)
    (View.readAt (Elt Ideal) v9 (Rect.unit (s := S1x1024) ![0, 128 * q.val] S1x128.size (bias_inb q)).toLoadRect X9)

/-- The body stores one piece, its whole block. -/
theorem opened (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S32x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S288x1024 .f32) (harg15 : arg15.IsWhole)
    (x0 : Vec Ideal S256x1024 .bf16) (x1 : Vec Ideal S256x1024 .bf16) (x2 : Vec Ideal S256x1024 .bf16) (x3 : Vec Ideal S16x1024 .bf16) (x4 : Vec Ideal S16x1024 .bf16) (x5 : Vec Ideal S16x1024 .bf16) (x6 : Vec Ideal S16x1024 .bf16) (x7 : Vec Ideal S32x1024 .f32) (x8 : Vec Ideal S1x1024 .f32) (x9 : Vec Ideal S1x1024 .f32) (x10 : Vec Ideal S1x1024 .f32) (x11 : Vec Ideal S1024x1024 .bf16) (x12 : Vec Ideal S1x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12).1
      = [⟨Rect.unit (s := S256x1024) ![0, 0] S256x1024.size inb_S256x1024_S256x1024_0_0, stored
          (channels (loaded arg8.view (harg8.unread x7) arg9.view (harg9.unread x8) arg15.view (laid
            (k0_pay3 i (View.readAt (Elt Ideal) arg4.view (Rect.unit (s := S16x1024) ![0, 0] S16x1024.size inb_S16x1024_S16x1024_0_0).toLoadRect (harg4.unread x3))
              (View.readAt (Elt Ideal) arg5.view (Rect.unit (s := S16x1024) ![0, 0] S16x1024.size inb_S16x1024_S16x1024_0_0).toLoadRect (harg5.unread x4)))
            (k0_pay5 (k0_pay4 (View.readAt (Elt Ideal) arg1.view (Rect.unit (s := S256x1024) ![0, 0] S256x1024.size inb_S256x1024_S256x1024_0_0).toLoadRect (harg1.unread x0))
              (View.readAt (Elt Ideal) arg2.view (Rect.unit (s := S256x1024) ![0, 0] S256x1024.size inb_S256x1024_S256x1024_0_0).toLoadRect (harg2.unread x1))))
            (k0_pay6 (k0_pay2 i) (View.readAt (Elt Ideal) arg6.view (Rect.unit (s := S16x1024) ![0, 0] S16x1024.size inb_S16x1024_S16x1024_0_0).toLoadRect (harg6.unread x5))
              (View.readAt (Elt Ideal) arg7.view (Rect.unit (s := S16x1024) ![0, 0] S16x1024.size inb_S16x1024_S16x1024_0_0).toLoadRect (harg7.unread x6))))))
          (View.readAt (Elt Ideal) arg10.view (Rect.unit (s := S1x1024) ![0, 0] S1x1024.size inb_S1x1024_S1x1024_0_0).toLoadRect (harg10.unread x9))
          (View.readAt (Elt Ideal) arg11.view (Rect.unit (s := S1x1024) ![0, 0] S1x1024.size inb_S1x1024_S1x1024_0_0).toLoadRect (harg11.unread x10))
          (View.readAt (Elt Ideal) arg12.view (Rect.unit (s := S1024x1024) ![0, 0] S1024x1024.size inb_S1024x1024_S1024x1024_0_0).toLoadRect (harg12.unread x11))
          (View.readAt (Elt Ideal) arg13.view (Rect.unit (s := S1x1024) ![0, 0] S1x1024.size inb_S1x1024_S1x1024_0_0).toLoadRect (harg13.unread x12))
          (View.readAt (Elt Ideal) arg3.view (Rect.unit (s := S256x1024) ![0, 0] S256x1024.size inb_S256x1024_S256x1024_0_0).toLoadRect (harg3.unread x2))⟩] := by
  unfold kernelRun0_A
  dsimp only
  sl_unfold_words
  rfl

/-- Row `n` of the buffer the body lays out: the gated product of two arrays' rows, 16 rows before the point's block, the block, and 16
    rows behind it; zero where those rows are of no sequence or of another. -/
def rowAt (i : grid0.Coords) (x0 x1 : FVec Ideal S256x1024 .bf16) (x3 x4 x5 x6 : FVec Ideal S16x1024 .bf16) (n : ℕ) (l : Fin 1024) : EReal :=
  if h : n < 16 then if 2 ≤ (i 0).val then glu (x3 (ix2 (⟨n, h⟩ : Fin 16) l)) (x4 (ix2 (⟨n, h⟩ : Fin 16) l)) else 0
  else if h : n - 16 < 256 then glu (x0 (ix2 (⟨n - 16, h⟩ : Fin 256) l)) (x1 (ix2 (⟨n - 16, h⟩ : Fin 256) l))
  else if h : n - 272 < 16 then
    if 1 ≤ (i 0).val ∧ (i 0).val < 64 then glu (x5 (ix2 (⟨n - 272, h⟩ : Fin 16) l)) (x6 (ix2 (⟨n - 272, h⟩ : Fin 16) l)) else 0
  else 0

/-- What a point leaves in its block, of the blocks it reads. -/
def block (i : grid0.Coords) (x0 x1 x2 : FVec Ideal S256x1024 .bf16) (x3 x4 x5 x6 : FVec Ideal S16x1024 .bf16) (x7 : FVec Ideal S32x1024 .f32)
    (x8 x9 x10 : FVec Ideal S1x1024 .f32) (x11 : FVec Ideal S1024x1024 .bf16) (x12 : FVec Ideal S1x1024 .f32) : FVec Ideal S256x1024 .bf16 :=
  fun y => mixed (fun l => (∑ k : Fin 31, x7 (ix2 (⟨k.val, by omega⟩ : Fin 32) l) * rowAt i x0 x1 x3 x4 x5 x6 ((y 0).val + k.val + 1) l)
      + x8 (ix2 (0 : Fin 1) l))
    (fun k => x9 (ix2 (0 : Fin 1) k)) (fun k => x10 (ix2 (0 : Fin 1) k)) (fun k => x11 (ix2 k (y 1))) (x12 (ix2 (0 : Fin 1) (y 1)))
    (x2 (ix2 (y 0) (y 1)))

theorem zeros2 : (![0, 0] : Fin 2 → Nat) = fun _ => 0 := funext fun a => by fin_cases a <;> rfl

/-- A load of a whole buffer. -/
theorem whole_load {s : Shape} {e : EltTy} {arg : Memref sig .tc .vmem s e} (harg : arg.IsWhole) (x : Vec Ideal s e) {off : Fin s.rank → ℕ}
    (h0 : off = fun _ => 0) (hb : ∀ a, off a + s.size a ≤ s.size a) :
    View.readAt (Elt Ideal) arg.view (Rect.unit (s := s) off s.size hb).toLoadRect (harg.unread x) = x := by
  subst h0
  funext y
  refine (congrFun (harg.read_unread x) _).trans (congrArg x (funext fun a => Fin.ext ?_))
  show 0 + 1 * (y a).val = (y a).val
  omega

/-- The convolved channels as the body computes them, at an index: the weights' and the bias's columns, and the laid-out rows'. -/
theorem channels_loaded (v8 : View sig .tc .vmem S32x1024 .f32) (X8 : v8.ty.Contents (Elt Ideal)) (v9 : View sig .tc .vmem S1x1024 .f32)
    (X9 : v9.ty.Contents (Elt Ideal)) (v15 : View sig .tc .vmem S288x1024 .f32) (wb : FVec Ideal S16x1024 .f32) (wm : FVec Ideal S256x1024 .f32)
    (wa : FVec Ideal S16x1024 .f32) (G : ℕ → Fin 1024 → EReal) (hb : ∀ r l, wb (ix2 r l) = G r.val l)
    (hm : ∀ r l, wm (ix2 r l) = G (16 + r.val) l) (ha : ∀ r l, wa (ix2 r l) = G (272 + r.val) l) (x7 : FVec Ideal S32x1024 .f32)
    (h8 : v8.read (Elt Ideal) X8 = x7) (x8 : FVec Ideal S1x1024 .f32) (h9 : v9.read (Elt Ideal) X9 = x8) (r : Fin 256) (l : Fin 1024) :
    channels (loaded v8 X8 v9 X9 v15 (laid wb wm wa)) (ix2 r l)
      = (∑ k : Fin 31, x7 (ix2 (⟨k.val, by omega⟩ : Fin 32) l) * G (r.val + k.val + 1) l) + x8 (ix2 (0 : Fin 1) l) := by
  have hl := l.isLt
  generalize hq : (⟨l.val / 128, by omega⟩ : Fin 8) = q
  have hqv : q.val = l.val / 128 := congrArg Fin.val hq.symm
  generalize hj : (⟨l.val % 128, by omega⟩ : Fin 128) = j
  have hjv : j.val = l.val % 128 := congrArg Fin.val hj.symm
  have hcol : (⟨128 * q.val + j.val, by omega⟩ : Fin 1024) = l := Fin.ext (by show 128 * q.val + j.val = l.val; omega)
  refine (channels_apply _ r l).trans ?_
  rw [hq, hj]
  refine (Taps.laneBlock_apply _ _ _ (fun n j => G n ⟨128 * q.val + j.val, by omega⟩) (fun p s j => ?_) r j).trans ?_
  · refine Eq.trans (congrArg (v15.read (Elt Ideal) (v15.writes (Elt Ideal) v15.junk (laid wb wm wa))) (funext fun a => Fin.ext ?_))
      (laid_read v15 wb wm wa G hb hm ha (⟨8 * p.val + s.val, by omega⟩ : Fin 288) (⟨128 * q.val + j.val, by omega⟩ : Fin 1024))
    match a with
    | ⟨0, _⟩ => show 8 * p.val + 1 * s.val = 8 * p.val + s.val; omega
    | ⟨1, _⟩ => show 128 * q.val + 1 * j.val = 128 * q.val + j.val; omega
  · refine congrArg₂ (· + ·) (Finset.sum_congr rfl fun k _ => congrArg₂ (· * ·) ?_ (congrArg (G _) hcol)) ?_
    · refine (congrFun h8 _).trans (congrArg x7 (funext fun a => Fin.ext ?_))
      match a with
      | ⟨0, _⟩ => show k.val + 1 * 0 = k.val; omega
      | ⟨1, _⟩ => show 128 * q.val + 1 * j.val = l.val; omega
    · refine (congrFun h9 _).trans (congrArg x8 (funext fun a => Fin.ext ?_))
      match a with
      | ⟨0, _⟩ => rfl
      | ⟨1, _⟩ => show 128 * q.val + 1 * j.val = l.val; omega

/-- What the body leaves in the point's block. -/
theorem out_eq (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S32x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S288x1024 .f32) (harg15 : arg15.IsWhole)
    (x0 : Vec Ideal S256x1024 .bf16) (x1 : Vec Ideal S256x1024 .bf16) (x2 : Vec Ideal S256x1024 .bf16) (x3 : Vec Ideal S16x1024 .bf16) (x4 : Vec Ideal S16x1024 .bf16) (x5 : Vec Ideal S16x1024 .bf16) (x6 : Vec Ideal S16x1024 .bf16) (x7 : Vec Ideal S32x1024 .f32) (x8 : Vec Ideal S1x1024 .f32) (x9 : Vec Ideal S1x1024 .f32) (x10 : Vec Ideal S1x1024 .f32) (x11 : Vec Ideal S1024x1024 .bf16) (x12 : Vec Ideal S1x1024 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 = block i x0 x1 x2 x3 x4 x5 x6 x7 x8 x9 x10 x11 x12 := by
  funext y
  unfold out0_A_13
  refine View.read_writes_apply_of_pieces _ _ (block i x0 x1 x2 x3 x4 x5 x6 x7 x8 x9 x10 x11 x12) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 y)
  rw [opened]
  intro p hp y
  obtain rfl := List.mem_singleton.mp hp
  obtain ⟨r, l, rfl⟩ : ∃ (r : Fin 256) (l : Fin 1024), y = (ix2 r l : S256x1024.Idx) := ⟨y 0, y 1, funext fun a => by fin_cases a <;> rfl⟩
  have e : (Rect.unit (s := S256x1024) ![0, 0] S256x1024.size inb_S256x1024_S256x1024_0_0).emb (ix2 r l) = (ix2 r l : S256x1024.Idx) := by
    funext a
    apply Fin.ext
    match a with
    | ⟨0, _⟩ => show 0 + 1 * r.val = r.val; omega
    | ⟨1, _⟩ => show 0 + 1 * l.val = l.val; omega
  refine Eq.trans ?_ (congrArg (block i x0 x1 x2 x3 x4 x5 x6 x7 x8 x9 x10 x11 x12) e).symm
  dsimp only
  rw [whole_load harg1 x0 zeros2, whole_load harg2 x1 zeros2, whole_load harg3 x2 zeros2, whole_load harg4 x3 zeros2, whole_load harg5 x4 zeros2,
    whole_load harg6 x5 zeros2, whole_load harg7 x6 zeros2, whole_load harg10 x9 zeros2, whole_load harg11 x10 zeros2, whole_load harg12 x11 zeros2,
    whole_load harg13 x12 zeros2, stored_apply]
  refine congrArg (fun A => mixed A _ _ _ _ _) (funext fun l' => ?_)
  refine channels_loaded arg8.view _ arg9.view _ arg15.view _ _ _ (rowAt i x0 x1 x3 x4 x5 x6) (fun r l => ?_) (fun r l => ?_) (fun r l => ?_)
    x7 (harg8.read_unread x7) x8 (harg9.read_unread x8) r l'
  · refine (rows_before i x3 x4 r l).trans ?_
    unfold rowAt
    rw [dif_pos r.isLt]
  · refine (rows_main x0 x1 r l).trans ?_
    have hr : (⟨16 + r.val - 16, by omega⟩ : Fin 256) = r := Fin.ext (by show 16 + r.val - 16 = r.val; omega)
    refine Eq.symm ((dif_neg (by omega : ¬ 16 + r.val < 16)).trans ((dif_pos (by omega : 16 + r.val - 16 < 256)).trans ?_))
    rw [hr]
  · refine (rows_behind i x5 x6 r l).trans ?_
    have hr : (⟨272 + r.val - 272, by omega⟩ : Fin 16) = r := Fin.ext (by show 272 + r.val - 272 = r.val; omega)
    refine Eq.symm ((dif_neg (by omega : ¬ 272 + r.val < 16)).trans ((dif_neg (by omega : ¬ 272 + r.val - 16 < 256)).trans
      ((dif_pos (by omega : 272 + r.val - 272 < 16)).trans ?_)))
    rw [hr]

variable (m : (ℓ : Loc nD τ sig) → Buf (Elt Ideal) ℓ) (ρ : Dev nD → PrngReg)

/-- The columns of the projection with a channel's value, its gate, and the gate of the convolution's result. -/
abbrev valueCol (l : Fin 1024) : Fin 13312 := ⟨8192 + l.val, by omega⟩
abbrev gateCol (l : Fin 1024) : Fin 13312 := ⟨9216 + l.val, by omega⟩
abbrev mixCol (l : Fin 1024) : Fin 13312 := ⟨10240 + l.val, by omega⟩

/-- The gated product at a row, zero behind the last one. -/
def gatedRow (z : FVec Ideal S16640x13312 .bf16) (n : ℕ) (l : Fin 1024) : EReal :=
  if h : n < 16640 then glu (z (ix2 (⟨n, h⟩ : Fin 16640) (valueCol l))) (z (ix2 (⟨n, h⟩ : Fin 16640) (gateCol l))) else 0

/-- What row `r` takes from row `n - 15`: zero unless both are of the context's 256 rows or both of the others. -/
def sample (z : FVec Ideal S16640x13312 .bf16) (r n : ℕ) (l : Fin 1024) : EReal :=
  if 15 ≤ n ∧ (r < 256 ↔ n - 15 < 256) then gatedRow z (n - 15) l else 0

/-- The convolution with its bias, at a row. -/
def depthwise (z : FVec Ideal S16640x13312 .bf16) (cw : FVec Ideal S31x1024 .f32) (cb : FVec Ideal S1024 .f32) (r : ℕ) (l : Fin 1024) : EReal :=
  (∑ k : Fin 31, cw (ix2 k l) * sample z r (r + k.val) l) + cb (ix1 l)

/-- The Conformer convolution at one element. -/
def conv (z : FVec Ideal S16640x13312 .bf16) (cw : FVec Ideal S31x1024 .f32) (cb g b : FVec Ideal S1024 .f32)
    (w : FVec Ideal S1024x1024 .f32) (pb : FVec Ideal S1024 .f32) : FVec Ideal S16640x1024 .bf16 :=
  fun i => mixed (depthwise z cw cb (i 0).val) (fun k => g (ix1 k)) (fun k => b (ix1 k)) (fun k => w (ix2 k (i 1))) (pb (ix1 (i 1)))
    (z (ix2 (i 0) (mixCol (i 1))))

theorem index0 : ∀ t : Fin grid0.N, win0_0.index t 0 = t.val ∧ win0_0.index t 1 = 8 := by decide +kernel
theorem index1 : ∀ t : Fin grid0.N, win0_1.index t 0 = t.val ∧ win0_1.index t 1 = 9 := by decide +kernel
theorem index2 : ∀ t : Fin grid0.N, win0_2.index t 0 = t.val ∧ win0_2.index t 1 = 10 := by decide +kernel
theorem index3 : ∀ t : Fin grid0.N, win0_3.index t 0 = 16 * t.val - 1 ∧ win0_3.index t 1 = 8 := by decide +kernel
theorem index4 : ∀ t : Fin grid0.N, win0_4.index t 0 = 16 * t.val - 1 ∧ win0_4.index t 1 = 9 := by decide +kernel
theorem index5 : ∀ t : Fin grid0.N, win0_5.index t 0 = min (16 * t.val + 16) 1039 ∧ win0_5.index t 1 = 8 := by decide +kernel
theorem index6 : ∀ t : Fin grid0.N, win0_6.index t 0 = min (16 * t.val + 16) 1039 ∧ win0_6.index t 1 = 9 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = 0 ∧ win0_12.index t 1 = 0 := by decide +kernel
theorem index13 : ∀ t : Fin grid0.N, win0_13.index t 0 = t.val ∧ win0_13.index t 1 = 0 := by decide +kernel
theorem coord : ∀ t : Fin grid0.N, (grid0.coords t 0).val = t.val := by decide +kernel

theorem point_lt (t : Fin cfg0.N) : t.val < 65 := by have := t.isLt; have hN : cfg0.N = 65 := N_0; omega

/-- Row `r` of the point's block, in the whole array; and the rows before and behind it as the point reads them. -/
abbrev row (t : Fin cfg0.N) (r : Fin 256) : Fin 16640 := ⟨t.val * 256 + r.val, by have := point_lt t; omega⟩
abbrev rowBefore (t : Fin cfg0.N) (r : Fin 16) : Fin 16640 := ⟨(16 * t.val - 1) * 16 + r.val, by have := point_lt t; omega⟩
abbrev rowBehind (t : Fin cfg0.N) (r : Fin 16) : Fin 16640 := ⟨min (16 * t.val + 16) 1039 * 16 + r.val, by have := point_lt t; omega⟩

/-- An array at an index, by its two coordinates. -/
theorem at_ix {a b : ℕ} {α : Type} (f : (⟨2, ![a, b]⟩ : Shape).Idx → α) (j : (⟨2, ![a, b]⟩ : Shape).Idx) (r : Fin a) (l : Fin b)
    (h0 : (j 0).val = r.val) (h1 : (j 1).val = l.val) : f j = f (ix2 r l) :=
  congrArg f (funext fun x => Fin.ext (match x with | ⟨0, _⟩ => h0 | ⟨1, _⟩ => h1))

theorem value_apply (c : Dev nD) (t : Fin cfg0.N) (r : Fin 256) (l : Fin 1024) :
    (iblk m c 0 t : FVec Ideal S256x1024 .bf16) (ix2 r l) = m ((c : Thread nD τ).loc main_arg0) (ix2 (row t r) (valueCol l)) := by
  unfold iblk
  rw [View.read_apply]
  refine (congrFun (V_main_arg0 m c) _).trans (at_ix (m (c.tc.loc main_arg0)) _ (row t r) (valueCol l) ?_ ?_)
  · show win0_0.index t 0 * 256 + 1 * r.val = t.val * 256 + r.val; rw [(index0 t).1]; omega
  · show win0_0.index t 1 * 1024 + 1 * l.val = 8192 + l.val; rw [(index0 t).2]; omega
theorem gate_apply (c : Dev nD) (t : Fin cfg0.N) (r : Fin 256) (l : Fin 1024) :
    (iblk m c 1 t : FVec Ideal S256x1024 .bf16) (ix2 r l) = m ((c : Thread nD τ).loc main_arg0) (ix2 (row t r) (gateCol l)) := by
  unfold iblk
  rw [View.read_apply]
  refine (congrFun (V_main_arg0 m c) _).trans (at_ix (m (c.tc.loc main_arg0)) _ (row t r) (gateCol l) ?_ ?_)
  · show win0_1.index t 0 * 256 + 1 * r.val = t.val * 256 + r.val; rw [(index1 t).1]; omega
  · show win0_1.index t 1 * 1024 + 1 * l.val = 9216 + l.val; rw [(index1 t).2]; omega
theorem mix_apply (c : Dev nD) (t : Fin cfg0.N) (r : Fin 256) (l : Fin 1024) :
    (iblk m c 2 t : FVec Ideal S256x1024 .bf16) (ix2 r l) = m ((c : Thread nD τ).loc main_arg0) (ix2 (row t r) (mixCol l)) := by
  unfold iblk
  rw [View.read_apply]
  refine (congrFun (V_main_arg0 m c) _).trans (at_ix (m (c.tc.loc main_arg0)) _ (row t r) (mixCol l) ?_ ?_)
  · show win0_2.index t 0 * 256 + 1 * r.val = t.val * 256 + r.val; rw [(index2 t).1]; omega
  · show win0_2.index t 1 * 1024 + 1 * l.val = 10240 + l.val; rw [(index2 t).2]; omega
theorem valueBefore_apply (c : Dev nD) (t : Fin cfg0.N) (r : Fin 16) (l : Fin 1024) :
    (iblk m c 3 t : FVec Ideal S16x1024 .bf16) (ix2 r l) = m ((c : Thread nD τ).loc main_arg0) (ix2 (rowBefore t r) (valueCol l)) := by
  unfold iblk
  rw [View.read_apply]
  refine (congrFun (V_main_arg0 m c) _).trans (at_ix (m (c.tc.loc main_arg0)) _ (rowBefore t r) (valueCol l) ?_ ?_)
  · show win0_3.index t 0 * 16 + 1 * r.val = (16 * t.val - 1) * 16 + r.val; rw [(index3 t).1]; omega
  · show win0_3.index t 1 * 1024 + 1 * l.val = 8192 + l.val; rw [(index3 t).2]; omega
theorem gateBefore_apply (c : Dev nD) (t : Fin cfg0.N) (r : Fin 16) (l : Fin 1024) :
    (iblk m c 4 t : FVec Ideal S16x1024 .bf16) (ix2 r l) = m ((c : Thread nD τ).loc main_arg0) (ix2 (rowBefore t r) (gateCol l)) := by
  unfold iblk
  rw [View.read_apply]
  refine (congrFun (V_main_arg0 m c) _).trans (at_ix (m (c.tc.loc main_arg0)) _ (rowBefore t r) (gateCol l) ?_ ?_)
  · show win0_4.index t 0 * 16 + 1 * r.val = (16 * t.val - 1) * 16 + r.val; rw [(index4 t).1]; omega
  · show win0_4.index t 1 * 1024 + 1 * l.val = 9216 + l.val; rw [(index4 t).2]; omega
theorem valueBehind_apply (c : Dev nD) (t : Fin cfg0.N) (r : Fin 16) (l : Fin 1024) :
    (iblk m c 5 t : FVec Ideal S16x1024 .bf16) (ix2 r l) = m ((c : Thread nD τ).loc main_arg0) (ix2 (rowBehind t r) (valueCol l)) := by
  unfold iblk
  rw [View.read_apply]
  refine (congrFun (V_main_arg0 m c) _).trans (at_ix (m (c.tc.loc main_arg0)) _ (rowBehind t r) (valueCol l) ?_ ?_)
  · show win0_5.index t 0 * 16 + 1 * r.val = min (16 * t.val + 16) 1039 * 16 + r.val; rw [(index5 t).1]; omega
  · show win0_5.index t 1 * 1024 + 1 * l.val = 8192 + l.val; rw [(index5 t).2]; omega
theorem gateBehind_apply (c : Dev nD) (t : Fin cfg0.N) (r : Fin 16) (l : Fin 1024) :
    (iblk m c 6 t : FVec Ideal S16x1024 .bf16) (ix2 r l) = m ((c : Thread nD τ).loc main_arg0) (ix2 (rowBehind t r) (gateCol l)) := by
  unfold iblk
  rw [View.read_apply]
  refine (congrFun (V_main_arg0 m c) _).trans (at_ix (m (c.tc.loc main_arg0)) _ (rowBehind t r) (gateCol l) ?_ ?_)
  · show win0_6.index t 0 * 16 + 1 * r.val = min (16 * t.val + 16) 1039 * 16 + r.val; rw [(index6 t).1]; omega
  · show win0_6.index t 1 * 1024 + 1 * l.val = 9216 + l.val; rw [(index6 t).2]; omega
theorem mixing_entry (c : Dev nD) :
    V m c main_v0 = truncf (F := Ideal) (s := S1024x1024) (φ := .f32) .bf16 (m ((c : Thread nD τ).loc main_arg5)) bitsLt_bf16_f32 := by
  unfold V
  after_results <;> rfl
theorem mixing_apply (c : Dev nD) (t : Fin cfg0.N) (k l : Fin 1024) :
    (iblk m c 11 t : FVec Ideal S1024x1024 .bf16) (ix2 k l) = m ((c : Thread nD τ).loc main_arg5) (ix2 k l) := by
  unfold iblk
  rw [View.read_apply]
  refine (congrFun (mixing_entry m c) _).trans (at_ix (m (c.tc.loc main_arg5)) _ k l ?_ ?_)
  · show win0_11.index t 0 * 1024 + 1 * k.val = k.val; rw [(index11 t).1]; omega
  · show win0_11.index t 1 * 1024 + 1 * l.val = l.val; rw [(index11 t).2]; omega

/-- The host sets the weights into 32 rows of zeros, and lays each of the four vectors out as one row. -/
theorem weight_entry (c : Dev nD) :
    V m c main_v3 = Host.scatter scatter_S32x1024_S1_S31x1024_01_n_0_0 (fun _ b => b)
      (broadcastInDim S32x1024 ![] bcast_S_S32x1024 (constant (F := Ideal) S_ .f32 0x00000000#32)) (broadcastInDim S1 ![] bcast_S_S1 (constantI S_ 32 0#32))
      (m ((c : Thread nD τ).loc main_arg1)) := by
  unfold V
  after_results <;> rfl
theorem bias_entry (c : Dev nD) : V m c main_v4 = shapeCast S1x1024 (m ((c : Thread nD τ).loc main_arg2)) shapeCasts_S1024_S1x1024 := by
  unfold V
  after_results <;> rfl
theorem gain_entry (c : Dev nD) : V m c main_v5 = shapeCast S1x1024 (m ((c : Thread nD τ).loc main_arg3)) shapeCasts_S1024_S1x1024 := by
  unfold V
  after_results <;> rfl
theorem offset_entry (c : Dev nD) : V m c main_v6 = shapeCast S1x1024 (m ((c : Thread nD τ).loc main_arg4)) shapeCasts_S1024_S1x1024 := by
  unfold V
  after_results <;> rfl
theorem mixBias_entry (c : Dev nD) : V m c main_v7 = shapeCast S1x1024 (m ((c : Thread nD τ).loc main_arg6)) shapeCasts_S1024_S1x1024 := by
  unfold V
  after_results <;> rfl

theorem one_row (x : FVec Ideal S1024 .f32) (l : Fin 1024) : shapeCast S1x1024 x shapeCasts_S1024_S1x1024 (ix2 (0 : Fin 1) l) = x (ix1 l) := by
  pointwise

/-- Where an element of the weights lands among the 32 rows. -/
theorem lands (k : Fin 31) (l : Fin 1024) (k' : Fin 32) (l' : Fin 1024) :
    scatter_S32x1024_S1_S31x1024_01_n_0_0.resultIdx? (ix2 k l) (broadcastInDim S1 ![] bcast_S_S1 (constantI S_ 32 0#32)) = some (ix2 k' l')
      ↔ k.val = k'.val ∧ l.val = l'.val := by
  have s0 : scatter_S32x1024_S1_S31x1024_01_n_0_0.start (ix2 k l) (broadcastInDim S1 ![] bcast_S_S1 (constantI S_ 32 0#32)) 0 = 0 := rfl
  have s1 : scatter_S32x1024_S1_S31x1024_01_n_0_0.start (ix2 k l) (broadcastInDim S1 ![] bcast_S_S1 (constantI S_ 32 0#32)) 1 = 0 := rfl
  have w0 : scatter_S32x1024_S1_S31x1024_01_n_0_0.window (ix2 k l) 0 = k.val := rfl
  have w1 : scatter_S32x1024_S1_S31x1024_01_n_0_0.window (ix2 k l) 1 = l.val := rfl
  refine (Routing.resultIdx?_ix2 _ _ _ _ _).trans ?_
  rw [s0, s1, w0, w1]
  omega

theorem set_rows (x : FVec Ideal S32x1024 .f32) (w : FVec Ideal S31x1024 .f32) (k : Fin 31) (l : Fin 1024) :
    Host.scatter scatter_S32x1024_S1_S31x1024_01_n_0_0 (fun _ b => b) x (broadcastInDim S1 ![] bcast_S_S1 (constantI S_ 32 0#32)) w
      (ix2 (⟨k.val, by omega⟩ : Fin 32) l) = w (ix2 k l) := by
  refine Routing.scatter_set_hit _ x _ w _ _ (fun j hj => ?_) (ix2 k l) ((lands k l _ _).2 ⟨rfl, rfl⟩)
  obtain ⟨k', l', rfl⟩ : ∃ (k' : Fin 31) (l' : Fin 1024), j = (ix2 k' l' : S31x1024.Idx) := ⟨j 0, j 1, funext fun a => by fin_cases a <;> rfl⟩
  have h := (lands k' l' _ _).1 hj
  exact congrArg₂ (fun k l => w (ix2 k l)) (Fin.ext h.1) (Fin.ext h.2)

theorem weight_apply (c : Dev nD) (t : Fin cfg0.N) (k : Fin 31) (l : Fin 1024) :
    (iblk m c 7 t : FVec Ideal S32x1024 .f32) (ix2 (⟨k.val, by omega⟩ : Fin 32) l) = m ((c : Thread nD τ).loc main_arg1) (ix2 k l) := by
  unfold iblk
  rw [View.read_apply]
  refine (congrFun (weight_entry m c) _).trans (Eq.trans (at_ix (Host.scatter scatter_S32x1024_S1_S31x1024_01_n_0_0 (fun _ b => b) _ _ _) _
    (⟨k.val, by omega⟩ : Fin 32) l ?_ ?_) (set_rows _ _ k l))
  · show win0_7.index t 0 * 32 + 1 * k.val = k.val; rw [(index7 t).1]; omega
  · show win0_7.index t 1 * 1024 + 1 * l.val = l.val; rw [(index7 t).2]; omega

theorem bias_apply (c : Dev nD) (t : Fin cfg0.N) (l : Fin 1024) :
    (iblk m c 8 t : FVec Ideal S1x1024 .f32) (ix2 (0 : Fin 1) l) = m ((c : Thread nD τ).loc main_arg2) (ix1 l) := by
  unfold iblk
  rw [View.read_apply]
  refine (congrFun (bias_entry m c) _).trans (Eq.trans (at_ix (shapeCast S1x1024 _ shapeCasts_S1024_S1x1024) _ (0 : Fin 1) l ?_ ?_) (one_row _ l))
  · show win0_8.index t 0 * 1 + 1 * 0 = 0; rw [(index8 t).1]
  · show win0_8.index t 1 * 1024 + 1 * l.val = l.val; rw [(index8 t).2]; omega
theorem gain_apply (c : Dev nD) (t : Fin cfg0.N) (l : Fin 1024) :
    (iblk m c 9 t : FVec Ideal S1x1024 .f32) (ix2 (0 : Fin 1) l) = m ((c : Thread nD τ).loc main_arg3) (ix1 l) := by
  unfold iblk
  rw [View.read_apply]
  refine (congrFun (gain_entry m c) _).trans (Eq.trans (at_ix (shapeCast S1x1024 _ shapeCasts_S1024_S1x1024) _ (0 : Fin 1) l ?_ ?_) (one_row _ l))
  · show win0_9.index t 0 * 1 + 1 * 0 = 0; rw [(index9 t).1]
  · show win0_9.index t 1 * 1024 + 1 * l.val = l.val; rw [(index9 t).2]; omega
theorem offset_apply (c : Dev nD) (t : Fin cfg0.N) (l : Fin 1024) :
    (iblk m c 10 t : FVec Ideal S1x1024 .f32) (ix2 (0 : Fin 1) l) = m ((c : Thread nD τ).loc main_arg4) (ix1 l) := by
  unfold iblk
  rw [View.read_apply]
  refine (congrFun (offset_entry m c) _).trans (Eq.trans (at_ix (shapeCast S1x1024 _ shapeCasts_S1024_S1x1024) _ (0 : Fin 1) l ?_ ?_) (one_row _ l))
  · show win0_10.index t 0 * 1 + 1 * 0 = 0; rw [(index10 t).1]
  · show win0_10.index t 1 * 1024 + 1 * l.val = l.val; rw [(index10 t).2]; omega
theorem mixBias_apply (c : Dev nD) (t : Fin cfg0.N) (l : Fin 1024) :
    (iblk m c 12 t : FVec Ideal S1x1024 .f32) (ix2 (0 : Fin 1) l) = m ((c : Thread nD τ).loc main_arg6) (ix1 l) := by
  unfold iblk
  rw [View.read_apply]
  refine (congrFun (mixBias_entry m c) _).trans (Eq.trans (at_ix (shapeCast S1x1024 _ shapeCasts_S1024_S1x1024) _ (0 : Fin 1) l ?_ ?_) (one_row _ l))
  · show win0_12.index t 0 * 1 + 1 * 0 = 0; rw [(index12 t).1]
  · show win0_12.index t 1 * 1024 + 1 * l.val = l.val; rw [(index12 t).2]; omega

/-- The row of the laid-out buffer that a tap takes is the row the tap takes of the whole array. -/
theorem rowAt_eq (c : Dev nD) (t : Fin cfg0.N) (r : Fin 256) (k : Fin 31) (l : Fin 1024) :
    rowAt (grid0.coords t) (iblk m c 0 t) (iblk m c 1 t) (iblk m c 3 t) (iblk m c 4 t) (iblk m c 5 t) (iblk m c 6 t) (r.val + k.val + 1) l
      = sample (m ((c : Thread nD τ).loc main_arg0)) (row t r).val ((row t r).val + k.val) l := by
  have ht := point_lt t
  have hr := r.isLt
  have hk := k.isLt
  have hg : ∀ (R : Fin 16640) (n : ℕ), R.val = n → gatedRow (m ((c : Thread nD τ).loc main_arg0)) n l
      = glu (m ((c : Thread nD τ).loc main_arg0) (ix2 R (valueCol l))) (m ((c : Thread nD τ).loc main_arg0) (ix2 R (gateCol l))) := by
    intro R n hn
    subst hn
    exact dif_pos R.isLt
  unfold rowAt sample
  rw [coord]
  show _ = if 15 ≤ t.val * 256 + r.val + k.val ∧ (t.val * 256 + r.val < 256 ↔ t.val * 256 + r.val + k.val - 15 < 256)
    then gatedRow _ (t.val * 256 + r.val + k.val - 15) l else 0
  by_cases h1 : r.val + k.val + 1 < 16
  · rw [dif_pos h1]
    by_cases h : 2 ≤ t.val
    · rw [if_pos h, if_pos (by omega), valueBefore_apply, gateBefore_apply]
      exact (hg _ _ (by show (16 * t.val - 1) * 16 + (r.val + k.val + 1) = _; omega)).symm
    · rw [if_neg h, if_neg (by omega)]
  rw [dif_neg h1]
  by_cases h2 : r.val + k.val + 1 - 16 < 256
  · rw [dif_pos h2, if_pos (by omega), value_apply, gate_apply]
    exact (hg _ _ (by show t.val * 256 + (r.val + k.val + 1 - 16) = _; omega)).symm
  rw [dif_neg h2, dif_pos (by omega : r.val + k.val + 1 - 272 < 16)]
  by_cases h : 1 ≤ t.val ∧ t.val < 64
  · rw [if_pos h, if_pos (by omega), valueBehind_apply, gateBehind_apply]
    exact (hg _ _ (by show min (16 * t.val + 16) 1039 * 16 + (r.val + k.val + 1 - 272) = _; omega)).symm
  · rw [if_neg h]
    by_cases h0 : t.val = 0
    · rw [if_neg (by omega)]
    · rw [if_pos (by omega)]
      unfold gatedRow
      rw [dif_neg (by omega)]

/-- The convolved channels of a row, of the blocks a point reads. -/
theorem convolved (c : Dev nD) (t : Fin cfg0.N) (r : Fin 256) (x7 : FVec Ideal S32x1024 .f32) (x8 : FVec Ideal S1x1024 .f32)
    (h7 : ∀ (k : Fin 31) l, x7 (ix2 (⟨k.val, by omega⟩ : Fin 32) l) = m ((c : Thread nD τ).loc main_arg1) (ix2 k l))
    (h8 : ∀ l, x8 (ix2 (0 : Fin 1) l) = m ((c : Thread nD τ).loc main_arg2) (ix1 l)) :
    (fun l => (∑ k : Fin 31, x7 (ix2 (⟨k.val, by omega⟩ : Fin 32) l)
      * rowAt (grid0.coords t) (iblk m c 0 t) (iblk m c 1 t) (iblk m c 3 t) (iblk m c 4 t) (iblk m c 5 t) (iblk m c 6 t) (r.val + k.val + 1) l)
      + x8 (ix2 (0 : Fin 1) l))
      = depthwise (m ((c : Thread nD τ).loc main_arg0)) (m ((c : Thread nD τ).loc main_arg1)) (m ((c : Thread nD τ).loc main_arg2)) (row t r).val :=
  funext fun l => congrArg₂ (· + ·) (Finset.sum_congr rfl fun k _ => congrArg₂ (· * ·) (h7 k l) (rowAt_eq m c t r k l)) (h8 l)

/-- The whole-array convolution of device `c`'s arguments. -/
abbrev result (c : Dev nD) : Buf (Elt Ideal) ((c : Thread nD τ).loc main_v8) :=
  conv (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Each point writes back its block of the whole convolution. -/
theorem flushed_eq (c : Dev nD) (t : Fin cfg0.N) :
    (dats m 0 c).flushed 13 t = ((cfg0.win 13).blk t).view.read (Elt Ideal) (result m c) := by
  rw [Cert.ConvIdeal.Value.flushed13_A, out_eq]
  funext y
  obtain ⟨r, l, rfl⟩ : ∃ (r : Fin 256) (l : Fin 1024), y = ix2 r l := ⟨y 0, y 1, funext fun a => by fin_cases a <;> rfl⟩
  rw [View.read_apply]
  show block (grid0.coords t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (ix2 r l)
    = result m c ((win0_13.rect t).emb (ix2 r l))
  have e : (win0_13.rect t).emb (ix2 r l) = ix2 (row t r) l := by
    funext a
    apply Fin.ext
    match a with
    | ⟨0, _⟩ => show win0_13.index t 0 * 256 + 1 * r.val = t.val * 256 + r.val; rw [(index13 t).1]; omega
    | ⟨1, _⟩ => show win0_13.index t 1 * 1024 + 1 * l.val = l.val; rw [(index13 t).2]; omega
  refine Eq.trans ?_ (congrArg (result m c) e).symm
  have h1 := convolved m c t r (iblk m c 7 t) (iblk m c 8 t) (weight_apply m c t) (bias_apply m c t)
  show mixed _ (fun k => (iblk m c 9 t : FVec Ideal S1x1024 .f32) (ix2 (0 : Fin 1) k)) (fun k => (iblk m c 10 t : FVec Ideal S1x1024 .f32) (ix2 (0 : Fin 1) k))
    (fun k => (iblk m c 11 t : FVec Ideal S1024x1024 .bf16) (ix2 k l)) ((iblk m c 12 t : FVec Ideal S1x1024 .f32) (ix2 (0 : Fin 1) l))
    ((iblk m c 2 t : FVec Ideal S256x1024 .bf16) (ix2 r l)) = _
  rw [funext (gain_apply m c t), funext (offset_apply m c t), funext fun k => mixing_apply m c t k l, mixBias_apply m c t l, mix_apply m c t r l]
  exact congrArg (fun A => mixed A _ _ _ _ _) h1

/-- The blocks tile the result. -/
theorem cover (i : S16640x1024.Idx) :
    ∃ t : Fin cfg0.N, (cfg0.win 13).flush t = true ∧ i ∈ ((cfg0.win 13).blk t).view.set := by
  have h0 : (i 0 : Nat) < 16640 := (i 0).isLt
  have h1 : (i 1 : Nat) < 1024 := (i 1).isLt
  have hN : cfg0.N = 65 := N_0
  refine ⟨⟨(i 0 : Nat) / 256, by omega⟩, flush0_13 _, ?_⟩
  generalize ht : (⟨(i 0 : Nat) / 256, _⟩ : Fin cfg0.N) = t
  have hv : t.val = (i 0 : Nat) / 256 := by rw [← ht]
  show i ∈ ((View.whole main_v8).slice (win0_13.rect t)).set
  rw [View.set_slice_whole, Rect.mem_set_unit]
  intro a
  match a with
  | ⟨0, _⟩ => show win0_13.index t 0 * 256 ≤ (i 0 : Nat) ∧ (i 0 : Nat) < win0_13.index t 0 * 256 + 256
              rw [(index13 t).1]; omega
  | ⟨1, _⟩ => show win0_13.index t 1 * 1024 ≤ (i 1 : Nat) ∧ (i 1 : Nat) < win0_13.index t 1 * 1024 + 1024
              rw [(index13 t).2]; omega

theorem final_result (c : Dev nD) : (dats m 0 c).arrAt 13 cfg0.N = result m c :=
  (dats m 0 c).arrAt_eq_of_cover 13 (result m c) (fun t _ => flushed_eq m c t) cover

end Cert.ConvIdeal.Conv

end
-- ==== Proof.ConvReference.lean ====
/- The reference of the convolution: the context's rows and the others, each padded, convolved, normed and mixed on their own, are the
   convolution of the whole array. -/
module

public import proofs.«01_k».proof.Defs
public import proofs.«01_k».proof.Proof.Conv
public import proofs.«01_k».proof.Proof.Gen.ConvReferenceIdeal.Run
public import Idealize.ShloMosaic.Lib.KernelVsHost
public import Idealize.ShloMosaic.Lib.Pointwise

@[expose] public section

set_option maxRecDepth 16384

noncomputable section

open Idealize.ShloMosaic Idealize.ShloMosaic.TcCoe Idealize.SL.Sem

namespace Cert.ConvReferenceIdeal.Conv

open Cert.ConvReferenceIdeal Cert.ConvReferenceIdeal.Gen Cert.ConvReferenceIdeal.Value
open Cert.ConvIdeal.Conv (gate silu glu mean dist normed mixed valueCol gateCol mixCol gatedRow sample depthwise conv)

variable (V0 : Valuation τ sig (Elt Ideal))

/-- The arguments. -/
abbrev argZ : FVec Ideal S16640x13312 .bf16 := V0 (Proc.devRef .tc main_arg0)
abbrev argW : FVec Ideal S31x1024 .f32 := V0 (Proc.devRef .tc main_arg1)
abbrev argB : FVec Ideal S1024 .f32 := V0 (Proc.devRef .tc main_arg2)
abbrev argG : FVec Ideal S1024 .f32 := V0 (Proc.devRef .tc main_arg3)
abbrev argO : FVec Ideal S1024 .f32 := V0 (Proc.devRef .tc main_arg4)
abbrev argM : FVec Ideal S1024x1024 .f32 := V0 (Proc.devRef .tc main_arg5)
abbrev argP : FVec Ideal S1024 .f32 := V0 (Proc.devRef .tc main_arg6)

/-- The taps in order, added one by one. -/
theorem in_order (f : Fin 31 → EReal) :
    f 0 + f 1 + f 2 + f 3 + f 4 + f 5 + f 6 + f 7 + f 8 + f 9 + f 10 + f 11 + f 12 + f 13 + f 14 + f 15 + f 16 + f 17 + f 18 + f 19 + f 20
      + f 21 + f 22 + f 23 + f 24 + f 25 + f 26 + f 27 + f 28 + f 29 + f 30 = ∑ k : Fin 31, f k := by
  simp only [Fin.sum_univ_castSucc, Finset.univ_eq_empty, Finset.sum_empty, zero_add]
  rfl

theorem value_apply (r : Fin 16640) (l : Fin 1024) : res_main_v1 V0 (ix2 r l) = argZ V0 (ix2 r (valueCol l)) := by
  pointwise [res_main_v1, res_main_v0]
theorem gate_apply (r : Fin 16640) (l : Fin 1024) : res_main_v2 V0 (ix2 r l) = argZ V0 (ix2 r (gateCol l)) := by
  pointwise [res_main_v2, res_main_v0]
theorem mix_apply (r : Fin 16640) (l : Fin 1024) : res_main_v3 V0 (ix2 r l) = argZ V0 (ix2 r (mixCol l)) := by
  pointwise [res_main_v3, res_main_v0]

theorem padding : FloatOps.sitofp (F := Ideal) .f32 0#32 = (0 : EReal) := by
  show (((0#32 : BitVec 32).toInt : ℝ) : EReal) = 0
  simp

/-- The rows of a sequence that starts at row `o` and has `n` rows, with 15 rows of zeros before them and behind. -/
def padded (z : FVec Ideal S16640x13312 .bf16) (o n : ℕ) (l : Fin 1024) (j : ℕ) : EReal :=
  if 15 ≤ j ∧ j - 15 < n then gatedRow z (o + (j - 15)) l else 0

/-- The difference of two extended reals. -/
def less (x y : EReal) : EReal := x - y

/-- `x` less the mean `m`, over the root of the mean of the squares of `d`, scaled and shifted. -/
def scaled (x m : EReal) (d : Fin 1024 → EReal) (g b : EReal) : EReal :=
  (x - m) * Ideal.rsqrt (Ideal.div (∑ k : Fin 1024, d k * d k) (Ideal.ofBits .f32 0x44800000#32) + Ideal.ofBits .f32 0x358637BD#32) * g + b

theorem gated_at (n : ℕ) (R : Fin 16640) (l : Fin 1024) (h : R.val = n) :
    glu (res_main_v1 V0 (ix2 R l)) (res_main_v2 V0 (ix2 R l)) = gatedRow (argZ V0) n l := by
  subst h
  rw [value_apply, gate_apply]
  unfold gatedRow
  rw [dif_pos R.isLt]

theorem padded0 (j : Fin 286) (l : Fin 1024) : res_main_v13 V0 (ix2 j l) = padded (argZ V0) 0 256 l j.val := by
  pointwise [res_main_v13]
  unfold padded
  by_cases h : 15 ≤ j.val ∧ j.val - 15 < 256
  · rw [if_pos h]
    exact (dif_pos h).trans (gated_at V0 _ _ l (by simp))
  · rw [if_neg h]
    exact (dif_neg h).trans padding

theorem taps0 (r : Fin 256) (l : Fin 1024) : res_main_v234 V0 (ix2 r l) = depthwise (argZ V0) (argW V0) (argB V0) r.val l := by
  have h : res_main_v234 V0 (ix2 r l)
      = (∑ k : Fin 31, argW V0 (ix2 k l) * padded (argZ V0) 0 256 l (k.val + r.val)) + argB V0 (ix1 l) := by
    rw [← in_order]
    pointwise [res_main_v234, res_main_v182, res_main_v98]
    simp only [padded0]
  rw [h]
  refine congrArg (· + _) (Finset.sum_congr rfl fun k _ => congrArg (argW V0 (ix2 k l) * ·) ?_)
  have hr := r.isLt
  have hk := k.isLt
  unfold padded sample
  by_cases h : 15 ≤ k.val + r.val ∧ k.val + r.val - 15 < 256
  · rw [if_pos h, if_pos (by omega)]
    exact congrArg (gatedRow _ · l) (by omega)
  · rw [if_neg h, if_neg (by omega)]

theorem mean0 (r : Fin 256) : res_main_v238 V0 (ix2 r (0 : Fin 1)) = mean (depthwise (argZ V0) (argW V0) (argB V0) r.val) := by
  have h : res_main_v238 V0 (ix2 r (0 : Fin 1)) = mean fun k => res_main_v234 V0 (ix2 r k) := by pointwise [res_main_v238, mean]
  rw [h, funext (taps0 V0 r)]

theorem dist0 (r : Fin 256) (l : Fin 1024) :
    res_main_v240 V0 (ix2 r l) = dist (depthwise (argZ V0) (argW V0) (argB V0) r.val) l := by
  have h : res_main_v240 V0 (ix2 r l) = less (res_main_v234 V0 (ix2 r l)) (res_main_v238 V0 (ix2 r (0 : Fin 1))) := by pointwise [res_main_v240, less]
  rw [h, taps0, mean0]
  rfl

theorem normed0 (r : Fin 256) (l : Fin 1024) : res_main_v258 V0 (ix2 r l)
    = normed (depthwise (argZ V0) (argW V0) (argB V0) r.val) (fun k => argG V0 (ix1 k)) (fun k => argO V0 (ix1 k)) l := by
  have h : res_main_v258 V0 (ix2 r l) = scaled (res_main_v234 V0 (ix2 r l)) (res_main_v238 V0 (ix2 r (0 : Fin 1)))
        (fun k => res_main_v240 V0 (ix2 r k)) (argG V0 (ix1 l)) (argO V0 (ix1 l)) := by pointwise [res_main_v258, scaled]
  rw [h, taps0, mean0]
  simp only [dist0]
  rfl

theorem padded1 (j : Fin 16414) (l : Fin 1024) : res_main_v273 V0 (ix2 j l) = padded (argZ V0) 256 16384 l j.val := by
  pointwise [res_main_v273]
  unfold padded
  by_cases h : 15 ≤ j.val ∧ j.val - 15 < 16384
  · rw [if_pos h]
    exact (dif_pos h).trans (gated_at V0 _ _ l (by simp))
  · rw [if_neg h]
    exact (dif_neg h).trans padding

theorem taps1 (r : Fin 16384) (l : Fin 1024) : res_main_v494 V0 (ix2 r l) = depthwise (argZ V0) (argW V0) (argB V0) (256 + r.val) l := by
  have h : res_main_v494 V0 (ix2 r l)
      = (∑ k : Fin 31, argW V0 (ix2 k l) * padded (argZ V0) 256 16384 l (k.val + r.val)) + argB V0 (ix1 l) := by
    rw [← in_order]
    pointwise [res_main_v494, res_main_v428, res_main_v351]
    simp only [padded1]
  rw [h]
  refine congrArg (· + _) (Finset.sum_congr rfl fun k _ => congrArg (argW V0 (ix2 k l) * ·) ?_)
  have hr := r.isLt
  have hk := k.isLt
  unfold padded sample
  by_cases h : 15 ≤ k.val + r.val ∧ k.val + r.val - 15 < 16384
  · rw [if_pos h, if_pos (by omega)]
    exact congrArg (gatedRow _ · l) (by omega)
  · rw [if_neg h]
    by_cases h' : 15 ≤ k.val + r.val
    · rw [if_pos (by omega)]
      unfold gatedRow
      rw [dif_neg (by omega)]
    · rw [if_neg (by omega)]

theorem mean1 (r : Fin 16384) : res_main_v498 V0 (ix2 r (0 : Fin 1)) = mean (depthwise (argZ V0) (argW V0) (argB V0) (256 + r.val)) := by
  have h : res_main_v498 V0 (ix2 r (0 : Fin 1)) = mean fun k => res_main_v494 V0 (ix2 r k) := by pointwise [res_main_v498, mean]
  rw [h, funext (taps1 V0 r)]

theorem dist1 (r : Fin 16384) (l : Fin 1024) :
    res_main_v500 V0 (ix2 r l) = dist (depthwise (argZ V0) (argW V0) (argB V0) (256 + r.val)) l := by
  have h : res_main_v500 V0 (ix2 r l) = less (res_main_v494 V0 (ix2 r l)) (res_main_v498 V0 (ix2 r (0 : Fin 1))) := by pointwise [res_main_v500, less]
  rw [h, taps1, mean1]
  rfl

theorem normed1 (r : Fin 16384) (l : Fin 1024) : res_main_v518 V0 (ix2 r l)
    = normed (depthwise (argZ V0) (argW V0) (argB V0) (256 + r.val)) (fun k => argG V0 (ix1 k)) (fun k => argO V0 (ix1 k)) l := by
  have h : res_main_v518 V0 (ix2 r l) = scaled (res_main_v494 V0 (ix2 r l)) (res_main_v498 V0 (ix2 r (0 : Fin 1)))
        (fun k => res_main_v500 V0 (ix2 r k)) (argG V0 (ix1 l)) (argO V0 (ix1 l)) := by pointwise [res_main_v518, scaled]
  rw [h, taps1, mean1]
  simp only [dist1]
  rfl

/-- The reference's composed term is the convolution. -/
theorem composed :
    (truncf .bf16 (mulf (concatenate S16640x1024 0 [⟨S256x1024, (addf (Host.dotGeneral dot_S256x1024_S1024x1024_S256x1024_1_0_0_1_n_n (φ₂ := .f32) none (mulf (res_main_v258 V0) (Host.divf (broadcastInDim S256x1024 ![] bcast_S_S256x1024 (constant S_ .f32 0x3F800000#32)) (addf (broadcastInDim S256x1024 ![] bcast_S_S256x1024 (constant S_ .f32 0x3F800000#32)) (Host.exp (Host.negf (res_main_v258 V0)))))) (V0 (Proc.devRef .tc main_arg5))) (broadcastInDim S256x1024 ![0, 1] bcast_S1x1024_S256x1024_0_1 (broadcastInDim S1x1024 ![1] bcast_S1024_S1x1024_1 (V0 (Proc.devRef .tc main_arg6)))))⟩, ⟨S16384x1024, (addf (Host.dotGeneral dot_S16384x1024_S1024x1024_S16384x1024_1_0_0_1_n_n (φ₂ := .f32) none (mulf (res_main_v518 V0) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (res_main_v518 V0)))))) (V0 (Proc.devRef .tc main_arg5))) (broadcastInDim S16384x1024 ![0, 1] bcast_S1x1024_S16384x1024_0_1 (broadcastInDim S1x1024 ![1] bcast_S1024_S1x1024_1 (V0 (Proc.devRef .tc main_arg6)))))⟩] concatenates_S256x1024_S16384x1024_S16640x1024_d0) (mulf (res_main_v3 V0) (Host.divf (broadcastInDim S16640x1024 ![] bcast_S_S16640x1024 (constant S_ .f32 0x3F800000#32)) (addf (broadcastInDim S16640x1024 ![] bcast_S_S16640x1024 (constant S_ .f32 0x3F800000#32)) (Host.exp (Host.negf (res_main_v3 V0))))))) bitsLt_bf16_f32 : FVec Ideal S16640x1024 .bf16)
      = conv (argZ V0) (argW V0) (argB V0) (argG V0) (argO V0) (argM V0) (argP V0) := by
  funext j
  idx_vars j
  pointwise [conv, mixed, silu, gate]
  rw [mix_apply V0 j0 j1]
  refine congrArg (· * _) ?_
  by_cases h : j0.val < 256
  · refine (dif_pos h).trans ?_
    simp only [normed0]
  · refine (dif_neg h).trans ?_
    simp only [normed1]
    have e : 256 + (j0.val - 256) = j0.val := by omega
    simp only [e]

end Cert.ConvReferenceIdeal.Conv

namespace Cert.Proof.ConvClaims

theorem algebraic : Cert.algebraic_ConvIdeal_ConvReferenceIdeal := by
  intro m g m' g' _ hargs
  refine ⟨fun c => Cert.ConvIdeal.Conv.result m c, ?_, ?_⟩
  · exact (θ_run _ _ _).mono (fun r h c => ⟨(h c).1.trans (Cert.ConvIdeal.Conv.final_result m c), (h c).2⟩)
      (Cert.ConvIdeal.Value.run_blocks m g)
  · refine (θ_run _ _ _).mono (fun r h c => ⟨(h c).1.trans ?_, (h c).2⟩) (Cert.ConvReferenceIdeal.Value.run m' g')
    refine (Cert.ConvReferenceIdeal.Conv.composed _).trans ?_
    obtain ⟨h0, h1, h2, h3, h4, h5, h6⟩ := hargs c
    show Cert.ConvIdeal.Conv.conv (m' ((c.tc : Thread _ _).loc Cert.ConvReferenceIdeal.main_arg0)) (m' ((c.tc : Thread _ _).loc Cert.ConvReferenceIdeal.main_arg1))
      (m' ((c.tc : Thread _ _).loc Cert.ConvReferenceIdeal.main_arg2)) (m' ((c.tc : Thread _ _).loc Cert.ConvReferenceIdeal.main_arg3))
      (m' ((c.tc : Thread _ _).loc Cert.ConvReferenceIdeal.main_arg4)) (m' ((c.tc : Thread _ _).loc Cert.ConvReferenceIdeal.main_arg5))
      (m' ((c.tc : Thread _ _).loc Cert.ConvReferenceIdeal.main_arg6)) = _
    rw [h0, h1, h2, h3, h4, h5, h6]

end Cert.Proof.ConvClaims

end
-- ==== Proof.First.lean ====
/- The first layer's modulated norm: the first point takes the context's rows and the others the latent rows, sixteen rows a trip; each
   point copies its rows into the residual stream and writes their RMSNorm, scaled and shifted by the modulation of their stream. -/
module

public import proofs.«01_k».proof.Defs
public import proofs.«01_k».proof.Proof.Gen.First.Frame
public import proofs.«01_k».proof.Proof.Gen.FirstIdeal.Value
public import proofs.«01_k».proof.Proof.Gen.FirstReferenceIdeal.Run
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FirstIdeal.FirstNorm

open Cert.FirstIdeal Cert.FirstIdeal.Gen

/-- The modulation's column with the scale of a channel, and with its shift. -/
abbrev scaleCol (l : Fin 4096) : Fin 12288 := ⟨4096 + l.val, by omega⟩
abbrev shiftCol (l : Fin 4096) : Fin 12288 := ⟨l.val, by omega⟩

/-- What a point leaves in its block, of the rows it reads. -/
def block (x : FVec Ideal S256x4096 .f32) (g : FVec Ideal S1x4096 .f32) (md : FVec Ideal S1x1x12288 .f32) :
    FVec Ideal S256x4096 .bf16 :=
  fun y => x (ix2 (y 0) (y 1))
    * Ideal.rsqrt (Ideal.div (∑ k : Fin 4096, x (ix2 (y 0) k) * x (ix2 (y 0) k)) (Ideal.ofBits .f32 0x45800000#32)
        + Ideal.ofBits .f32 0x358637BD#32)
    * (g (ix2 (0 : Fin 1) (y 1)) * (Ideal.ofBits .f32 0x3F800000#32 + md (ix3 (0 : Fin 1) (0 : Fin 1) (scaleCol (y 1)))))
    + md (ix3 (0 : Fin 1) (0 : Fin 1) (shiftCol (y 1)))

/-- What a trip computes of the rows it loads and of the scale and the shift it finds in the two scratch buffers. -/
theorem trip_apply (x x' : FVec Ideal S16x4096 .f32) (sc sh : FVec Ideal S1x4096 .f32) (r : Fin 16) (l : Fin 4096) :
    k0_pay4 (F := Ideal) x x' sc sh (ix2 r l) = x' (ix2 r l)
      * Ideal.rsqrt (Ideal.div (∑ k : Fin 4096, x (ix2 r k) * x (ix2 r k)) (Ideal.ofBits .f32 0x45800000#32)
          + Ideal.ofBits .f32 0x358637BD#32)
      * sc (ix2 (0 : Fin 1) l) + sh (ix2 (0 : Fin 1) l) := by
  pointwise [k0_pay4]

theorem scale_apply (md : FVec Ideal S1x1x12288 .f32) (g : FVec Ideal S1x4096 .f32) (l : Fin 4096) :
    k0_pay2 (F := Ideal) md g (ix2 (0 : Fin 1) l)
      = g (ix2 (0 : Fin 1) l) * (Ideal.ofBits .f32 0x3F800000#32 + md (ix3 (0 : Fin 1) (0 : Fin 1) (scaleCol l))) := by
  pointwise [k0_pay2, k0_pay1]
theorem shift_apply (md : FVec Ideal S1x1x12288 .f32) (l : Fin 4096) :
    k0_pay3 (F := Ideal) md (ix2 (0 : Fin 1) l) = md (ix3 (0 : Fin 1) (0 : Fin 1) (shiftCol l)) := by
  pointwise [k0_pay3, k0_pay1]

theorem one_row (x : S1x4096.Idx) : ∃ l : Fin 4096, x = ix2 (0 : Fin 1) l :=
  ⟨x 1, funext fun a => by fin_cases a <;> first | rfl | exact Subsingleton.elim (α := Fin 1) _ _⟩

theorem row_emb (l : Fin 4096) : (Rect.unit (s := S1x4096) ![0, 0] S1x4096.size inb_S1x4096_S1x4096_0_0).emb (ix2 (0 : Fin 1) l) = ix2 (0 : Fin 1) l :=
  funext fun a => Fin.ext (by
    match a with
    | ⟨0, _⟩ => rfl
    | ⟨1, _⟩ => show 0 + 1 * l.val = l.val; omega)

/-- A load of a buffer of one row that one store has filled. -/
theorem row_read (v : View sig .tc .vmem S1x4096 .f32) (w : FVec Ideal S1x4096 .f32) (l : Fin 4096) :
    View.readAt (Elt Ideal) v (Rect.unit (s := S1x4096) ![0, 0] S1x4096.size inb_S1x4096_S1x4096_0_0).toLoadRect
      (v.writes (Elt Ideal) v.junk [⟨Rect.unit ![0, 0] S1x4096.size inb_S1x4096_S1x4096_0_0, w⟩]) (ix2 (0 : Fin 1) l) = w (ix2 (0 : Fin 1) l) := by
  refine Eq.trans (congrArg (v.read (Elt Ideal) _) (row_emb l)) ?_
  refine View.read_writes_apply_of_pieces (Val := Elt Ideal) v _ w _ ?_ (ix2 (0 : Fin 1) l) ⟨_, List.mem_cons_self, ?_⟩
  · intro p hp x
    obtain rfl := List.mem_singleton.mp hp
    obtain ⟨l, rfl⟩ := one_row x
    exact (congrArg w (row_emb l)).symm
  · rw [Rect.mem_set_unit]
    intro a
    match a with
    | ⟨0, _⟩ => exact ⟨Nat.le_refl _, Nat.lt_succ_self _⟩
    | ⟨1, _⟩ => show 0 ≤ l.val ∧ l.val < 0 + 4096; omega

/-- Row `r` of trip `k`'s sixteen, in the block. -/
abbrev tripRow (k : ℕ) (hk : k < 16) (r : Fin 16) : Fin 256 := ⟨16 * k + r.val, by omega⟩

theorem trip_emb (k : ℕ) (hk : k < 16) (off : Fin 2 → ℕ) (ho : off = ![16 * k, 0]) (hin : ∀ a, off a + S16x4096.size a ≤ S256x4096.size a)
    (r : Fin 16) (l : Fin 4096) : (Rect.unit (s := S256x4096) off S16x4096.size hin).emb (ix2 r l) = ix2 (tripRow k hk r) l := by
  subst ho
  funext a
  apply Fin.ext
  match a with
  | ⟨0, _⟩ => show 16 * k + 1 * r.val = 16 * k + r.val; omega
  | ⟨1, _⟩ => show 0 + 1 * l.val = l.val; omega

/-- A trip's load of its rows. -/
theorem rows_load (arg : Memref sig .tc .vmem S256x4096 .f32) (h : arg.IsWhole) (x : Vec Ideal S256x4096 .f32) (k : ℕ) (hk : k < 16) (off : Fin 2 → ℕ)
    (ho : off = ![16 * k, 0]) (hin : ∀ a, off a + S16x4096.size a ≤ S256x4096.size a) (r : Fin 16) (l : Fin 4096) :
    View.readAt (Elt Ideal) arg.view (Rect.unit (s := S256x4096) off S16x4096.size hin).toLoadRect (h.unread x) (ix2 r l) = x (ix2 (tripRow k hk r) l) :=
  (congrFun (h.read_unread x) _).trans (congrArg x (trip_emb k hk off ho hin r l))

theorem gain_load (arg : Memref sig .tc .vmem S1x4096 .f32) (h : arg.IsWhole) (g : Vec Ideal S1x4096 .f32) (l : Fin 4096) :
    View.readAt (Elt Ideal) arg.view (Rect.unit ![0, 0] S1x4096.size inb_S1x4096_S1x4096_0_0).toLoadRect (h.unread g) (ix2 (0 : Fin 1) l)
      = g (ix2 (0 : Fin 1) l) :=
  (congrFun (h.read_unread g) _).trans (congrArg g (row_emb l))

theorem mod_load (arg : Memref sig .tc .vmem S1x1x12288 .f32) (h : arg.IsWhole) (md : Vec Ideal S1x1x12288 .f32) (l : Fin 12288) :
    View.readAt (Elt Ideal) arg.view (Rect.unit (s := S1x1x12288) ![0, 0, 0] S1x1x12288.size inb_S1x1x12288_S1x1x12288_0_0_0).toLoadRect
      (h.unread md) (ix3 (0 : Fin 1) (0 : Fin 1) l) = md (ix3 (0 : Fin 1) (0 : Fin 1) l) :=
  (congrFun (h.read_unread md) _).trans (congrArg md (funext fun a => Fin.ext (by
    match a with
    | ⟨0, _⟩ => rfl
    | ⟨1, _⟩ => rfl
    | ⟨2, _⟩ => show 0 + 1 * l.val = l.val; omega)))

/-- What holds of every trip's pieces holds of all the pieces of the trips before the `n`-th. -/
theorem all_trips {α : Type} (N : ℕ) (P : ℕ → List α) (T : Fin N → List α) (h0 : P 0 = []) (hs : ∀ k : Fin N, P (k.val + 1) = T k ++ P k.val)
    (Q : α → Prop) (h : ∀ k, ∀ p ∈ T k, Q p) (n : ℕ) (hn : n ≤ N) : ∀ p ∈ P n, Q p := by
  induction n with
  | zero => intro p hp; rw [h0] at hp; exact absurd hp List.not_mem_nil
  | succ n ih =>
    intro p hp
    rw [hs ⟨n, hn⟩] at hp
    rcases List.mem_append.mp hp with hp | hp
    · exact h _ p hp
    · exact ih (Nat.le_of_succ_le hn) p hp

/-- Trip `k`'s payload, of the rows `x` and of a gain `g` and modulation `md` laid in the scratch buffers, is the block's at the trip's rows. -/
theorem trip_value (arg : Memref sig .tc .vmem S256x4096 .f32) (h : arg.IsWhole) (arg3 : Memref sig .tc .vmem S1x4096 .f32) (harg3 : arg3.IsWhole)
    (arg4 : Memref sig .tc .vmem S1x1x12288 .f32) (harg4 : arg4.IsWhole) (v7 v8 : View sig .tc .vmem S1x4096 .f32)
    (x : Vec Ideal S256x4096 .f32) (g : Vec Ideal S1x4096 .f32) (md : Vec Ideal S1x1x12288 .f32)
    (k : ℕ) (hk : k < 16) (off : Fin 2 → ℕ) (ho : off = ![16 * k, 0]) (hin : ∀ a, off a + S16x4096.size a ≤ S256x4096.size a) (y : S16x4096.Idx) :
    k0_pay4 (F := Ideal)
      (View.readAt (Elt Ideal) arg.view (Rect.unit (s := S256x4096) off S16x4096.size hin).toLoadRect (h.unread x))
      (View.readAt (Elt Ideal) arg.view (Rect.unit (s := S256x4096) off S16x4096.size hin).toLoadRect (h.unread x))
      (View.readAt (Elt Ideal) v7 (Rect.unit (s := S1x4096) ![0, 0] S1x4096.size inb_S1x4096_S1x4096_0_0).toLoadRect
        (v7.writes (Elt Ideal) v7.junk [⟨Rect.unit ![0, 0] S1x4096.size inb_S1x4096_S1x4096_0_0,
          k0_pay2 (F := Ideal) (View.readAt (Elt Ideal) arg4.view (Rect.unit (s := S1x1x12288) ![0, 0, 0] S1x1x12288.size inb_S1x1x12288_S1x1x12288_0_0_0).toLoadRect (harg4.unread md))
            (View.readAt (Elt Ideal) arg3.view (Rect.unit ![0, 0] S1x4096.size inb_S1x4096_S1x4096_0_0).toLoadRect (harg3.unread g))⟩]))
      (View.readAt (Elt Ideal) v8 (Rect.unit (s := S1x4096) ![0, 0] S1x4096.size inb_S1x4096_S1x4096_0_0).toLoadRect
        (v8.writes (Elt Ideal) v8.junk [⟨Rect.unit ![0, 0] S1x4096.size inb_S1x4096_S1x4096_0_0,
          k0_pay3 (F := Ideal) (View.readAt (Elt Ideal) arg4.view (Rect.unit (s := S1x1x12288) ![0, 0, 0] S1x1x12288.size inb_S1x1x12288_S1x1x12288_0_0_0).toLoadRect (harg4.unread md))⟩])) y
      = block x g md ((Rect.unit (s := S256x4096) off S16x4096.size hin).emb y) := by
  obtain ⟨r, l, rfl⟩ : ∃ (r : Fin 16) (l : Fin 4096), y = (ix2 r l : S16x4096.Idx) := ⟨y 0, y 1, funext fun a => by fin_cases a <;> rfl⟩
  refine (trip_apply _ _ _ _ r l).trans (Eq.trans ?_ (congrArg (block x g md) (trip_emb k hk off ho hin r l)).symm)
  have hx := rows_load arg h x k hk off ho hin r
  refine congrArg₂ (· + ·) (congrArg₂ (· * ·) (congrArg₂ (· * ·) (hx l) (congrArg Ideal.rsqrt (congrArg (· + _) (congrArg (Ideal.div · _)
    (Finset.sum_congr rfl fun k' _ => congrArg₂ (· * ·) (hx k') (hx k')))))) ?_) ?_
  · exact (row_read v7 _ l).trans ((scale_apply _ _ l).trans (congrArg₂ (· * ·) (gain_load arg3 harg3 g l) (congrArg (_ + ·) (mod_load arg4 harg4 md _))))
  · exact (row_read v8 _ l).trans ((shift_apply _ l).trans (mod_load arg4 harg4 md _))

section Points

variable (c : Dev nD) (i : grid0.Coords)
  (arg1 : Memref sig .tc .vmem S256x4096 .f32) (harg1 : arg1.IsWhole) (arg2 : Memref sig .tc .vmem S256x4096 .f32) (harg2 : arg2.IsWhole)
  (arg3 : Memref sig .tc .vmem S1x4096 .f32) (harg3 : arg3.IsWhole) (arg4 : Memref sig .tc .vmem S1x1x12288 .f32) (harg4 : arg4.IsWhole)
  (arg5 : Memref sig .tc .vmem S256x4096 .bf16) (harg5 : arg5.IsWhole) (arg6 : Memref sig .tc .vmem S256x4096 .f32) (harg6 : arg6.IsWhole)
  (arg7 : Memref sig .tc .vmem S1x4096 .f32) (harg7 : arg7.IsWhole) (arg8 : Memref sig .tc .vmem S1x4096 .f32) (harg8 : arg8.IsWhole)
  (x0 x1 : Vec Ideal S256x4096 .f32) (x2 : Vec Ideal S1x4096 .f32) (x3 : Vec Ideal S1x1x12288 .f32)

/-- The trips of the first point, and of the others. -/
theorem trip_first (h1 : k0_cond1 i = 1#1) (X1 : BufTy.Contents (Elt Ideal) arg1.view.ty) (X7 : BufTy.Contents (Elt Ideal) arg7.view.ty)
    (X8 : BufTy.Contents (Elt Ideal) arg8.view.ty) (k : Fin k0_t1_loop.trips) :
    tripL_k0_t1 (F := Ideal) Variants.none c none i arg1 harg1 arg2 harg2 arg3 harg3 arg4 harg4 arg5 harg5 arg6 harg6 arg7 harg7 arg8 harg8 h1 X1 X7 X8 k
      = ([⟨Rect.unit (s := S256x4096) (k0_off1 k) S16x4096.size (k0_off1_inb i k h1), k0_pay4 (F := Ideal)
            (View.readAt (Elt Ideal) arg1.view (Rect.unit (s := S256x4096) (k0_off1 k) S16x4096.size (k0_off1_inb i k h1)).toLoadRect X1)
            (View.readAt (Elt Ideal) arg1.view (Rect.unit (s := S256x4096) (k0_off1 k) S16x4096.size (k0_off1_inb i k h1)).toLoadRect X1)
            (View.readAt (Elt Ideal) arg7.view (Rect.unit (s := S1x4096) ![0, 0] S1x4096.size inb_S1x4096_S1x4096_0_0).toLoadRect X7)
            (View.readAt (Elt Ideal) arg8.view (Rect.unit (s := S1x4096) ![0, 0] S1x4096.size inb_S1x4096_S1x4096_0_0).toLoadRect X8)⟩],
        [⟨Rect.unit (s := S256x4096) (k0_off1 k) S16x4096.size (k0_off1_inb i k h1),
          View.readAt (Elt Ideal) arg1.view (Rect.unit (s := S256x4096) (k0_off1 k) S16x4096.size (k0_off1_inb i k h1)).toLoadRect X1⟩]) := by
  unfold tripL_k0_t1 trip_k0_t1
  dsimp only

theorem trip_later (h2 : k0_cond2 i = 1#1) (X2 : BufTy.Contents (Elt Ideal) arg2.view.ty) (X7 : BufTy.Contents (Elt Ideal) arg7.view.ty)
    (X8 : BufTy.Contents (Elt Ideal) arg8.view.ty) (k : Fin k0_t2_loop.trips) :
    tripL_k0_t2 (F := Ideal) Variants.none c none i arg1 harg1 arg2 harg2 arg3 harg3 arg4 harg4 arg5 harg5 arg6 harg6 arg7 harg7 arg8 harg8 h2 X2 X7 X8 k
      = ([⟨Rect.unit (s := S256x4096) (k0_off2 k) S16x4096.size (k0_off2_inb i k h2), k0_pay4 (F := Ideal)
            (View.readAt (Elt Ideal) arg2.view (Rect.unit (s := S256x4096) (k0_off2 k) S16x4096.size (k0_off2_inb i k h2)).toLoadRect X2)
            (View.readAt (Elt Ideal) arg2.view (Rect.unit (s := S256x4096) (k0_off2 k) S16x4096.size (k0_off2_inb i k h2)).toLoadRect X2)
            (View.readAt (Elt Ideal) arg7.view (Rect.unit (s := S1x4096) ![0, 0] S1x4096.size inb_S1x4096_S1x4096_0_0).toLoadRect X7)
            (View.readAt (Elt Ideal) arg8.view (Rect.unit (s := S1x4096) ![0, 0] S1x4096.size inb_S1x4096_S1x4096_0_0).toLoadRect X8)⟩],
        [⟨Rect.unit (s := S256x4096) (k0_off2 k) S16x4096.size (k0_off2_inb i k h2),
          View.readAt (Elt Ideal) arg2.view (Rect.unit (s := S256x4096) (k0_off2 k) S16x4096.size (k0_off2_inb i k h2)).toLoadRect X2⟩]) := by
  unfold tripL_k0_t2 trip_k0_t2
  dsimp only
  rfl

/-- What the first point leaves in the norm's block, and in the residual stream's. -/
theorem norm_first (hc0 : cond0_0 i) (hc1 : ¬cond0_1 i) :
    out0_A_4 c i arg1 harg1 arg2 harg2 arg3 harg3 arg4 harg4 arg5 harg5 arg6 harg6 arg7 harg7 arg8 harg8 hc0 hc1 x0 x1 x2 x3 = block x0 x2 x3 := by
  funext y
  unfold out0_A_4
  refine View.read_writes_apply_of_pieces _ _ (block x0 x2 x3) _ ?_ y
    (cover0_A_4 c i arg1 harg1 arg2 harg2 arg3 harg3 arg4 harg4 arg5 harg5 arg6 harg6 arg7 harg7 arg8 harg8 hc0 hc1 x0 x1 x2 x3 y)
  unfold kernelRun0_A
  dsimp only
  sl_unfold_words
  refine all_trips k0_t1_loop.trips (fun n => (pb_k0_t1 (F := Ideal) Variants.none c none i arg1 harg1 arg2 harg2 arg3 harg3 arg4 harg4 arg5 harg5
      arg6 harg6 arg7 harg7 arg8 harg8 hc0 _ _ _ n).1) _ (congrArg Prod.fst (pb_k0_t1.eq_1 ..)) (fun k => congrArg Prod.fst (pb_k0_t1_succ ..))
    _ (fun k p hp x => ?_) _ (le_refl _)
  rw [trip_first] at hp
  obtain rfl := List.mem_singleton.mp hp
  exact trip_value arg1 harg1 arg3 harg3 arg4 harg4 arg7.view arg8.view x0 x2 x3 k.val k.isLt _ (k0_off1_eq k) _ x

theorem copy_first (hc0 : cond0_0 i) (hc1 : ¬cond0_1 i) :
    out0_A_5 c i arg1 harg1 arg2 harg2 arg3 harg3 arg4 harg4 arg5 harg5 arg6 harg6 arg7 harg7 arg8 harg8 hc0 hc1 x0 x1 x2 x3 = x0 := by
  funext y
  unfold out0_A_5
  refine View.read_writes_apply_of_pieces _ _ (fun y => x0 y) _ ?_ y
    (cover0_A_5 c i arg1 harg1 arg2 harg2 arg3 harg3 arg4 harg4 arg5 harg5 arg6 harg6 arg7 harg7 arg8 harg8 hc0 hc1 x0 x1 x2 x3 y)
  unfold kernelRun0_A
  dsimp only
  sl_unfold_words
  refine all_trips k0_t1_loop.trips (fun n => (pb_k0_t1 (F := Ideal) Variants.none c none i arg1 harg1 arg2 harg2 arg3 harg3 arg4 harg4 arg5 harg5
      arg6 harg6 arg7 harg7 arg8 harg8 hc0 _ _ _ n).2) _ (congrArg Prod.snd (pb_k0_t1.eq_1 ..)) (fun k => congrArg Prod.snd (pb_k0_t1_succ ..))
    _ (fun k p hp x => ?_) _ (le_refl _)
  rw [trip_first] at hp
  obtain rfl := List.mem_singleton.mp hp
  exact congrFun (harg1.read_unread x0) _

/-- What a later point leaves in the norm's block, and in the residual stream's. -/
theorem norm_later (hc0 : ¬cond0_0 i) (hc1 : cond0_1 i) :
    out0_B_4 c i arg1 harg1 arg2 harg2 arg3 harg3 arg4 harg4 arg5 harg5 arg6 harg6 arg7 harg7 arg8 harg8 hc0 hc1 x0 x1 x2 x3 = block x1 x2 x3 := by
  funext y
  unfold out0_B_4
  refine View.read_writes_apply_of_pieces _ _ (block x1 x2 x3) _ ?_ y
    (cover0_B_4 c i arg1 harg1 arg2 harg2 arg3 harg3 arg4 harg4 arg5 harg5 arg6 harg6 arg7 harg7 arg8 harg8 hc0 hc1 x0 x1 x2 x3 y)
  unfold kernelRun0_B
  dsimp only
  sl_unfold_words
  refine all_trips k0_t2_loop.trips (fun n => (pb_k0_t2 (F := Ideal) Variants.none c none i arg1 harg1 arg2 harg2 arg3 harg3 arg4 harg4 arg5 harg5
      arg6 harg6 arg7 harg7 arg8 harg8 hc1 _ _ _ n).1) _ (congrArg Prod.fst (pb_k0_t2.eq_1 ..)) (fun k => congrArg Prod.fst (pb_k0_t2_succ ..))
    _ (fun k p hp x => ?_) _ (le_refl _)
  rw [trip_later] at hp
  obtain rfl := List.mem_singleton.mp hp
  exact trip_value arg2 harg2 arg3 harg3 arg4 harg4 arg7.view arg8.view x1 x2 x3 k.val k.isLt _ (k0_off2_eq k) _ x

theorem copy_later (hc0 : ¬cond0_0 i) (hc1 : cond0_1 i) :
    out0_B_5 c i arg1 harg1 arg2 harg2 arg3 harg3 arg4 harg4 arg5 harg5 arg6 harg6 arg7 harg7 arg8 harg8 hc0 hc1 x0 x1 x2 x3 = x1 := by
  funext y
  unfold out0_B_5
  refine View.read_writes_apply_of_pieces _ _ (fun y => x1 y) _ ?_ y
    (cover0_B_5 c i arg1 harg1 arg2 harg2 arg3 harg3 arg4 harg4 arg5 harg5 arg6 harg6 arg7 harg7 arg8 harg8 hc0 hc1 x0 x1 x2 x3 y)
  unfold kernelRun0_B
  dsimp only
  sl_unfold_words
  refine all_trips k0_t2_loop.trips (fun n => (pb_k0_t2 (F := Ideal) Variants.none c none i arg1 harg1 arg2 harg2 arg3 harg3 arg4 harg4 arg5 harg5
      arg6 harg6 arg7 harg7 arg8 harg8 hc1 _ _ _ n).2) _ (congrArg Prod.snd (pb_k0_t2.eq_1 ..)) (fun k => congrArg Prod.snd (pb_k0_t2_succ ..))
    _ (fun k p hp x => ?_) _ (le_refl _)
  rw [trip_later] at hp
  obtain rfl := List.mem_singleton.mp hp
  exact congrFun (harg2.read_unread x1) _

end Points

/-- The context's rows, then the latent rows. -/
def joined (ctx : FVec Ideal S256x4096 .f32) (x : FVec Ideal S16384x4096 .f32) : FVec Ideal S16640x4096 .f32 := fun i =>
  if h : (i 0).val < 256 then ctx (ix2 (⟨(i 0).val, h⟩ : Fin 256) (i 1))
  else x (ix2 (⟨(i 0).val - 256, by have : (i 0).val < 16640 := (i 0).isLt; omega⟩ : Fin 16384) (i 1))

/-- A row of the joined streams, in each of the two. -/
theorem joined_ctx (ctx : FVec Ideal S256x4096 .f32) (x : FVec Ideal S16384x4096 .f32) (r : Fin 16640) (h : r.val < 256) (l : Fin 4096) :
    joined ctx x (ix2 r l) = ctx (ix2 (⟨r.val, h⟩ : Fin 256) l) := dif_pos h
theorem joined_latent (ctx : FVec Ideal S256x4096 .f32) (x : FVec Ideal S16384x4096 .f32) (r : Fin 16640) (h : ¬r.val < 256) (l : Fin 4096) :
    joined ctx x (ix2 r l) = x (ix2 (⟨r.val - 256, by omega⟩ : Fin 16384) l) := dif_neg h

/-- The modulation's row for a row of the residual stream: 1 for the context, 0 for the latent. -/
def side (r : ℕ) : Fin 8 := if r < 256 then 1 else 0

/-- The modulated norm at one element: the row's RMSNorm, scaled and shifted by the modulation of the row's stream. -/
def norm (ctx : FVec Ideal S256x4096 .f32) (x : FVec Ideal S16384x4096 .f32) (g : FVec Ideal S4096 .f32) (md : FVec Ideal S8x12288 .f32) :
    FVec Ideal S16640x4096 .bf16 :=
  fun i => joined ctx x (ix2 (i 0) (i 1))
    * Ideal.rsqrt (Ideal.div (∑ k : Fin 4096, joined ctx x (ix2 (i 0) k) * joined ctx x (ix2 (i 0) k)) (Ideal.ofBits .f32 0x45800000#32)
        + Ideal.ofBits .f32 0x358637BD#32)
    * (g (ix1 (i 1)) * (Ideal.ofBits .f32 0x3F800000#32 + md (ix2 (side (i 0).val) (scaleCol (i 1)))))
    + md (ix2 (side (i 0).val) (shiftCol (i 1)))

theorem index0 : ∀ t : Fin grid0.N, win0_0.index t 0 = 0 ∧ win0_0.index t 1 = 0 := by decide +kernel
theorem index1 : ∀ t : Fin grid0.N, win0_1.index t 0 = t.val - 1 ∧ win0_1.index t 1 = 0 := by decide +kernel
theorem index2 : ∀ t : Fin grid0.N, win0_2.index t 0 = 0 ∧ win0_2.index t 1 = 0 := by decide +kernel
theorem index3 : ∀ t : Fin grid0.N, win0_3.index t 0 = (if t.val = 0 then 1 else 0) ∧ win0_3.index t 1 = 0 ∧ win0_3.index t 2 = 0 := by
  decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel

theorem point_lt (t : Fin cfg0.N) : t.val < 65 := by have := t.isLt; have hN : cfg0.N = 65 := N_0; omega

/-- Row `r` of the point's block, in the whole array. -/
abbrev row (t : Fin cfg0.N) (r : Fin 256) : Fin 16640 := ⟨t.val * 256 + r.val, by have := point_lt t; omega⟩

variable (m : (ℓ : Loc nD τ sig) → Buf (Elt Ideal) ℓ) (ρ : Dev nD → PrngReg)

/-- The rows the first point reads, and the rows the others read. -/
theorem first_rows (c : Dev nD) (t : Fin cfg0.N) (ht : t.val = 0) (r : Fin 256) (k : Fin 4096) :
    (iblk m c 0 t : FVec Ideal S256x4096 .f32) (ix2 r k)
      = joined (m ((c : Thread nD τ).loc main_arg0)) (m ((c : Thread nD τ).loc main_arg1)) (ix2 (row t r) k) := by
  refine Eq.trans ?_ (joined_ctx _ _ (row t r) (by have := r.isLt; show t.val * 256 + r.val < 256; omega) k).symm
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = t.val * 256 + r.val; rw [(index0 t).1]; omega
  | ⟨1, _⟩ => show win0_0.index t 1 * 4096 + 1 * k.val = k.val; rw [(index0 t).2]; omega

theorem later_rows (c : Dev nD) (t : Fin cfg0.N) (ht : ¬t.val = 0) (r : Fin 256) (k : Fin 4096) :
    (iblk m c 1 t : FVec Ideal S256x4096 .f32) (ix2 r k)
      = joined (m ((c : Thread nD τ).loc main_arg0)) (m ((c : Thread nD τ).loc main_arg1)) (ix2 (row t r) k) := by
  refine Eq.trans ?_ (joined_latent _ _ (row t r) (by show ¬t.val * 256 + r.val < 256; omega) k).symm
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = t.val * 256 + r.val - 256; rw [(index1 t).1]; omega
  | ⟨1, _⟩ => show win0_1.index t 1 * 4096 + 1 * k.val = k.val; rw [(index1 t).2]; omega

/-- The host lays the gain out as one row, and each of the modulation's rows as a row of its own. -/
theorem gain_entry (c : Dev nD) :
    V m c main_v1 = shapeCast S1x4096 (m ((c : Thread nD τ).loc main_arg2)) shapeCasts_S4096_S1x4096 := by
  unfold V
  after_results <;> rfl
theorem mod_entry (c : Dev nD) :
    V m c main_v0 = shapeCast S8x1x12288 (m ((c : Thread nD τ).loc main_arg3)) shapeCasts_S8x12288_S8x1x12288 := by
  unfold V
  after_results <;> rfl

theorem gain_row (g : FVec Ideal S4096 .f32) (l : Fin 4096) :
    shapeCast S1x4096 g shapeCasts_S4096_S1x4096 (ix2 (0 : Fin 1) l) = g (ix1 l) := by
  pointwise
theorem mod_rows (md : FVec Ideal S8x12288 .f32) (s : Fin 8) (l : Fin 12288) :
    shapeCast S8x1x12288 md shapeCasts_S8x12288_S8x1x12288 (ix3 s (0 : Fin 1) l) = md (ix2 s l) := by
  pointwise

theorem gain_apply (c : Dev nD) (t : Fin cfg0.N) (l : Fin 4096) :
    (iblk m c 2 t : FVec Ideal S1x4096 .f32) (ix2 (0 : Fin 1) l) = m ((c : Thread nD τ).loc main_arg2) (ix1 l) := by
  have e : (iblk m c 2 t : FVec Ideal S1x4096 .f32) (ix2 (0 : Fin 1) l) = (V m c main_v1 : FVec Ideal S1x4096 .f32) (ix2 (0 : Fin 1) l) := by
    unfold iblk
    rw [View.read_apply]
    show V m c main_v1 _ = V m c main_v1 _
    congr 1
    funext a
    apply Fin.ext
    match a with
    | ⟨0, _⟩ => show win0_2.index t 0 * 1 + 1 * 0 = 0; rw [(index2 t).1]
    | ⟨1, _⟩ => show win0_2.index t 1 * 4096 + 1 * l.val = l.val; rw [(index2 t).2]; omega
  rw [e, gain_entry]
  exact gain_row _ _

theorem mod_apply (c : Dev nD) (t : Fin cfg0.N) (r : Fin 256) (l : Fin 12288) :
    (iblk m c 3 t : FVec Ideal S1x1x12288 .f32) (ix3 (0 : Fin 1) (0 : Fin 1) l)
      = m ((c : Thread nD τ).loc main_arg3) (ix2 (side (row t r).val) l) := by
  have hs : (side (row t r).val).val = if t.val = 0 then 1 else 0 := by
    have := r.isLt
    unfold side
    by_cases ht : t.val = 0
    · rw [if_pos ht, if_pos (show t.val * 256 + r.val < 256 by omega)]; rfl
    · rw [if_neg ht, if_neg (show ¬t.val * 256 + r.val < 256 by omega)]; rfl
  have e : (iblk m c 3 t : FVec Ideal S1x1x12288 .f32) (ix3 (0 : Fin 1) (0 : Fin 1) l)
      = (V m c main_v0 : FVec Ideal S8x1x12288 .f32) (ix3 (side (row t r).val) (0 : Fin 1) l) := by
    unfold iblk
    rw [View.read_apply]
    show V m c main_v0 _ = V m c main_v0 _
    congr 1
    funext a
    apply Fin.ext
    match a with
    | ⟨0, _⟩ => show win0_3.index t 0 * 1 + 1 * 0 = (side (row t r).val).val; rw [(index3 t).1, hs]; omega
    | ⟨1, _⟩ => show win0_3.index t 1 * 1 + 1 * 0 = 0; rw [(index3 t).2.1]
    | ⟨2, _⟩ => show win0_3.index t 2 * 12288 + 1 * l.val = l.val; rw [(index3 t).2.2]; omega
  rw [e, mod_entry]
  exact mod_rows _ _ _

/-- The whole arrays of device `c`'s arguments: the norm, and the residual stream. -/
abbrev result (c : Dev nD) : Buf (Elt Ideal) ((c : Thread nD τ).loc main_v2_0) :=
  norm (m ((c : Thread nD τ).loc main_arg0)) (m ((c : Thread nD τ).loc main_arg1)) (m ((c : Thread nD τ).loc main_arg2))
    (m ((c : Thread nD τ).loc main_arg3))
abbrev stream (c : Dev nD) : Buf (Elt Ideal) ((c : Thread nD τ).loc main_v2_1) :=
  joined (m ((c : Thread nD τ).loc main_arg0)) (m ((c : Thread nD τ).loc main_arg1))

/-- A point's block of the norm, of rows that are the residual stream's, is the whole norm's. -/
theorem block_apply (c : Dev nD) (t : Fin cfg0.N) (x : FVec Ideal S256x4096 .f32)
    (hx : ∀ (r : Fin 256) (k : Fin 4096), x (ix2 r k)
      = joined (m ((c : Thread nD τ).loc main_arg0)) (m ((c : Thread nD τ).loc main_arg1)) (ix2 (row t r) k)) (r : Fin 256) (l : Fin 4096) :
    block x (iblk m c 2 t) (iblk m c 3 t) (ix2 r l) = norm (m ((c : Thread nD τ).loc main_arg0)) (m ((c : Thread nD τ).loc main_arg1))
      (m ((c : Thread nD τ).loc main_arg2)) (m ((c : Thread nD τ).loc main_arg3)) (ix2 (row t r) l) :=
  congrArg₂ (· + ·) (congrArg₂ (· * ·) (congrArg₂ (· * ·) (hx r l) (congrArg Ideal.rsqrt (congrArg (· + _)
    (congrArg (Ideal.div · _) (Finset.sum_congr rfl fun k _ => congrArg₂ (· * ·) (hx r k) (hx r k))))))
    (congrArg₂ (· * ·) (gain_apply m c t l) (congrArg (_ + ·) (mod_apply m c t r _)))) (mod_apply m c t r _)

/-- Where the two output windows take a point's block. -/
theorem emb4 (t : Fin cfg0.N) (r : Fin 256) (l : Fin 4096) : (win0_4.rect t).emb (ix2 r l) = ix2 (row t r) l := by
  funext a
  apply Fin.ext
  match a with
  | ⟨0, _⟩ => show win0_4.index t 0 * 256 + 1 * r.val = t.val * 256 + r.val; rw [(index4 t).1]; omega
  | ⟨1, _⟩ => show win0_4.index t 1 * 4096 + 1 * l.val = l.val; rw [(index4 t).2]; omega
theorem emb5 (t : Fin cfg0.N) (r : Fin 256) (l : Fin 4096) : (win0_5.rect t).emb (ix2 r l) = ix2 (row t r) l := by
  funext a
  apply Fin.ext
  match a with
  | ⟨0, _⟩ => show win0_5.index t 0 * 256 + 1 * r.val = t.val * 256 + r.val; rw [(index5 t).1]; omega
  | ⟨1, _⟩ => show win0_5.index t 1 * 4096 + 1 * l.val = l.val; rw [(index5 t).2]; omega

/-- Each point writes back its block of the whole norm, and of the residual stream. -/
theorem flushed4_eq (c : Dev nD) (t : Fin cfg0.N) :
    (dats m 0 c).flushed 4 t = ((cfg0.win 4).blk t).view.read (Elt Ideal) (result m c) := by
  have hlt := point_lt t
  by_cases ht : t.val = 0
  · rw [Cert.FirstIdeal.Value.flushed4_A m c t (by omega) (by omega), norm_first]
    funext y
    obtain ⟨r, l, rfl⟩ : ∃ (r : Fin 256) (l : Fin 4096), y = ix2 r l := ⟨y 0, y 1, funext fun a => by fin_cases a <;> rfl⟩
    rw [View.read_apply]
    exact (block_apply m c t _ (first_rows m c t ht) r l).trans (congrArg (result m c) (emb4 t r l)).symm
  · rw [Cert.FirstIdeal.Value.flushed4_B m c t (by omega) (by omega), norm_later]
    funext y
    obtain ⟨r, l, rfl⟩ : ∃ (r : Fin 256) (l : Fin 4096), y = ix2 r l := ⟨y 0, y 1, funext fun a => by fin_cases a <;> rfl⟩
    rw [View.read_apply]
    exact (block_apply m c t _ (later_rows m c t ht) r l).trans (congrArg (result m c) (emb4 t r l)).symm

theorem flushed5_eq (c : Dev nD) (t : Fin cfg0.N) :
    (dats m 0 c).flushed 5 t = ((cfg0.win 5).blk t).view.read (Elt Ideal) (stream m c) := by
  have hlt := point_lt t
  by_cases ht : t.val = 0
  · rw [Cert.FirstIdeal.Value.flushed5_A m c t (by omega) (by omega), copy_first]
    funext y
    obtain ⟨r, l, rfl⟩ : ∃ (r : Fin 256) (l : Fin 4096), y = ix2 r l := ⟨y 0, y 1, funext fun a => by fin_cases a <;> rfl⟩
    rw [View.read_apply]
    exact (first_rows m c t ht r l).trans (congrArg (stream m c) (emb5 t r l)).symm
  · rw [Cert.FirstIdeal.Value.flushed5_B m c t (by omega) (by omega), copy_later]
    funext y
    obtain ⟨r, l, rfl⟩ : ∃ (r : Fin 256) (l : Fin 4096), y = ix2 r l := ⟨y 0, y 1, funext fun a => by fin_cases a <;> rfl⟩
    rw [View.read_apply]
    exact (later_rows m c t ht r l).trans (congrArg (stream m c) (emb5 t r l)).symm

/-- The blocks tile the results. -/
theorem cover4 (i : S16640x4096.Idx) :
    ∃ t : Fin cfg0.N, (cfg0.win 4).flush t = true ∧ i ∈ ((cfg0.win 4).blk t).view.set := by
  have h0 : (i 0 : Nat) < 16640 := (i 0).isLt
  have h1 : (i 1 : Nat) < 4096 := (i 1).isLt
  have hN : cfg0.N = 65 := N_0
  refine ⟨⟨(i 0 : Nat) / 256, by omega⟩, flush0_4 _, ?_⟩
  generalize ht : (⟨(i 0 : Nat) / 256, _⟩ : Fin cfg0.N) = t
  have hv : t.val = (i 0 : Nat) / 256 := by rw [← ht]
  show i ∈ ((View.whole main_v2_0).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256
              rw [(index4 t).1]; omega
  | ⟨1, _⟩ => show win0_4.index t 1 * 4096 ≤ (i 1 : Nat) ∧ (i 1 : Nat) < win0_4.index t 1 * 4096 + 4096
              rw [(index4 t).2]; omega
theorem cover5 (i : S16640x4096.Idx) :
    ∃ t : Fin cfg0.N, (cfg0.win 5).flush t = true ∧ i ∈ ((cfg0.win 5).blk t).view.set := by
  have h0 : (i 0 : Nat) < 16640 := (i 0).isLt
  have h1 : (i 1 : Nat) < 4096 := (i 1).isLt
  have hN : cfg0.N = 65 := N_0
  refine ⟨⟨(i 0 : Nat) / 256, by omega⟩, flush0_5 _, ?_⟩
  generalize ht : (⟨(i 0 : Nat) / 256, _⟩ : Fin cfg0.N) = t
  have hv : t.val = (i 0 : Nat) / 256 := by rw [← ht]
  show i ∈ ((View.whole main_v2_1).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256
              rw [(index5 t).1]; omega
  | ⟨1, _⟩ => show win0_5.index t 1 * 4096 ≤ (i 1 : Nat) ∧ (i 1 : Nat) < win0_5.index t 1 * 4096 + 4096
              rw [(index5 t).2]; omega

theorem final_norm (c : Dev nD) : (dats m 0 c).arrAt 4 cfg0.N = result m c :=
  (dats m 0 c).arrAt_eq_of_cover 4 (result m c) (fun t _ => flushed4_eq m c t) cover4
theorem final_stream (c : Dev nD) : (dats m 0 c).arrAt 5 cfg0.N = stream m c :=
  (dats m 0 c).arrAt_eq_of_cover 5 (stream m c) (fun t _ => flushed5_eq m c t) cover5

end Cert.FirstIdeal.FirstNorm

namespace Cert.FirstReferenceIdeal.FirstNorm

open Cert.FirstReferenceIdeal Cert.FirstReferenceIdeal.Gen Cert.FirstIdeal.FirstNorm

/-- The reference's residual stream is the joined rows. -/
theorem composed_stream (ctx : FVec Ideal S256x4096 .f32) (x : FVec Ideal S16384x4096 .f32) :
    concatenate S16640x4096 0 [⟨S256x4096, ctx⟩, ⟨S16384x4096, x⟩] concatenates_S256x4096_S16384x4096_S16640x4096_d0 = joined ctx x := by
  funext j
  idx_vars j
  pointwise
  by_cases h : j0.val < 256
  · exact (dif_pos h).trans (joined_ctx ctx x j0 h j1).symm
  · exact (dif_neg h).trans (joined_latent ctx x j0 h j1).symm

/-- The reference's composed term is the norm. -/
theorem composed (ctx : FVec Ideal S256x4096 .f32) (x : FVec Ideal S16384x4096 .f32) (g : FVec Ideal S4096 .f32) (md : FVec Ideal S8x12288 .f32) :
    truncf .bf16 (concatenate S16640x4096 0 [⟨S256x4096, (addf (mulf (mulf (mulf ctx (broadcastInDim S256x4096 ![0, 1] bcast_S256x1_S256x4096_0_1 (Host.rsqrt (addf (Host.divf (broadcastInDim S256x1 ![0] bcast_S256_S256x1_0 (Host.reduceAdd (mulf ctx ctx) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 (broadcastInDim S1x4096 ![1] bcast_S4096_S1x4096_1 g))) (broadcastInDim S256x4096 ![0, 1] bcast_S1x4096_S256x4096_0_1 (broadcastInDim S1x4096 ![1] bcast_S4096_S1x4096_1 (addf (broadcastInDim S4096 ![] bcast_S_S4096 (constant S_ .f32 0x3F800000#32)) (extractStridedSlice S4096 ![4096] (shapeCast _ (extractStridedSlice S1x12288 ![1, 0] md slices_S8x12288_S1x12288_1_0) shapeCasts_S1x12288_S12288) slices_S12288_S4096_4096))))) (broadcastInDim S256x4096 ![0, 1] bcast_S1x4096_S256x4096_0_1 (broadcastInDim S1x4096 ![1] bcast_S4096_S1x4096_1 (extractStridedSlice S4096 ![0] (shapeCast _ (extractStridedSlice S1x12288 ![1, 0] md slices_S8x12288_S1x12288_1_0) shapeCasts_S1x12288_S12288) slices_S12288_S4096_0))))⟩, ⟨S16384x4096, (addf (mulf (mulf (mulf x (broadcastInDim S16384x4096 ![0, 1] bcast_S16384x1_S16384x4096_0_1 (Host.rsqrt (addf (Host.divf (broadcastInDim S16384x1 ![0] bcast_S16384_S16384x1_0 (Host.reduceAdd (mulf x x) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))) (broadcastInDim S16384x4096 ![0, 1] bcast_S1x4096_S16384x4096_0_1 (broadcastInDim S1x4096 ![1] bcast_S4096_S1x4096_1 (addf (broadcastInDim S4096 ![] bcast_S_S4096 (constant S_ .f32 0x3F800000#32)) (extractStridedSlice S4096 ![4096] (shapeCast _ (extractStridedSlice S1x12288 ![0, 0] md slices_S8x12288_S1x12288_0_0) shapeCasts_S1x12288_S12288) slices_S12288_S4096_4096))))) (broadcastInDim S16384x4096 ![0, 1] bcast_S1x4096_S16384x4096_0_1 (broadcastInDim S1x4096 ![1] bcast_S4096_S1x4096_1 (extractStridedSlice S4096 ![0] (shapeCast _ (extractStridedSlice S1x12288 ![0, 0] md slices_S8x12288_S1x12288_0_0) shapeCasts_S1x12288_S12288) slices_S12288_S4096_0))))⟩] concatenates_S256x4096_S16384x4096_S16640x4096_d0) bitsLt_bf16_f32
      = norm ctx x g md := by
  funext j
  idx_vars j
  pointwise [Cert.FirstIdeal.FirstNorm.norm]
  by_cases h : j0.val < 256
  · simp only [joined_ctx ctx x j0 h, show side j0.val = 1 from if_pos h]
    exact (dif_pos h).trans (congrArg (· + _) (mul_assoc _ _ _))
  · simp only [joined_latent ctx x j0 h, show side j0.val = 0 from if_neg h]
    exact (dif_neg h).trans (congrArg (· + _) (mul_assoc _ _ _))

end Cert.FirstReferenceIdeal.FirstNorm

namespace Cert.Proof.FirstClaims

theorem algebraic : Cert.algebraic_FirstIdeal_FirstReferenceIdeal := by
  intro m g m' g' _ hargs
  refine ⟨fun c => Cert.FirstIdeal.FirstNorm.result m c, fun c => Cert.FirstIdeal.FirstNorm.stream m c, ?_, ?_⟩
  · exact (θ_run _ _ _).mono (fun r h c => ⟨(h c).1.trans (Cert.FirstIdeal.FirstNorm.final_norm m c),
      (h c).2.1.trans (Cert.FirstIdeal.FirstNorm.final_stream m c), (h c).2.2⟩) (Cert.FirstIdeal.Value.run_blocks m g)
  · refine (θ_run _ _ _).mono (fun r h c => ⟨(h c).1.trans ?_, (h c).2.1.trans ?_, (h c).2.2⟩) (Cert.FirstReferenceIdeal.Value.run m' g')
    · rw [(hargs c).1, (hargs c).2.1, (hargs c).2.2.1, (hargs c).2.2.2]
      exact Cert.FirstReferenceIdeal.FirstNorm.composed _ _ _ _
    · rw [(hargs c).1, (hargs c).2.1]
      exact Cert.FirstReferenceIdeal.FirstNorm.composed_stream _ _

end Cert.Proof.FirstClaims

end
-- ==== Proof.lean ====
/- The certificate's claims, put together: the frames are the generated ones, or a host run read at its arguments; the named
   constants are checked against their words; the value claims are proved in the modules beside this file. -/
module

public import proofs.«01_k».proof.Defs
public import proofs.«01_k».proof.Proof.Gen.Att.Frame
public import proofs.«01_k».proof.Proof.Gen.AttIdeal.Frame
public import proofs.«01_k».proof.Proof.Gen.AttReferenceIdeal.Run
public import proofs.«01_k».proof.Proof.Gen.AttReferenceIdeal.Read
public import proofs.«01_k».proof.Proof.InProj
public import proofs.«01_k».proof.Proof.OutProj
public import proofs.«01_k».proof.Proof.Final
public import proofs.«01_k».proof.Proof.Attention
public import proofs.«01_k».proof.Proof.Ada
public import proofs.«01_k».proof.Proof.Norm
public import proofs.«01_k».proof.Proof.ConvReference
public import proofs.«01_k».proof.Proof.Gen.Conv.Frame
public import proofs.«01_k».proof.Proof.Gen.ConvIdeal.Frame
public import proofs.«01_k».proof.Proof.First
public import Idealize.ShloMosaic.Adequacy
public import Idealize.ShloMosaic.Init

@[expose] public section

noncomputable section

namespace Cert.Proof

open Idealize.ShloMosaic Idealize.SL.Sem

theorem frame_Att : Cert.quiescent_Att := fun m ρ _ => Cert.Att.Gen.frame m ρ
theorem frame_AttIdeal : Cert.quiescent_AttIdeal := fun m ρ _ => Cert.AttIdeal.Gen.frame m ρ
theorem frame_InProj : Cert.quiescent_InProj := fun m ρ _ => Cert.InProj.Gen.frame m ρ
theorem frame_InProjIdeal : Cert.quiescent_InProjIdeal := fun m ρ _ => Cert.InProjIdeal.Gen.frame m ρ
theorem frame_OutProj : Cert.quiescent_OutProj := fun m ρ _ => Cert.OutProj.Gen.frame m ρ
theorem frame_OutProjIdeal : Cert.quiescent_OutProjIdeal := fun m ρ _ => Cert.OutProjIdeal.Gen.frame m ρ
theorem frame_Final : Cert.quiescent_Final := fun m ρ _ => Cert.Final.Gen.frame m ρ
theorem frame_FinalIdeal : Cert.quiescent_FinalIdeal := fun m ρ _ => Cert.FinalIdeal.Gen.frame m ρ
theorem frame_Ada : Cert.quiescent_Ada := fun m ρ _ => Cert.Ada.Gen.frame m ρ
theorem frame_AdaIdeal : Cert.quiescent_AdaIdeal := fun m ρ _ => Cert.AdaIdeal.Gen.frame m ρ
theorem frame_Norm : Cert.quiescent_Norm := fun m ρ _ => Cert.Norm.Gen.frame m ρ
theorem frame_NormIdeal : Cert.quiescent_NormIdeal := fun m ρ _ => Cert.NormIdeal.Gen.frame m ρ
theorem frame_Conv : Cert.quiescent_Conv := fun m ρ _ => Cert.Conv.Gen.frame m ρ
theorem frame_ConvIdeal : Cert.quiescent_ConvIdeal := fun m ρ _ => Cert.ConvIdeal.Gen.frame m ρ
theorem frame_First : Cert.quiescent_First := fun m ρ _ => Cert.First.Gen.frame m ρ
theorem frame_FirstIdeal : Cert.quiescent_FirstIdeal := fun m ρ _ => Cert.FirstIdeal.Gen.frame m ρ

/-! A host program declares no semaphore, and its run leaves the arguments. -/

theorem frame_AttReferenceIdeal : Cert.quiescent_AttReferenceIdeal := fun m ρ _ =>
  (θ_run _ _ _).mono (fun r h => ⟨fun c => (h c).2, sem_eq_zero_of_no_sems (by decide) r.2⟩)
    (Cert.AttReferenceIdeal.Value.run (F := Ideal) m ρ)
theorem frame_InReferenceIdeal : Cert.quiescent_InReferenceIdeal := fun m ρ _ =>
  (θ_run _ _ _).mono (fun r h => ⟨fun c => (h c).2, sem_eq_zero_of_no_sems (by decide) r.2⟩)
    (Cert.InReferenceIdeal.Value.run (F := Ideal) m ρ)
theorem frame_OutReferenceIdeal : Cert.quiescent_OutReferenceIdeal := fun m ρ _ =>
  (θ_run _ _ _).mono (fun r h => ⟨fun c => (h c).2, sem_eq_zero_of_no_sems (by decide) r.2⟩)
    (Cert.OutReferenceIdeal.Value.run (F := Ideal) m ρ)
theorem frame_FinalReferenceIdeal : Cert.quiescent_FinalReferenceIdeal := fun m ρ _ =>
  (θ_run _ _ _).mono (fun r h => ⟨fun c => (h c).2, sem_eq_zero_of_no_sems (by decide) r.2⟩)
    (Cert.FinalReferenceIdeal.Value.run (F := Ideal) m ρ)
theorem frame_AdaReferenceIdeal : Cert.quiescent_AdaReferenceIdeal := fun m ρ _ =>
  (θ_run _ _ _).mono (fun r h => ⟨fun c => (h c).2, sem_eq_zero_of_no_sems (by decide) r.2⟩)
    (Cert.AdaReferenceIdeal.Value.run (F := Ideal) m ρ)
theorem frame_NormReferenceIdeal : Cert.quiescent_NormReferenceIdeal := fun m ρ _ =>
  (θ_run _ _ _).mono (fun r h => ⟨fun c => (h c).2, sem_eq_zero_of_no_sems (by decide) r.2⟩)
    (Cert.NormReferenceIdeal.Value.run (F := Ideal) m ρ)
theorem frame_ConvReferenceIdeal : Cert.quiescent_ConvReferenceIdeal := fun m ρ _ =>
  (θ_run _ _ _).mono (fun r h => ⟨fun c => (h c).2, sem_eq_zero_of_no_sems (by decide) r.2⟩)
    (Cert.ConvReferenceIdeal.Value.run (F := Ideal) m ρ)
theorem frame_FirstReferenceIdeal : Cert.quiescent_FirstReferenceIdeal := fun m ρ _ =>
  (θ_run _ _ _).mono (fun r h => ⟨fun c => (h c).2.2, sem_eq_zero_of_no_sems (by decide) r.2⟩)
    (Cert.FirstReferenceIdeal.Value.run (F := Ideal) m ρ)

/-- The named constants are the ones the kernel's words round. -/
theorem preserves_Att : Cert.preserves_Att_AttIdeal :=
  ⟨IdealRules.named_const.statement Cert.AttIdeal.κ "mask" .f32 0xF149F2CA#32 ⊥ rfl,
    IdealRules.named_const.statement Cert.AttIdeal.κ "log2_e" .f32 0x3FB8AA3B#32 (((Real.log 2)⁻¹ : ℝ) : EReal) rfl,
    IdealRules.named_const.statement Cert.AttIdeal.κ "scale_log2_e" .f32 0x3E0293EE#32 (((Real.sqrt 128)⁻¹ * (Real.log 2)⁻¹ : ℝ) : EReal) rfl,
    IdealRules.named_const.statement Cert.AttIdeal.κ "minus_log2_e" .f32 0xBFB8AA3B#32 ((-((Real.log 2)⁻¹) : ℝ) : EReal) rfl⟩

theorem preserves_Ada : Cert.preserves_Ada_AdaIdeal :=
  IdealRules.named_const.statement Cert.AdaIdeal.κ "minus_log2_e" .f32 0xBFB8AA3B#32 ((-((Real.log 2)⁻¹) : ℝ) : EReal) rfl

theorem preserves_Conv : Cert.preserves_Conv_ConvIdeal :=
  IdealRules.named_const.statement Cert.ConvIdeal.κ "minus_log2_e" .f32 0xBFB8AA3B#32 ((-((Real.log 2)⁻¹) : ℝ) : EReal) rfl

theorem claim : Cert.Claim :=
  ⟨Cert.Att.Gen.facts,
    Cert.AttIdeal.Gen.facts,
    Cert.AttReferenceIdeal.Gen.facts,
    Cert.InProj.Gen.facts,
    Cert.InProjIdeal.Gen.facts,
    Cert.InReferenceIdeal.Gen.facts,
    Cert.OutProj.Gen.facts,
    Cert.OutProjIdeal.Gen.facts,
    Cert.OutReferenceIdeal.Gen.facts,
    Cert.Final.Gen.facts,
    Cert.FinalIdeal.Gen.facts,
    Cert.FinalReferenceIdeal.Gen.facts,
    Cert.Ada.Gen.facts,
    Cert.AdaIdeal.Gen.facts,
    Cert.AdaReferenceIdeal.Gen.facts,
    Cert.Norm.Gen.facts,
    Cert.NormIdeal.Gen.facts,
    Cert.NormReferenceIdeal.Gen.facts,
    Cert.Conv.Gen.facts,
    Cert.ConvIdeal.Gen.facts,
    Cert.ConvReferenceIdeal.Gen.facts,
    Cert.First.Gen.facts,
    Cert.FirstIdeal.Gen.facts,
    Cert.FirstReferenceIdeal.Gen.facts,
    Cert.Pre_finite.Gen.facts,
    frame_Att,
    frame_AttIdeal,
    fun m ρ _ => frame_AttIdeal m ρ trivial,
    frame_AttReferenceIdeal,
    fun m ρ _ => frame_AttReferenceIdeal m ρ trivial,
    frame_InProj,
    frame_InProjIdeal,
    frame_InReferenceIdeal,
    frame_OutProj,
    frame_OutProjIdeal,
    frame_OutReferenceIdeal,
    frame_Final,
    frame_FinalIdeal,
    frame_FinalReferenceIdeal,
    frame_Ada,
    frame_AdaIdeal,
    frame_AdaReferenceIdeal,
    frame_Norm,
    frame_NormIdeal,
    frame_NormReferenceIdeal,
    frame_Conv,
    frame_ConvIdeal,
    frame_ConvReferenceIdeal,
    frame_First,
    frame_FirstIdeal,
    frame_FirstReferenceIdeal,
    preserves_Att,
    AttentionClaims.algebraic,
    trivial,
    InProjClaims.algebraic,
    trivial,
    OutProjClaims.algebraic,
    trivial,
    FinalClaims.algebraic,
    preserves_Ada,
    AdaClaims.algebraic,
    trivial,
    NormClaims.algebraic,
    preserves_Conv,
    ConvClaims.algebraic,
    trivial,
    FirstClaims.algebraic⟩

end Cert.Proof

end
